-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_finite_qk [hPre_finite_qk : Cert.Pre_finite_qk.Facts] (m : (ℓ : Loc Cert.StickIdeal.nD Cert.StickIdeal.τ Cert.StickIdeal.sig) → Buf (Elt Ideal) ℓ) : Prop :=
  ∀ c : Dev Cert.StickIdeal.nD,
    (Cert.Pre_finite_qk.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1)) (m ((c.tc : Thread Cert.StickIdeal.nD Cert.StickIdeal.τ).loc Cert.StickIdeal.main_arg2))) = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_finite_qk [hPre_finite_qk : Cert.Pre_finite_qk.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_finite_qk.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1)) (m ((c.tc : Thread Cert.StickRefIdeal.nD Cert.StickRefIdeal.τ).loc Cert.StickRefIdeal.main_arg2))) = (fun _ => 1#1)

def Pre_AbIn (m : (ℓ : Loc Cert.AbIn.nD Cert.AbIn.τ Cert.AbIn.sig) → Buf (Elt Bits) ℓ) : Prop :=
  True

def Pre_AbInIdeal (m : (ℓ : Loc Cert.AbInIdeal.nD Cert.AbInIdeal.τ Cert.AbInIdeal.sig) → Buf (Elt Ideal) ℓ) : Prop :=
  True

def Pre_AbInRefIdeal (m : (ℓ : Loc Cert.AbInRefIdeal.nD Cert.AbInRefIdeal.τ Cert.AbInRefIdeal.sig) → Buf (Elt Ideal) ℓ) : Prop :=
  True

def Pre_AbOut (m : (ℓ : Loc Cert.AbOut.nD Cert.AbOut.τ Cert.AbOut.sig) → Buf (Elt Bits) ℓ) : Prop :=
  True

def Pre_AbOutIdeal (m : (ℓ : Loc Cert.AbOutIdeal.nD Cert.AbOutIdeal.τ Cert.AbOutIdeal.sig) → Buf (Elt Ideal) ℓ) : Prop :=
  True

def Pre_AbOutRefIdeal (m : (ℓ : Loc Cert.AbOutRefIdeal.nD Cert.AbOutRefIdeal.τ Cert.AbOutRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1)
      ∧ r.2.mem ((c.tc : Thread Cert.Stick.nD Cert.Stick.τ).loc Cert.Stick.main_arg2) = m ((c.tc : Thread Cert.Stick.nD Cert.Stick.τ).loc Cert.Stick.main_arg2))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ r.2.sem = fun _ => 0)

def quiescent_StickIdeal_pre_finite_qk [hStickIdeal : Cert.StickIdeal.Facts] [hPre_finite_qk : Cert.Pre_finite_qk.Facts] : Prop :=
  ∀ (m : (ℓ : Loc Cert.StickIdeal.nD Cert.StickIdeal.τ Cert.StickIdeal.sig) → Buf (Elt Ideal) ℓ) (g : Dev Cert.StickIdeal.nD → PrngReg), Pre_StickIdeal_finite_qk m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
      ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2))
      ∧ r.2.sem = fun _ => 0)

def quiescent_StickRefIdeal_pre_finite_qk [hStickRefIdeal : Cert.StickRefIdeal.Facts] [hPre_finite_qk : Cert.Pre_finite_qk.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_finite_qk m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1)
      ∧ r.2.mem ((c.tc : Thread Cert.StickRefIdeal.nD Cert.StickRefIdeal.τ).loc Cert.StickRefIdeal.main_arg2) = m ((c.tc : Thread Cert.StickRefIdeal.nD Cert.StickRefIdeal.τ).loc Cert.StickRefIdeal.main_arg2))
      ∧ r.2.sem = fun _ => 0)

def quiescent_AbIn [hAbIn : Cert.AbIn.Facts] : Prop :=
  ∀ (m : (ℓ : Loc Cert.AbIn.nD Cert.AbIn.τ Cert.AbIn.sig) → Buf (Elt Bits) ℓ) (g : Dev Cert.AbIn.nD → PrngReg), Pre_AbIn m →
    θ_run (Cert.AbIn.defs (F := Bits)) (onTc (τ := Cert.AbIn.τ) (Cert.AbIn.main (F := Bits))) ⟨m, fun _ => 0, g⟩ (fun r => (∀ c : Dev Cert.AbIn.nD,
      r.2.mem ((c.tc : Thread Cert.AbIn.nD Cert.AbIn.τ).loc Cert.AbIn.main_arg0) = m ((c.tc : Thread Cert.AbIn.nD Cert.AbIn.τ).loc Cert.AbIn.main_arg0)
      ∧ r.2.mem ((c.tc : Thread Cert.AbIn.nD Cert.AbIn.τ).loc Cert.AbIn.main_arg1) = m ((c.tc : Thread Cert.AbIn.nD Cert.AbIn.τ).loc Cert.AbIn.main_arg1)
      ∧ r.2.mem ((c.tc : Thread Cert.AbIn.nD Cert.AbIn.τ).loc Cert.AbIn.main_arg2) = m ((c.tc : Thread Cert.AbIn.nD Cert.AbIn.τ).loc Cert.AbIn.main_arg2)
      ∧ r.2.mem ((c.tc : Thread Cert.AbIn.nD Cert.AbIn.τ).loc Cert.AbIn.main_arg3) = m ((c.tc : Thread Cert.AbIn.nD Cert.AbIn.τ).loc Cert.AbIn.main_arg3)
      ∧ r.2.mem ((c.tc : Thread Cert.AbIn.nD Cert.AbIn.τ).loc Cert.AbIn.main_arg4) = m ((c.tc : Thread Cert.AbIn.nD Cert.AbIn.τ).loc Cert.AbIn.main_arg4))
      ∧ r.2.sem = fun _ => 0)

def quiescent_AbInIdeal [hAbInIdeal : Cert.AbInIdeal.Facts] : Prop :=
  ∀ (m : (ℓ : Loc Cert.AbInIdeal.nD Cert.AbInIdeal.τ Cert.AbInIdeal.sig) → Buf (Elt Ideal) ℓ) (g : Dev Cert.AbInIdeal.nD → PrngReg), Pre_AbInIdeal m →
    θ_run (Cert.AbInIdeal.defs (F := Ideal)) (onTc (τ := Cert.AbInIdeal.τ) (Cert.AbInIdeal.main (F := Ideal))) ⟨m, fun _ => 0, g⟩ (fun r => (∀ c : Dev Cert.AbInIdeal.nD,
      r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
      ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
      ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
      ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3)
      ∧ r.2.mem ((c.tc : Thread Cert.AbInIdeal.nD Cert.AbInIdeal.τ).loc Cert.AbInIdeal.main_arg4) = m ((c.tc : Thread Cert.AbInIdeal.nD Cert.AbInIdeal.τ).loc Cert.AbInIdeal.main_arg4))
      ∧ r.2.sem = fun _ => 0)

def quiescent_AbInRefIdeal [hAbInRefIdeal : Cert.AbInRefIdeal.Facts] : Prop :=
  ∀ (m : (ℓ : Loc Cert.AbInRefIdeal.nD Cert.AbInRefIdeal.τ Cert.AbInRefIdeal.sig) → Buf (Elt Ideal) ℓ) (g : Dev Cert.AbInRefIdeal.nD → PrngReg), Pre_AbInRefIdeal m →
    θ_run (Cert.AbInRefIdeal.defs (F := Ideal)) (onTc (τ := Cert.AbInRefIdeal.τ) (Cert.AbInRefIdeal.main (F := Ideal))) ⟨m, fun _ => 0, g⟩ (fun r => (∀ c : Dev Cert.AbInRefIdeal.nD,
      r.2.mem ((c.tc : Thread Cert.AbInRefIdeal.nD Cert.AbInRefIdeal.τ).loc Cert.AbInRefIdeal.main_arg0) = m ((c.tc : Thread Cert.AbInRefIdeal.nD Cert.AbInRefIdeal.τ).loc Cert.AbInRefIdeal.main_arg0)
      ∧ r.2.mem ((c.tc : Thread Cert.AbInRefIdeal.nD Cert.AbInRefIdeal.τ).loc Cert.AbInRefIdeal.main_arg1) = m ((c.tc : Thread Cert.AbInRefIdeal.nD Cert.AbInRefIdeal.τ).loc Cert.AbInRefIdeal.main_arg1)
      ∧ r.2.mem ((c.tc : Thread Cert.AbInRefIdeal.nD Cert.AbInRefIdeal.τ).loc Cert.AbInRefIdeal.main_arg2) = m ((c.tc : Thread Cert.AbInRefIdeal.nD Cert.AbInRefIdeal.τ).loc Cert.AbInRefIdeal.main_arg2)
      ∧ r.2.mem ((c.tc : Thread Cert.AbInRefIdeal.nD Cert.AbInRefIdeal.τ).loc Cert.AbInRefIdeal.main_arg3) = m ((c.tc : Thread Cert.AbInRefIdeal.nD Cert.AbInRefIdeal.τ).loc Cert.AbInRefIdeal.main_arg3)
      ∧ r.2.mem ((c.tc : Thread Cert.AbInRefIdeal.nD Cert.AbInRefIdeal.τ).loc Cert.AbInRefIdeal.main_arg4) = m ((c.tc : Thread Cert.AbInRefIdeal.nD Cert.AbInRefIdeal.τ).loc Cert.AbInRefIdeal.main_arg4))
      ∧ r.2.sem = fun _ => 0)

def quiescent_AbOut [hAbOut : Cert.AbOut.Facts] : Prop :=
  ∀ (m : (ℓ : Loc Cert.AbOut.nD Cert.AbOut.τ Cert.AbOut.sig) → Buf (Elt Bits) ℓ) (g : Dev Cert.AbOut.nD → PrngReg), Pre_AbOut m →
    θ_run (Cert.AbOut.defs (F := Bits)) (onTc (τ := Cert.AbOut.τ) (Cert.AbOut.main (F := Bits))) ⟨m, fun _ => 0, g⟩ (fun r => (∀ c : Dev Cert.AbOut.nD,
      r.2.mem ((c.tc : Thread Cert.AbOut.nD Cert.AbOut.τ).loc Cert.AbOut.main_arg0) = m ((c.tc : Thread Cert.AbOut.nD Cert.AbOut.τ).loc Cert.AbOut.main_arg0)
      ∧ r.2.mem ((c.tc : Thread Cert.AbOut.nD Cert.AbOut.τ).loc Cert.AbOut.main_arg1) = m ((c.tc : Thread Cert.AbOut.nD Cert.AbOut.τ).loc Cert.AbOut.main_arg1)
      ∧ r.2.mem ((c.tc : Thread Cert.AbOut.nD Cert.AbOut.τ).loc Cert.AbOut.main_arg2) = m ((c.tc : Thread Cert.AbOut.nD Cert.AbOut.τ).loc Cert.AbOut.main_arg2)
      ∧ r.2.mem ((c.tc : Thread Cert.AbOut.nD Cert.AbOut.τ).loc Cert.AbOut.main_arg3) = m ((c.tc : Thread Cert.AbOut.nD Cert.AbOut.τ).loc Cert.AbOut.main_arg3))
      ∧ r.2.sem = fun _ => 0)

def quiescent_AbOutIdeal [hAbOutIdeal : Cert.AbOutIdeal.Facts] : Prop :=
  ∀ (m : (ℓ : Loc Cert.AbOutIdeal.nD Cert.AbOutIdeal.τ Cert.AbOutIdeal.sig) → Buf (Elt Ideal) ℓ) (g : Dev Cert.AbOutIdeal.nD → PrngReg), Pre_AbOutIdeal m →
    θ_run (Cert.AbOutIdeal.defs (F := Ideal)) (onTc (τ := Cert.AbOutIdeal.τ) (Cert.AbOutIdeal.main (F := Ideal))) ⟨m, fun _ => 0, g⟩ (fun r => (∀ c : Dev Cert.AbOutIdeal.nD,
      r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
      ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
      ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
      ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3))
      ∧ r.2.sem = fun _ => 0)

def quiescent_AbOutRefIdeal [hAbOutRefIdeal : Cert.AbOutRefIdeal.Facts] : Prop :=
  ∀ (m : (ℓ : Loc Cert.AbOutRefIdeal.nD Cert.AbOutRefIdeal.τ Cert.AbOutRefIdeal.sig) → Buf (Elt Ideal) ℓ) (g : Dev Cert.AbOutRefIdeal.nD → PrngReg), Pre_AbOutRefIdeal m →
    θ_run (Cert.AbOutRefIdeal.defs (F := Ideal)) (onTc (τ := Cert.AbOutRefIdeal.τ) (Cert.AbOutRefIdeal.main (F := Ideal))) ⟨m, fun _ => 0, g⟩ (fun r => (∀ c : Dev Cert.AbOutRefIdeal.nD,
      r.2.mem ((c.tc : Thread Cert.AbOutRefIdeal.nD Cert.AbOutRefIdeal.τ).loc Cert.AbOutRefIdeal.main_arg0) = m ((c.tc : Thread Cert.AbOutRefIdeal.nD Cert.AbOutRefIdeal.τ).loc Cert.AbOutRefIdeal.main_arg0)
      ∧ r.2.mem ((c.tc : Thread Cert.AbOutRefIdeal.nD Cert.AbOutRefIdeal.τ).loc Cert.AbOutRefIdeal.main_arg1) = m ((c.tc : Thread Cert.AbOutRefIdeal.nD Cert.AbOutRefIdeal.τ).loc Cert.AbOutRefIdeal.main_arg1)
      ∧ r.2.mem ((c.tc : Thread Cert.AbOutRefIdeal.nD Cert.AbOutRefIdeal.τ).loc Cert.AbOutRefIdeal.main_arg2) = m ((c.tc : Thread Cert.AbOutRefIdeal.nD Cert.AbOutRefIdeal.τ).loc Cert.AbOutRefIdeal.main_arg2)
      ∧ r.2.mem ((c.tc : Thread Cert.AbOutRefIdeal.nD Cert.AbOutRefIdeal.τ).loc Cert.AbOutRefIdeal.main_arg3) = m ((c.tc : Thread Cert.AbOutRefIdeal.nD Cert.AbOutRefIdeal.τ).loc Cert.AbOutRefIdeal.main_arg3))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3)
      ∧ r.2.mem ((c.tc : Thread Cert.GlaRefIdeal.nD Cert.GlaRefIdeal.τ).loc Cert.GlaRefIdeal.main_arg4) = m ((c.tc : Thread Cert.GlaRefIdeal.nD Cert.GlaRefIdeal.τ).loc Cert.GlaRefIdeal.main_arg4)
      ∧ r.2.mem ((c.tc : Thread Cert.GlaRefIdeal.nD Cert.GlaRefIdeal.τ).loc Cert.GlaRefIdeal.main_arg5) = m ((c.tc : Thread Cert.GlaRefIdeal.nD Cert.GlaRefIdeal.τ).loc Cert.GlaRefIdeal.main_arg5))
      ∧ r.2.sem = fun _ => 0)

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)) →
    ∃ (v0 : (c : Dev Cert.SguIdeal.nD) → Buf (Elt Ideal) ((c.tc : Thread Cert.SguIdeal.nD Cert.SguIdeal.τ).loc Cert.SguIdeal.main_v7)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v7) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v52) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_Stick_StickIdeal : Prop :=
  True

def algebraic_StickIdeal_StickRefIdeal_pre_finite_qk [hStickIdeal : Cert.StickIdeal.Facts] [hStickRefIdeal : Cert.StickRefIdeal.Facts] [hPre_finite_qk : Cert.Pre_finite_qk.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_finite_qk m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)
      ∧ m' ((c.tc : Thread Cert.StickRefIdeal.nD Cert.StickRefIdeal.τ).loc Cert.StickRefIdeal.main_arg2) = m ((c.tc : Thread Cert.StickIdeal.nD Cert.StickIdeal.τ).loc Cert.StickIdeal.main_arg2)) →
    ∃ (v0 : (c : Dev Cert.StickIdeal.nD) → Buf (Elt Ideal) ((c.tc : Thread Cert.StickIdeal.nD Cert.StickIdeal.τ).loc Cert.StickIdeal.main_v0)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v0) = v0 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1)
          ∧ r.2.mem ((c.tc : Thread Cert.StickIdeal.nD Cert.StickIdeal.τ).loc Cert.StickIdeal.main_arg2) = m ((c.tc : Thread Cert.StickIdeal.nD Cert.StickIdeal.τ).loc Cert.StickIdeal.main_arg2))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v28) = v0 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1)
          ∧ r.2.mem ((c.tc : Thread Cert.StickRefIdeal.nD Cert.StickRefIdeal.τ).loc Cert.StickRefIdeal.main_arg2) = m' ((c.tc : Thread Cert.StickRefIdeal.nD Cert.StickRefIdeal.τ).loc Cert.StickRefIdeal.main_arg2))

def preserves_AbIn_AbInIdeal : Prop :=
  True

def algebraic_AbInIdeal_AbInRefIdeal [hAbInIdeal : Cert.AbInIdeal.Facts] [hAbInRefIdeal : Cert.AbInRefIdeal.Facts] : Prop :=
  ∀ (m : (ℓ : Loc Cert.AbInIdeal.nD Cert.AbInIdeal.τ Cert.AbInIdeal.sig) → Buf (Elt Ideal) ℓ) (g : Dev Cert.AbInIdeal.nD → PrngReg)
    (m' : (ℓ : Loc Cert.AbInRefIdeal.nD Cert.AbInRefIdeal.τ Cert.AbInRefIdeal.sig) → Buf (Elt Ideal) ℓ) (g' : Dev Cert.AbInRefIdeal.nD → PrngReg), Pre_AbInIdeal m →
    (∀ c : Dev Cert.AbInIdeal.nD,
      m' ((c.tc : Thread Cert.AbInRefIdeal.nD Cert.AbInRefIdeal.τ).loc Cert.AbInRefIdeal.main_arg0) = m ((c.tc : Thread Cert.AbInIdeal.nD Cert.AbInIdeal.τ).loc Cert.AbInIdeal.main_arg0)
      ∧ m' ((c.tc : Thread Cert.AbInRefIdeal.nD Cert.AbInRefIdeal.τ).loc Cert.AbInRefIdeal.main_arg1) = m ((c.tc : Thread Cert.AbInIdeal.nD Cert.AbInIdeal.τ).loc Cert.AbInIdeal.main_arg1)
      ∧ m' ((c.tc : Thread Cert.AbInRefIdeal.nD Cert.AbInRefIdeal.τ).loc Cert.AbInRefIdeal.main_arg2) = m ((c.tc : Thread Cert.AbInIdeal.nD Cert.AbInIdeal.τ).loc Cert.AbInIdeal.main_arg2)
      ∧ m' ((c.tc : Thread Cert.AbInRefIdeal.nD Cert.AbInRefIdeal.τ).loc Cert.AbInRefIdeal.main_arg3) = m ((c.tc : Thread Cert.AbInIdeal.nD Cert.AbInIdeal.τ).loc Cert.AbInIdeal.main_arg3)
      ∧ m' ((c.tc : Thread Cert.AbInRefIdeal.nD Cert.AbInRefIdeal.τ).loc Cert.AbInRefIdeal.main_arg4) = m ((c.tc : Thread Cert.AbInIdeal.nD Cert.AbInIdeal.τ).loc Cert.AbInIdeal.main_arg4)) →
    ∃ (v0 : (c : Dev Cert.AbInIdeal.nD) → Buf (Elt Ideal) ((c.tc : Thread Cert.AbInIdeal.nD Cert.AbInIdeal.τ).loc Cert.AbInIdeal.main_v9_0)) (v1 : (c : Dev Cert.AbInIdeal.nD) → Buf (Elt Ideal) ((c.tc : Thread Cert.AbInIdeal.nD Cert.AbInIdeal.τ).loc Cert.AbInIdeal.main_v9_1)) (v2 : (c : Dev Cert.AbInIdeal.nD) → Buf (Elt Ideal) ((c.tc : Thread Cert.AbInIdeal.nD Cert.AbInIdeal.τ).loc Cert.AbInIdeal.main_v9_2)) (v3 : (c : Dev Cert.AbInIdeal.nD) → Buf (Elt Ideal) ((c.tc : Thread Cert.AbInIdeal.nD Cert.AbInIdeal.τ).loc Cert.AbInIdeal.main_v9_3)) (v4 : (c : Dev Cert.AbInIdeal.nD) → Buf (Elt Ideal) ((c.tc : Thread Cert.AbInIdeal.nD Cert.AbInIdeal.τ).loc Cert.AbInIdeal.main_v9_4)) (v5 : (c : Dev Cert.AbInIdeal.nD) → Buf (Elt Ideal) ((c.tc : Thread Cert.AbInIdeal.nD Cert.AbInIdeal.τ).loc Cert.AbInIdeal.main_v9_5)) (v6 : (c : Dev Cert.AbInIdeal.nD) → Buf (Elt Ideal) ((c.tc : Thread Cert.AbInIdeal.nD Cert.AbInIdeal.τ).loc Cert.AbInIdeal.main_v9_6)) (v7 : (c : Dev Cert.AbInIdeal.nD) → Buf (Elt Ideal) ((c.tc : Thread Cert.AbInIdeal.nD Cert.AbInIdeal.τ).loc Cert.AbInIdeal.main_v9_7)),
      θ_run (Cert.AbInIdeal.defs (F := Ideal)) (onTc (τ := Cert.AbInIdeal.τ) (Cert.AbInIdeal.main (F := Ideal))) ⟨m, fun _ => 0, g⟩ (fun r => ∀ c : Dev Cert.AbInIdeal.nD,
          r.2.mem ((c.tc : Thread Cert.AbInIdeal.nD Cert.AbInIdeal.τ).loc Cert.AbInIdeal.main_v9_0) = v0 c
          ∧ r.2.mem ((c.tc : Thread Cert.AbInIdeal.nD Cert.AbInIdeal.τ).loc Cert.AbInIdeal.main_v9_1) = v1 c
          ∧ r.2.mem ((c.tc : Thread Cert.AbInIdeal.nD Cert.AbInIdeal.τ).loc Cert.AbInIdeal.main_v9_2) = v2 c
          ∧ r.2.mem ((c.tc : Thread Cert.AbInIdeal.nD Cert.AbInIdeal.τ).loc Cert.AbInIdeal.main_v9_3) = v3 c
          ∧ r.2.mem ((c.tc : Thread Cert.AbInIdeal.nD Cert.AbInIdeal.τ).loc Cert.AbInIdeal.main_v9_4) = v4 c
          ∧ r.2.mem ((c.tc : Thread Cert.AbInIdeal.nD Cert.AbInIdeal.τ).loc Cert.AbInIdeal.main_v9_5) = v5 c
          ∧ r.2.mem ((c.tc : Thread Cert.AbInIdeal.nD Cert.AbInIdeal.τ).loc Cert.AbInIdeal.main_v9_6) = v6 c
          ∧ r.2.mem ((c.tc : Thread Cert.AbInIdeal.nD Cert.AbInIdeal.τ).loc Cert.AbInIdeal.main_v9_7) = v7 c
          ∧ r.2.mem ((c.tc : Thread Cert.AbInIdeal.nD Cert.AbInIdeal.τ).loc Cert.AbInIdeal.main_arg0) = m ((c.tc : Thread Cert.AbInIdeal.nD Cert.AbInIdeal.τ).loc Cert.AbInIdeal.main_arg0)
          ∧ r.2.mem ((c.tc : Thread Cert.AbInIdeal.nD Cert.AbInIdeal.τ).loc Cert.AbInIdeal.main_arg1) = m ((c.tc : Thread Cert.AbInIdeal.nD Cert.AbInIdeal.τ).loc Cert.AbInIdeal.main_arg1)
          ∧ r.2.mem ((c.tc : Thread Cert.AbInIdeal.nD Cert.AbInIdeal.τ).loc Cert.AbInIdeal.main_arg2) = m ((c.tc : Thread Cert.AbInIdeal.nD Cert.AbInIdeal.τ).loc Cert.AbInIdeal.main_arg2)
          ∧ r.2.mem ((c.tc : Thread Cert.AbInIdeal.nD Cert.AbInIdeal.τ).loc Cert.AbInIdeal.main_arg3) = m ((c.tc : Thread Cert.AbInIdeal.nD Cert.AbInIdeal.τ).loc Cert.AbInIdeal.main_arg3)
          ∧ r.2.mem ((c.tc : Thread Cert.AbInIdeal.nD Cert.AbInIdeal.τ).loc Cert.AbInIdeal.main_arg4) = m ((c.tc : Thread Cert.AbInIdeal.nD Cert.AbInIdeal.τ).loc Cert.AbInIdeal.main_arg4))
      ∧ θ_run (Cert.AbInRefIdeal.defs (F := Ideal)) (onTc (τ := Cert.AbInRefIdeal.τ) (Cert.AbInRefIdeal.main (F := Ideal))) ⟨m', fun _ => 0, g'⟩ (fun r => ∀ c : Dev Cert.AbInRefIdeal.nD,
          r.2.mem ((c.tc : Thread Cert.AbInRefIdeal.nD Cert.AbInRefIdeal.τ).loc Cert.AbInRefIdeal.main_v31) = v0 c
          ∧ r.2.mem ((c.tc : Thread Cert.AbInRefIdeal.nD Cert.AbInRefIdeal.τ).loc Cert.AbInRefIdeal.main_v32) = v1 c
          ∧ r.2.mem ((c.tc : Thread Cert.AbInRefIdeal.nD Cert.AbInRefIdeal.τ).loc Cert.AbInRefIdeal.main_v33) = v2 c
          ∧ r.2.mem ((c.tc : Thread Cert.AbInRefIdeal.nD Cert.AbInRefIdeal.τ).loc Cert.AbInRefIdeal.main_v17) = v3 c
          ∧ r.2.mem ((c.tc : Thread Cert.AbInRefIdeal.nD Cert.AbInRefIdeal.τ).loc Cert.AbInRefIdeal.main_v18) = v4 c
          ∧ r.2.mem ((c.tc : Thread Cert.AbInRefIdeal.nD Cert.AbInRefIdeal.τ).loc Cert.AbInRefIdeal.main_v34) = v5 c
          ∧ r.2.mem ((c.tc : Thread Cert.AbInRefIdeal.nD Cert.AbInRefIdeal.τ).loc Cert.AbInRefIdeal.main_v20) = v6 c
          ∧ r.2.mem ((c.tc : Thread Cert.AbInRefIdeal.nD Cert.AbInRefIdeal.τ).loc Cert.AbInRefIdeal.main_v28) = v7 c
          ∧ r.2.mem ((c.tc : Thread Cert.AbInRefIdeal.nD Cert.AbInRefIdeal.τ).loc Cert.AbInRefIdeal.main_arg0) = m' ((c.tc : Thread Cert.AbInRefIdeal.nD Cert.AbInRefIdeal.τ).loc Cert.AbInRefIdeal.main_arg0)
          ∧ r.2.mem ((c.tc : Thread Cert.AbInRefIdeal.nD Cert.AbInRefIdeal.τ).loc Cert.AbInRefIdeal.main_arg1) = m' ((c.tc : Thread Cert.AbInRefIdeal.nD Cert.AbInRefIdeal.τ).loc Cert.AbInRefIdeal.main_arg1)
          ∧ r.2.mem ((c.tc : Thread Cert.AbInRefIdeal.nD Cert.AbInRefIdeal.τ).loc Cert.AbInRefIdeal.main_arg2) = m' ((c.tc : Thread Cert.AbInRefIdeal.nD Cert.AbInRefIdeal.τ).loc Cert.AbInRefIdeal.main_arg2)
          ∧ r.2.mem ((c.tc : Thread Cert.AbInRefIdeal.nD Cert.AbInRefIdeal.τ).loc Cert.AbInRefIdeal.main_arg3) = m' ((c.tc : Thread Cert.AbInRefIdeal.nD Cert.AbInRefIdeal.τ).loc Cert.AbInRefIdeal.main_arg3)
          ∧ r.2.mem ((c.tc : Thread Cert.AbInRefIdeal.nD Cert.AbInRefIdeal.τ).loc Cert.AbInRefIdeal.main_arg4) = m' ((c.tc : Thread Cert.AbInRefIdeal.nD Cert.AbInRefIdeal.τ).loc Cert.AbInRefIdeal.main_arg4))

def preserves_AbOut_AbOutIdeal : Prop :=
  True

def algebraic_AbOutIdeal_AbOutRefIdeal [hAbOutIdeal : Cert.AbOutIdeal.Facts] [hAbOutRefIdeal : Cert.AbOutRefIdeal.Facts] : Prop :=
  ∀ (m : (ℓ : Loc Cert.AbOutIdeal.nD Cert.AbOutIdeal.τ Cert.AbOutIdeal.sig) → Buf (Elt Ideal) ℓ) (g : Dev Cert.AbOutIdeal.nD → PrngReg)
    (m' : (ℓ : Loc Cert.AbOutRefIdeal.nD Cert.AbOutRefIdeal.τ Cert.AbOutRefIdeal.sig) → Buf (Elt Ideal) ℓ) (g' : Dev Cert.AbOutRefIdeal.nD → PrngReg), Pre_AbOutIdeal m →
    (∀ c : Dev Cert.AbOutIdeal.nD,
      m' ((c.tc : Thread Cert.AbOutRefIdeal.nD Cert.AbOutRefIdeal.τ).loc Cert.AbOutRefIdeal.main_arg0) = m ((c.tc : Thread Cert.AbOutIdeal.nD Cert.AbOutIdeal.τ).loc Cert.AbOutIdeal.main_arg0)
      ∧ m' ((c.tc : Thread Cert.AbOutRefIdeal.nD Cert.AbOutRefIdeal.τ).loc Cert.AbOutRefIdeal.main_arg1) = m ((c.tc : Thread Cert.AbOutIdeal.nD Cert.AbOutIdeal.τ).loc Cert.AbOutIdeal.main_arg1)
      ∧ m' ((c.tc : Thread Cert.AbOutRefIdeal.nD Cert.AbOutRefIdeal.τ).loc Cert.AbOutRefIdeal.main_arg2) = m ((c.tc : Thread Cert.AbOutIdeal.nD Cert.AbOutIdeal.τ).loc Cert.AbOutIdeal.main_arg2)
      ∧ m' ((c.tc : Thread Cert.AbOutRefIdeal.nD Cert.AbOutRefIdeal.τ).loc Cert.AbOutRefIdeal.main_arg3) = m ((c.tc : Thread Cert.AbOutIdeal.nD Cert.AbOutIdeal.τ).loc Cert.AbOutIdeal.main_arg3)) →
    ∃ (v0 : (c : Dev Cert.AbOutIdeal.nD) → Buf (Elt Ideal) ((c.tc : Thread Cert.AbOutIdeal.nD Cert.AbOutIdeal.τ).loc Cert.AbOutIdeal.main_v3)),
      θ_run (Cert.AbOutIdeal.defs (F := Ideal)) (onTc (τ := Cert.AbOutIdeal.τ) (Cert.AbOutIdeal.main (F := Ideal))) ⟨m, fun _ => 0, g⟩ (fun r => ∀ c : Dev Cert.AbOutIdeal.nD,
          r.2.mem ((c.tc : Thread Cert.AbOutIdeal.nD Cert.AbOutIdeal.τ).loc Cert.AbOutIdeal.main_v3) = v0 c
          ∧ r.2.mem ((c.tc : Thread Cert.AbOutIdeal.nD Cert.AbOutIdeal.τ).loc Cert.AbOutIdeal.main_arg0) = m ((c.tc : Thread Cert.AbOutIdeal.nD Cert.AbOutIdeal.τ).loc Cert.AbOutIdeal.main_arg0)
          ∧ r.2.mem ((c.tc : Thread Cert.AbOutIdeal.nD Cert.AbOutIdeal.τ).loc Cert.AbOutIdeal.main_arg1) = m ((c.tc : Thread Cert.AbOutIdeal.nD Cert.AbOutIdeal.τ).loc Cert.AbOutIdeal.main_arg1)
          ∧ r.2.mem ((c.tc : Thread Cert.AbOutIdeal.nD Cert.AbOutIdeal.τ).loc Cert.AbOutIdeal.main_arg2) = m ((c.tc : Thread Cert.AbOutIdeal.nD Cert.AbOutIdeal.τ).loc Cert.AbOutIdeal.main_arg2)
          ∧ r.2.mem ((c.tc : Thread Cert.AbOutIdeal.nD Cert.AbOutIdeal.τ).loc Cert.AbOutIdeal.main_arg3) = m ((c.tc : Thread Cert.AbOutIdeal.nD Cert.AbOutIdeal.τ).loc Cert.AbOutIdeal.main_arg3))
      ∧ θ_run (Cert.AbOutRefIdeal.defs (F := Ideal)) (onTc (τ := Cert.AbOutRefIdeal.τ) (Cert.AbOutRefIdeal.main (F := Ideal))) ⟨m', fun _ => 0, g'⟩ (fun r => ∀ c : Dev Cert.AbOutRefIdeal.nD,
          r.2.mem ((c.tc : Thread Cert.AbOutRefIdeal.nD Cert.AbOutRefIdeal.τ).loc Cert.AbOutRefIdeal.main_v4) = v0 c
          ∧ r.2.mem ((c.tc : Thread Cert.AbOutRefIdeal.nD Cert.AbOutRefIdeal.τ).loc Cert.AbOutRefIdeal.main_arg0) = m' ((c.tc : Thread Cert.AbOutRefIdeal.nD Cert.AbOutRefIdeal.τ).loc Cert.AbOutRefIdeal.main_arg0)
          ∧ r.2.mem ((c.tc : Thread Cert.AbOutRefIdeal.nD Cert.AbOutRefIdeal.τ).loc Cert.AbOutRefIdeal.main_arg1) = m' ((c.tc : Thread Cert.AbOutRefIdeal.nD Cert.AbOutRefIdeal.τ).loc Cert.AbOutRefIdeal.main_arg1)
          ∧ r.2.mem ((c.tc : Thread Cert.AbOutRefIdeal.nD Cert.AbOutRefIdeal.τ).loc Cert.AbOutRefIdeal.main_arg2) = m' ((c.tc : Thread Cert.AbOutRefIdeal.nD Cert.AbOutRefIdeal.τ).loc Cert.AbOutRefIdeal.main_arg2)
          ∧ r.2.mem ((c.tc : Thread Cert.AbOutRefIdeal.nD Cert.AbOutRefIdeal.τ).loc Cert.AbOutRefIdeal.main_arg3) = m' ((c.tc : Thread Cert.AbOutRefIdeal.nD Cert.AbOutRefIdeal.τ).loc Cert.AbOutRefIdeal.main_arg3))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)) →
    ∃ (v0 : (c : Dev Cert.FinalIdeal.nD) → Buf (Elt Ideal) ((c.tc : Thread Cert.FinalIdeal.nD Cert.FinalIdeal.τ).loc Cert.FinalIdeal.main_v1)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v1) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v12) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)
      ∧ m' ((c.tc : Thread Cert.GlaRefIdeal.nD Cert.GlaRefIdeal.τ).loc Cert.GlaRefIdeal.main_arg4) = m ((c.tc : Thread Cert.GlaIdeal.nD Cert.GlaIdeal.τ).loc Cert.GlaIdeal.main_arg4)
      ∧ m' ((c.tc : Thread Cert.GlaRefIdeal.nD Cert.GlaRefIdeal.τ).loc Cert.GlaRefIdeal.main_arg5) = m ((c.tc : Thread Cert.GlaIdeal.nD Cert.GlaIdeal.τ).loc Cert.GlaIdeal.main_arg5)) →
    ∃ (v0 : (c : Dev Cert.GlaIdeal.nD) → Buf (Elt Ideal) ((c.tc : Thread Cert.GlaIdeal.nD Cert.GlaIdeal.τ).loc Cert.GlaIdeal.main_v1)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v1) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
          ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
          ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v29) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3)
          ∧ r.2.mem ((c.tc : Thread Cert.GlaRefIdeal.nD Cert.GlaRefIdeal.τ).loc Cert.GlaRefIdeal.main_arg4) = m' ((c.tc : Thread Cert.GlaRefIdeal.nD Cert.GlaRefIdeal.τ).loc Cert.GlaRefIdeal.main_arg4)
          ∧ r.2.mem ((c.tc : Thread Cert.GlaRefIdeal.nD Cert.GlaRefIdeal.τ).loc Cert.GlaRefIdeal.main_arg5) = m' ((c.tc : Thread Cert.GlaRefIdeal.nD Cert.GlaRefIdeal.τ).loc Cert.GlaRefIdeal.main_arg5))

def Claim : Prop :=
  ∃ (hSgu : Cert.Sgu.Facts) (hSguIdeal : Cert.SguIdeal.Facts) (hSguRefIdeal : Cert.SguRefIdeal.Facts) (hStick : Cert.Stick.Facts) (hStickIdeal : Cert.StickIdeal.Facts) (hStickRefIdeal : Cert.StickRefIdeal.Facts) (hAbIn : Cert.AbIn.Facts) (hAbInIdeal : Cert.AbInIdeal.Facts) (hAbInRefIdeal : Cert.AbInRefIdeal.Facts) (hAbOut : Cert.AbOut.Facts) (hAbOutIdeal : Cert.AbOutIdeal.Facts) (hAbOutRefIdeal : Cert.AbOutRefIdeal.Facts) (hFinal : Cert.Final.Facts) (hFinalIdeal : Cert.FinalIdeal.Facts) (hFinalRefIdeal : Cert.FinalRefIdeal.Facts) (hGla : Cert.Gla.Facts) (hGlaIdeal : Cert.GlaIdeal.Facts) (hGlaRefIdeal : Cert.GlaRefIdeal.Facts) (hPre_finite_qk : Cert.Pre_finite_qk.Facts),
    quiescent_Sgu (hSgu := hSgu)
    ∧ quiescent_SguIdeal (hSguIdeal := hSguIdeal)
    ∧ quiescent_SguRefIdeal (hSguRefIdeal := hSguRefIdeal)
    ∧ quiescent_Stick (hStick := hStick)
    ∧ quiescent_StickIdeal (hStickIdeal := hStickIdeal)
    ∧ quiescent_StickIdeal_pre_finite_qk (hStickIdeal := hStickIdeal) (hPre_finite_qk := hPre_finite_qk)
    ∧ quiescent_StickRefIdeal (hStickRefIdeal := hStickRefIdeal)
    ∧ quiescent_StickRefIdeal_pre_finite_qk (hStickRefIdeal := hStickRefIdeal) (hPre_finite_qk := hPre_finite_qk)
    ∧ quiescent_AbIn (hAbIn := hAbIn)
    ∧ quiescent_AbInIdeal (hAbInIdeal := hAbInIdeal)
    ∧ quiescent_AbInRefIdeal (hAbInRefIdeal := hAbInRefIdeal)
    ∧ quiescent_AbOut (hAbOut := hAbOut)
    ∧ quiescent_AbOutIdeal (hAbOutIdeal := hAbOutIdeal)
    ∧ quiescent_AbOutRefIdeal (hAbOutRefIdeal := hAbOutRefIdeal)
    ∧ quiescent_Final (hFinal := hFinal)
    ∧ quiescent_FinalIdeal (hFinalIdeal := hFinalIdeal)
    ∧ quiescent_FinalRefIdeal (hFinalRefIdeal := hFinalRefIdeal)
    ∧ quiescent_Gla (hGla := hGla)
    ∧ quiescent_GlaIdeal (hGlaIdeal := hGlaIdeal)
    ∧ quiescent_GlaRefIdeal (hGlaRefIdeal := hGlaRefIdeal)
    ∧ preserves_Sgu_SguIdeal
    ∧ algebraic_SguIdeal_SguRefIdeal (hSguIdeal := hSguIdeal) (hSguRefIdeal := hSguRefIdeal)
    ∧ preserves_Stick_StickIdeal
    ∧ algebraic_StickIdeal_StickRefIdeal_pre_finite_qk (hStickIdeal := hStickIdeal) (hStickRefIdeal := hStickRefIdeal) (hPre_finite_qk := hPre_finite_qk)
    ∧ preserves_AbIn_AbInIdeal
    ∧ algebraic_AbInIdeal_AbInRefIdeal (hAbInIdeal := hAbInIdeal) (hAbInRefIdeal := hAbInRefIdeal)
    ∧ preserves_AbOut_AbOutIdeal
    ∧ algebraic_AbOutIdeal_AbOutRefIdeal (hAbOutIdeal := hAbOutIdeal) (hAbOutRefIdeal := hAbOutRefIdeal)
    ∧ preserves_Final_FinalIdeal
    ∧ algebraic_FinalIdeal_FinalRefIdeal (hFinalIdeal := hFinalIdeal) (hFinalRefIdeal := hFinalRefIdeal)
    ∧ preserves_Gla_GlaIdeal
    ∧ algebraic_GlaIdeal_GlaRefIdeal (hGlaIdeal := hGlaIdeal) (hGlaRefIdeal := hGlaRefIdeal)
-- ==== Pre_finite_qk.lean ====
abbrev S32768x512 : Shape := ⟨2, ![32768, 512]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)
  reducesTo_S32768x512_S_d0_1 : S32768x512.ReducesTo [0, 1] S_
  h_S_ : 0 < S_.numel

variable [Facts]

def fn {F : FTy → Type} [FloatOps F] (main_arg0 : FVec F S32768x512 .bf16) (main_arg1 : FVec F S32768x512 .bf16) (main_arg2 : FVec F S32768x512 .bf16) : IVec S_ 1 :=
  let main_v0 : FVec F S32768x512 .f32 := (extf .f32 · bitsLt_bf16_f32) main_arg0
  let main_v1 : FVec F S32768x512 .f32 := (extf .f32 · bitsLt_bf16_f32) main_arg1
  let main_v2 : FVec F S32768x512 .f32 := subf main_v0 main_v0
  let main_cst : FVec F S_ .f32 := constant S_ .f32 0x00000000#32
  let main_v3 : FVec F S32768x512 .f32 := broadcastInDim S32768x512 ![] bcast_S_S32768x512 main_cst
  let main_v4 : IVec S32768x512 1 := cmpf .oeq main_v2 main_v3
  let main_c : IVec S_ 1 := constantI S_ 1 1#1
  let main_v5 : IVec S_ 1 := (fun x v => Host.reduce IntOp.andi x v reducesTo_S32768x512_S_d0_1 h_S_) main_v4 main_c
  let main_v6 : FVec F S32768x512 .f32 := subf main_v1 main_v1
  let main_cst_0 : FVec F S_ .f32 := constant S_ .f32 0x00000000#32
  let main_v7 : FVec F S32768x512 .f32 := broadcastInDim S32768x512 ![] bcast_S_S32768x512 main_cst_0
  let main_v8 : IVec S32768x512 1 := cmpf .oeq main_v6 main_v7
  let main_c_1 : IVec S_ 1 := constantI S_ 1 1#1
  let main_v9 : IVec S_ 1 := (fun x v => Host.reduce IntOp.andi x v reducesTo_S32768x512_S_d0_1 h_S_) main_v8 main_c_1
  let main_v10 : IVec S_ 1 := andi main_v5 main_v9
  main_v10
-- ==== Sgu.lean ====
abbrev S16x2048x1024 : Shape := ⟨3, ![16, 2048, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S32768x1024 : Shape := ⟨2, ![32768, 1024]⟩
abbrev S8x128x1 : Shape := ⟨3, ![8, 128, 1]⟩
abbrev S1x1024 : Shape := ⟨2, ![1, 1024]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1024x2048 : Shape := ⟨2, ![1024, 2048]⟩
abbrev S1x128x128 : Shape := ⟨3, ![1, 128, 128]⟩
abbrev S1024x256 : Shape := ⟨2, ![1024, 256]⟩
abbrev S256x256 : Shape := ⟨2, ![256, 256]⟩
abbrev S128x256 : Shape := ⟨2, ![128, 256]⟩

abbrev nBuf : Space → Nat
  | .hbm => 15
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x1024, .f32⟩
  | .hbm, ⟨7, _⟩ => ⟨S32768x1024, .f32⟩
  | .hbm, ⟨8, _⟩ => ⟨S8x128x1, .f32⟩
  | .hbm, ⟨9, _⟩ => ⟨S8x128x128, .f32⟩
  | .hbm, ⟨10, _⟩ => ⟨S1x1024, .f32⟩
  | .hbm, ⟨11, _⟩ => ⟨S1024x4096, .bf16⟩
  | .hbm, ⟨12, _⟩ => ⟨S1x2048, .f32⟩
  | .hbm, ⟨13, _⟩ => ⟨S2048x1024, .bf16⟩
  | .hbm, ⟨14, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S1x2048, .f32⟩
  | .local _ .vmem, ⟨5, _⟩ => ⟨S8x128x128, .f32⟩
  | .local _ .vmem, ⟨6, _⟩ => ⟨S8x128x128, .f32⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | .local _ .vmem, ⟨10, _⟩ => ⟨S256x2048, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguRefIdeal.lean ====
abbrev S16x2048x1024 : Shape := ⟨3, ![16, 2048, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S2048x1024 : Shape := ⟨2, ![2048, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x4096 : Shape := ⟨3, ![16, 2048, 4096]⟩
abbrev S16x2048x2048 : Shape := ⟨3, ![16, 2048, 2048]⟩
abbrev S1x1x2048 : Shape := ⟨3, ![1, 1, 2048]⟩
abbrev S16x16x128x8x256 : Shape := ⟨5, ![16, 16, 128, 8, 256]⟩
abbrev S128x128 : Shape := ⟨2, ![128, 128]⟩
abbrev S1x128x128 : Shape := ⟨3, ![1, 128, 128]⟩
abbrev S8x16x16x256x128 : Shape := ⟨5, ![8, 16, 16, 256, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S32768x1024 : Shape := ⟨2, ![32768, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2048x1024, .f32⟩
  | .hbm, ⟨7, _⟩ => ⟨S16x2048x1024, .f32⟩
  | .hbm, ⟨8, _⟩ => ⟨S_, .f32⟩
  | .hbm, ⟨9, _⟩ => ⟨S16x2048, .f32⟩
  | .hbm, ⟨10, _⟩ => ⟨S16x2048x1, .f32⟩
  | .hbm, ⟨11, _⟩ => ⟨S_, .f32⟩
  | .hbm, ⟨12, _⟩ => ⟨S16x2048x1, .f32⟩
  | .hbm, ⟨13, _⟩ => ⟨S16x2048x1, .f32⟩
  | .hbm, ⟨14, _⟩ => ⟨S_, .f32⟩
  | .hbm, ⟨15, _⟩ => ⟨S16x2048x1, .f32⟩
  | .hbm, ⟨16, _⟩ => ⟨S16x2048x1, .f32⟩
  | .hbm, ⟨17, _⟩ => ⟨S16x2048x1, .f32⟩
  | .hbm, ⟨18, _⟩ => ⟨S16x2048x1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S16x2048x4096, .f32⟩
  | .hbm, ⟨24, _⟩ => ⟨S_, .f32⟩
  | .hbm, ⟨25, _⟩ => ⟨S16x2048x4096, .f32⟩
  | .hbm, ⟨26, _⟩ => ⟨S16x2048x4096, .f32⟩
  | .hbm, ⟨27, _⟩ => ⟨S16x2048x4096, .f32⟩
  | .hbm, ⟨28, _⟩ => ⟨S_, .f32⟩
  | .hbm, ⟨29, _⟩ => ⟨S16x2048x4096, .f32⟩
  | .hbm, ⟨30, _⟩ => ⟨S16x2048x4096, .f32⟩
  | .hbm, ⟨31, _⟩ => ⟨S16x2048x4096, .f32⟩
  | .hbm, ⟨32, _⟩ => ⟨S16x2048x4096, .f32⟩
  | .hbm, ⟨33, _⟩ => ⟨S16x2048x2048, .f32⟩
  | .hbm, ⟨34, _⟩ => ⟨S16x2048x2048, .f32⟩
  | .hbm, ⟨35, _⟩ => ⟨S16x2048x2048, .f32⟩
  | .hbm, ⟨36, _⟩ => ⟨S_, .f32⟩
  | .hbm, ⟨37, _⟩ => ⟨S16x2048, .f32⟩
  | .hbm, ⟨38, _⟩ => ⟨S16x2048x1, .f32⟩
  | .hbm, ⟨39, _⟩ => ⟨S_, .f32⟩
  | .hbm, ⟨40, _⟩ => ⟨S16x2048x1, .f32⟩
  | .hbm, ⟨41, _⟩ => ⟨S16x2048x1, .f32⟩
  | .hbm, ⟨42, _⟩ => ⟨S_, .f32⟩
  | .hbm, ⟨43, _⟩ => ⟨S16x2048x1, .f32⟩
  | .hbm, ⟨44, _⟩ => ⟨S16x2048x1, .f32⟩
  | .hbm, ⟨45, _⟩ => ⟨S16x2048x1, .f32⟩
  | .hbm, ⟨46, _⟩ => ⟨S16x2048x2048, .f32⟩
  | .hbm, ⟨47, _⟩ => ⟨S16x2048x2048, .f32⟩
  | .hbm, ⟨48, _⟩ => ⟨S1x1x2048, .f32⟩
  | .hbm, ⟨49, _⟩ => ⟨S16x2048x2048, .f32⟩
  | .hbm, ⟨50, _⟩ => ⟨S16x2048x2048, .f32⟩
  | .hbm, ⟨51, _⟩ => ⟨S16x16x128x8x256, .f32⟩
  | .hbm, ⟨52, _⟩ => ⟨S_, .i1⟩
  | .hbm, ⟨53, _⟩ => ⟨S128x128, .i1⟩
  | .hbm, ⟨54, _⟩ => ⟨S128x128, .i32⟩
  | .hbm, ⟨55, _⟩ => ⟨S_, .i32⟩
  | .hbm, ⟨56, _⟩ => ⟨S128x128, .i32⟩
  | .hbm, ⟨57, _⟩ => ⟨S128x128, .i32⟩
  | .hbm, ⟨58, _⟩ => ⟨S128x128, .i32⟩
  | .hbm, ⟨59, _⟩ => ⟨S128x128, .i1⟩
  | .hbm, ⟨60, _⟩ => ⟨S_, .i1⟩
  | .hbm, ⟨61, _⟩ => ⟨S128x128, .i1⟩
  | .hbm, ⟨62, _⟩ => ⟨S128x128, .i1⟩
  | .hbm, ⟨63, _⟩ => ⟨S1x128x128, .i1⟩
  | .hbm, ⟨64, _⟩ => ⟨S_, .f32⟩
  | .hbm, ⟨65, _⟩ => ⟨S_, .f32⟩
  | .hbm, ⟨66, _⟩ => ⟨S8x128x128, .i1⟩
  | .hbm, ⟨67, _⟩ => ⟨S8x128x128, .f32⟩
  | .hbm, ⟨68, _⟩ => ⟨S8x128x128, .f32⟩
  | .hbm, ⟨69, _⟩ => ⟨S8x16x16x256x128, .f32⟩
  | .hbm, ⟨70, _⟩ => ⟨S16x16x128x8x256, .f32⟩
  | .hbm, ⟨71, _⟩ => ⟨S128x8, .f32⟩
  | .hbm, ⟨72, _⟩ => ⟨S128x8x1, .f32⟩
  | .hbm, ⟨73, _⟩ => ⟨S1x1x128x8x1, .f32⟩
  | .hbm, ⟨74, _⟩ => ⟨S16x16x128x8x256, .f32⟩
  | .hbm, ⟨75, _⟩ => ⟨S16x16x128x8x256, .f32⟩
  | .hbm, ⟨76, _⟩ => ⟨S16x2048x2048, .f32⟩
  | .hbm, ⟨77, _⟩ => ⟨S16x2048x2048, .f32⟩
  | .hbm, ⟨78, _⟩ => ⟨S16x2048x1024, .f32⟩
  | .hbm, ⟨79, _⟩ => ⟨S16x2048x1024, .f32⟩
  | .hbm, ⟨80, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c : Ref sig .tc := ⟨.hbm, 52, rfl⟩
abbrev main_v37 : Ref sig .tc := ⟨.hbm, 53, rfl⟩
abbrev main_call0_v0 : Ref sig .tc := ⟨.hbm, 54, rfl⟩
abbrev main_call0_c : Ref sig .tc := ⟨.hbm, 55, rfl⟩
abbrev main_call0_v1 : Ref sig .tc := ⟨.hbm, 56, rfl⟩
abbrev main_call0_v2 : Ref sig .tc := ⟨.hbm, 57, rfl⟩
abbrev main_call0_v3 : Ref sig .tc := ⟨.hbm, 58, rfl⟩
abbrev main_call0_v4 : Ref sig .tc := ⟨.hbm, 59, rfl⟩
abbrev main_call0_c_0 : Ref sig .tc := ⟨.hbm, 60, rfl⟩
abbrev main_call0_v5 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Stick.lean ====
abbrev S32768x512 : Shape := ⟨2, ![32768, 512]⟩
abbrev S512x128 : Shape := ⟨2, ![512, 128]⟩
abbrev S2048x128 : Shape := ⟨2, ![2048, 128]⟩
abbrev S2x512x128 : Shape := ⟨3, ![2, 512, 128]⟩
abbrev S2x2x512x256 : Shape := ⟨4, ![2, 2, 512, 256]⟩
abbrev S2x2x512x128 : Shape := ⟨4, ![2, 2, 512, 128]⟩
abbrev S256x256 : Shape := ⟨2, ![256, 256]⟩
abbrev S128x128 : Shape := ⟨2, ![128, 128]⟩
abbrev S128x256 : Shape := ⟨2, ![128, 256]⟩
abbrev S1x1x128x256 : Shape := ⟨4, ![1, 1, 128, 256]⟩
abbrev S1x1x128x128 : Shape := ⟨4, ![1, 1, 128, 128]⟩
abbrev S1x128x128 : Shape := ⟨3, ![1, 128, 128]⟩
abbrev S256x128 : Shape := ⟨2, ![256, 128]⟩
abbrev S1x1x256x256 : Shape := ⟨4, ![1, 1, 256, 256]⟩
abbrev S1x1x256x128 : Shape := ⟨4, ![1, 1, 256, 128]⟩
abbrev S1x256x128 : Shape := ⟨3, ![1, 256, 128]⟩
abbrev S384x128 : Shape := ⟨2, ![384, 128]⟩
abbrev S384x256 : Shape := ⟨2, ![384, 256]⟩
abbrev S1x1x384x256 : Shape := ⟨4, ![1, 1, 384, 256]⟩
abbrev S1x1x384x128 : Shape := ⟨4, ![1, 1, 384, 128]⟩
abbrev S1x384x128 : Shape := ⟨3, ![1, 384, 128]⟩
abbrev S512x256 : Shape := ⟨2, ![512, 256]⟩
abbrev S1x1x512x256 : Shape := ⟨4, ![1, 1, 512, 256]⟩
abbrev S1x1x512x128 : Shape := ⟨4, ![1, 1, 512, 128]⟩
abbrev S1x512x128 : Shape := ⟨3, ![1, 512, 128]⟩

abbrev nBuf : Space → Nat
  | .hbm => 4
  | .vmem => 12
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .bf16⟩
  | .local _ .vmem, ⟨0, _⟩ => ⟨S512x128, .bf16⟩
  | .local _ .vmem, ⟨1, _⟩ => ⟨S512x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S512x128, .bf16⟩
  | .local _ .vmem, ⟨7, _⟩ => ⟨S512x128, .bf16⟩
  | .local _ .vmem, ⟨8, _⟩ => ⟨S2x512x128, .f32⟩
  | .local _ .vmem, ⟨9, _⟩ => ⟨S512x128, .f32⟩
  | .local _ .vmem, ⟨10, _⟩ => ⟨S2x2x512x256, .bf16⟩
  | .local _ .vmem, ⟨11, _⟩ => ⟨S2x2x512x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 4], ![false, false, false]⟩

def k0_mult1 (i : grid0.Coords) : BitVec 32 :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let c128_i32_9 : BitVec 32 := 128#32
  let v24 : BitVec 32 := Scalar.muli v22 c128_i32_9
  v24
def k0_off1 (i : grid0.Coords) : Fin 2 → Nat :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let c128_i32_9 : BitVec 32 := 128#32
  let v24 : BitVec 32 := Scalar.muli v22 c128_i32_9
  let v25 : BitVec 32 := v24
  let v26 : Index := Scalar.indexCast v25
  let c0_10 : Index := 0#32
  ![v26.toNat, 0]
def k0_mult2 (i : grid0.Coords) : BitVec 32 :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let c0_i32 : BitVec 32 := 0#32
  let v109 : BitVec 32 := Scalar.subi v22 c0_i32
  let c128_i32_44 : BitVec 32 := 128#32
  let v110 : BitVec 32 := Scalar.muli v109 c128_i32_44
  v110
def k0_off2 (i : grid0.Coords) (c0_i32 : BitVec 32) : Fin 2 → Nat :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let v109 : BitVec 32 := Scalar.subi v22 c0_i32
  let c128_i32_44 : BitVec 32 := 128#32
  let v110 : BitVec 32 := Scalar.muli v109 c128_i32_44
  let v111 : BitVec 32 := v110
  let v112 : Index := Scalar.indexCast v111
  let c0_45 : Index := 0#32
  ![v112.toNat, 0]
def k0_mult3 (i : grid0.Coords) : BitVec 32 :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let c0_i32_91 : BitVec 32 := 0#32
  let v183 : BitVec 32 := Scalar.subi v22 c0_i32_91
  let c1_i32_92 : BitVec 32 := 1#32
  let v184 : BitVec 32 := Scalar.subi v183 c1_i32_92
  let c128_i32_93 : BitVec 32 := 128#32
  let v185 : BitVec 32 := Scalar.muli v184 c128_i32_93
  v185
def k0_off3 (i : grid0.Coords) (c0_i32_91 : BitVec 32) : Fin 2 → Nat :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let v183 : BitVec 32 := Scalar.subi v22 c0_i32_91
  let c1_i32_92 : BitVec 32 := 1#32
  let v184 : BitVec 32 := Scalar.subi v183 c1_i32_92
  let c128_i32_93 : BitVec 32 := 128#32
  let v185 : BitVec 32 := Scalar.muli v184 c128_i32_93
  let v186 : BitVec 32 := v185
  let v187 : Index := Scalar.indexCast v186
  let c0_94 : Index := 0#32
  ![v187.toNat, 0]
def k0_mult4 (i : grid0.Coords) : BitVec 32 :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let c1_i32_131 : BitVec 32 := 1#32
  let v270 : BitVec 32 := Scalar.subi v22 c1_i32_131
  let c128_i32_132 : BitVec 32 := 128#32
  let v271 : BitVec 32 := Scalar.muli v270 c128_i32_132
  v271
def k0_mult5 (i : grid0.Coords) : BitVec 32 :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let c1_i32_179 : BitVec 32 := 1#32
  let v344 : BitVec 32 := Scalar.subi v22 c1_i32_179
  let c1_i32_180 : BitVec 32 := 1#32
  let v345 : BitVec 32 := Scalar.subi v344 c1_i32_180
  let c128_i32_181 : BitVec 32 := 128#32
  let v346 : BitVec 32 := Scalar.muli v345 c128_i32_181
  v346
def k0_mult6 (i : grid0.Coords) : BitVec 32 :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let c2_i32 : BitVec 32 := 2#32
  let v431 : BitVec 32 := Scalar.subi v22 c2_i32
  let c128_i32_220 : BitVec 32 := 128#32
  let v432 : BitVec 32 := Scalar.muli v431 c128_i32_220
  v432
def k0_mult7 (i : grid0.Coords) : BitVec 32 :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let c2_i32_267 : BitVec 32 := 2#32
  let v505 : BitVec 32 := Scalar.subi v22 c2_i32_267
  let c1_i32_268 : BitVec 32 := 1#32
  let v506 : BitVec 32 := Scalar.subi v505 c1_i32_268
  let c128_i32_269 : BitVec 32 := 128#32
  let v507 : BitVec 32 := Scalar.muli v506 c128_i32_269
  v507
def k0_mult8 (i : grid0.Coords) : BitVec 32 :=
  let arg2 : BitVec 32 := BitVec.ofNat 32 (i 2).val
  let c1_i32 : BitVec 32 := 1#32
  let v20 : BitVec 32 := Scalar.addi arg2 c1_i32
  let c4_i32 : BitVec 32 := 4#32
  let v21 : BitVec 32 := Scalar.muli v20 c4_i32
  let c1_i32_7 : BitVec 32 := 1#32
  let v22 : BitVec 32 := Scalar.subi v21 c1_i32_7
  let c3_i32 : BitVec 32 := 3#32
  let v592 : BitVec 32 := Scalar.subi v22 c3_i32
  let c128_i32_309 : BitVec 32 := 128#32
  let v593 : BitVec 32 := Scalar.muli v592 c128_i32_309
  v593
def k0_mult9 (i : grid0.Coords) : BitVec 32 :=
  let arg2 : BitVec 32 := BitVec.ofNat 32 (i 2).val
  let c4_i32_8 : BitVec 32 := 4#32
  let v23 : BitVec 32 := Scalar.muli arg2 c4_i32_8
  let c1_i32_356 : BitVec 32 := 1#32
  let v666 : BitVec 32 := Scalar.subi v23 c1_i32_356
  let c0_i32_357 : BitVec 32 := 0#32
  let v667 : BitVec 32 := Scalar.maxsi v666 c0_i32_357
  let c128_i32_358 : BitVec 32 := 128#32
  let v668 : BitVec 32 := Scalar.muli v667 c128_i32_358
  v668
def k0_off4 (i : grid0.Coords) : Fin 2 → Nat :=
  let arg2 : BitVec 32 := BitVec.ofNat 32 (i 2).val
  let c4_i32_8 : BitVec 32 := 4#32
  let v23 : BitVec 32 := Scalar.muli arg2 c4_i32_8
  let c1_i32_356 : BitVec 32 := 1#32
  let v666 : BitVec 32 := Scalar.subi v23 c1_i32_356
  let c0_i32_357 : BitVec 32 := 0#32
  let v667 : BitVec 32 := Scalar.maxsi v666 c0_i32_357
  let c128_i32_358 : BitVec 32 := 128#32
  let v668 : BitVec 32 := Scalar.muli v667 c128_i32_358
  let v669 : BitVec 32 := v668
  let v670 : Index := Scalar.indexCast v669
  let c0_359 : Index := 0#32
  ![v670.toNat, 0]
@[reducible] def k0_t1_loop (i : grid0.Coords) : Scf.Loop 32 :=
  let c0_i32_391 : BitVec 32 := 0#32
  let arg2 : BitVec 32 := BitVec.ofNat 32 (i 2).val
  let c4_i32_8 : BitVec 32 := 4#32
  let v23 : BitVec 32 := Scalar.muli arg2 c4_i32_8
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_393 : BitVec 32 := 1#32
  ⟨c0_i32_391, v733, c1_i32_393⟩
def k0_mult10 (i : grid0.Coords) (k0_t1 : Fin (k0_t1_loop i).trips) : BitVec 32 :=
  let arg2 : BitVec 32 := BitVec.ofNat 32 (i 2).val
  let c4_i32_8 : BitVec 32 := 4#32
  let v23 : BitVec 32 := Scalar.muli arg2 c4_i32_8
  let c1_i32_399 : BitVec 32 := 1#32
  let v737 : BitVec 32 := Scalar.subi v23 c1_i32_399
  let c0_i32_391 : BitVec 32 := 0#32
  let c1_i32_393 : BitVec 32 := 1#32
  let arg11 : BitVec 32 := Scf.iv c0_i32_391 c1_i32_393 k0_t1
  let v738 : BitVec 32 := Scalar.subi v737 arg11
  let c128_i32_407 : BitVec 32 := 128#32
  let v750 : BitVec 32 := Scalar.muli v738 c128_i32_407
  v750
def k0_off5 (i : grid0.Coords) (k0_t1 : Fin (k0_t1_loop i).trips) : Fin 2 → Nat :=
  let arg2 : BitVec 32 := BitVec.ofNat 32 (i 2).val
  let c4_i32_8 : BitVec 32 := 4#32
  let v23 : BitVec 32 := Scalar.muli arg2 c4_i32_8
  let c1_i32_399 : BitVec 32 := 1#32
  let v737 : BitVec 32 := Scalar.subi v23 c1_i32_399
  let c0_i32_391 : BitVec 32 := 0#32
  let c1_i32_393 : BitVec 32 := 1#32
  let arg11 : BitVec 32 := Scf.iv c0_i32_391 c1_i32_393 k0_t1
  let v738 : BitVec 32 := Scalar.subi v737 arg11
  let c128_i32_407 : BitVec 32 := 128#32
  let v750 : BitVec 32 := Scalar.muli v738 c128_i32_407
  let v751 : BitVec 32 := v750
  let v752 : Index := Scalar.indexCast v751
  let c0_408 : Index := 0#32
  ![v752.toNat, 0]
def k0_off6 (i : grid0.Coords) (k0_t1 : Fin (k0_t1_loop i).trips) : Fin 4 → Nat :=
  let c0_i32_391 : BitVec 32 := 0#32
  let c1_i32_393 : BitVec 32 := 1#32
  let arg11 : BitVec 32 := Scf.iv c0_i32_391 c1_i32_393 k0_t1
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v754 : Index := Scalar.indexCast v749
  let c0_409 : Index := 0#32
  let c0_410 : Index := 0#32
  let c0_411 : Index := 0#32
  ![v754.toNat, 0, 0, 0]
def k0_off7 (i : grid0.Coords) (k0_t1 : Fin (k0_t1_loop i).trips) : Fin 4 → Nat :=
  let c0_i32_391 : BitVec 32 := 0#32
  let c1_i32_393 : BitVec 32 := 1#32
  let arg11 : BitVec 32 := Scf.iv c0_i32_391 c1_i32_393 k0_t1
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v760 : Index := Scalar.indexCast v749
  let c0_416 : Index := 0#32
  let c0_417 : Index := 0#32
  let c0_418 : Index := 0#32
  ![v760.toNat, 0, 0, 0]
def k0_off8 (i : grid0.Coords) (k0_t1 : Fin (k0_t1_loop i).trips) : Fin 4 → Nat :=
  let c0_i32_391 : BitVec 32 := 0#32
  let c1_i32_393 : BitVec 32 := 1#32
  let arg11 : BitVec 32 := Scf.iv c0_i32_391 c1_i32_393 k0_t1
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v774 : Index := Scalar.indexCast v749
  let c1_423 : Index := 1#32
  let c0_424 : Index := 0#32
  let c0_425 : Index := 0#32
  ![v774.toNat, 1, 0, 0]
def k0_off9 (i : grid0.Coords) (k0_t1 : Fin (k0_t1_loop i).trips) : Fin 4 → Nat :=
  let c0_i32_391 : BitVec 32 := 0#32
  let c1_i32_393 : BitVec 32 := 1#32
  let arg11 : BitVec 32 := Scf.iv c0_i32_391 c1_i32_393 k0_t1
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v780 : Index := Scalar.indexCast v749
  let c1_430 : Index := 1#32
  let c0_431 : Index := 0#32
  let c0_432 : Index := 0#32
  ![v780.toNat, 1, 0, 0]
def k0_mult11 (i : grid0.Coords) (k0_t1 : Fin (k0_t1_loop i).trips) : BitVec 32 :=
  let arg2 : BitVec 32 := BitVec.ofNat 32 (i 2).val
  let c4_i32_8 : BitVec 32 := 4#32
  let v23 : BitVec 32 := Scalar.muli arg2 c4_i32_8
  let c1_i32_399 : BitVec 32 := 1#32
  let v737 : BitVec 32 := Scalar.subi v23 c1_i32_399
  let c0_i32_391 : BitVec 32 := 0#32
  let c1_i32_393 : BitVec 32 := 1#32
  let arg11 : BitVec 32 := Scf.iv c0_i32_391 c1_i32_393 k0_t1
  let v738 : BitVec 32 := Scalar.subi v737 arg11
  let c1_i32_442 : BitVec 32 := 1#32
  let v803 : BitVec 32 := Scalar.subi v738 c1_i32_442
  let c0_i32_443 : BitVec 32 := 0#32
  let v804 : BitVec 32 := Scalar.maxsi v803 c0_i32_443
  let c128_i32_445 : BitVec 32 := 128#32
  let v806 : BitVec 32 := Scalar.muli v804 c128_i32_445
  v806
def k0_off10 (i : grid0.Coords) (k0_t1 : Fin (k0_t1_loop i).trips) : Fin 2 → Nat :=
  let arg2 : BitVec 32 := BitVec.ofNat 32 (i 2).val
  let c4_i32_8 : BitVec 32 := 4#32
  let v23 : BitVec 32 := Scalar.muli arg2 c4_i32_8
  let c1_i32_399 : BitVec 32 := 1#32
  let v737 : BitVec 32 := Scalar.subi v23 c1_i32_399
  let c0_i32_391 : BitVec 32 := 0#32
  let c1_i32_393 : BitVec 32 := 1#32
  let arg11 : BitVec 32 := Scf.iv c0_i32_391 c1_i32_393 k0_t1
  let v738 : BitVec 32 := Scalar.subi v737 arg11
  let c1_i32_442 : BitVec 32 := 1#32
  let v803 : BitVec 32 := Scalar.subi v738 c1_i32_442
  let c0_i32_443 : BitVec 32 := 0#32
  let v804 : BitVec 32 := Scalar.maxsi v803 c0_i32_443
  let c128_i32_445 : BitVec 32 := 128#32
  let v806 : BitVec 32 := Scalar.muli v804 c128_i32_445
  let v807 : BitVec 32 := v806
  let v808 : Index := Scalar.indexCast v807
  let c0_446 : Index := 0#32
  ![v808.toNat, 0]
def k0_off11 (i : grid0.Coords) (k0_t1 : Fin (k0_t1_loop i).trips) : Fin 4 → Nat :=
  let c1_i32_444 : BitVec 32 := 1#32
  let c0_i32_391 : BitVec 32 := 0#32
  let c1_i32_393 : BitVec 32 := 1#32
  let arg11 : BitVec 32 := Scf.iv c0_i32_391 c1_i32_393 k0_t1
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v805 : BitVec 32 := Scalar.subi c1_i32_444 v749
  let v832 : Index := Scalar.indexCast v805
  let c0_455 : Index := 0#32
  let c0_456 : Index := 0#32
  let c0_457 : Index := 0#32
  ![v832.toNat, 0, 0, 0]
def k0_off12 (i : grid0.Coords) (k0_t1 : Fin (k0_t1_loop i).trips) : Fin 4 → Nat :=
  let c1_i32_444 : BitVec 32 := 1#32
  let c0_i32_391 : BitVec 32 := 0#32
  let c1_i32_393 : BitVec 32 := 1#32
  let arg11 : BitVec 32 := Scf.iv c0_i32_391 c1_i32_393 k0_t1
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v805 : BitVec 32 := Scalar.subi c1_i32_444 v749
  let v839 : Index := Scalar.indexCast v805
  let c0_459 : Index := 0#32
  let c0_460 : Index := 0#32
  let c0_461 : Index := 0#32
  ![v839.toNat, 0, 0, 0]
def k0_off13 (i : grid0.Coords) (k0_t1 : Fin (k0_t1_loop i).trips) : Fin 4 → Nat :=
  let c1_i32_444 : BitVec 32 := 1#32
  let c0_i32_391 : BitVec 32 := 0#32
  let c1_i32_393 : BitVec 32 := 1#32
  let arg11 : BitVec 32 := Scf.iv c0_i32_391 c1_i32_393 k0_t1
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v805 : BitVec 32 := Scalar.subi c1_i32_444 v749
  let v860 : Index := Scalar.indexCast v805
  let c1_466 : Index := 1#32
  let c0_467 : Index := 0#32
  let c0_468 : Index := 0#32
  ![v860.toNat, 1, 0, 0]
def k0_off14 (i : grid0.Coords) (k0_t1 : Fin (k0_t1_loop i).trips) : Fin 4 → Nat :=
  let c1_i32_444 : BitVec 32 := 1#32
  let c0_i32_391 : BitVec 32 := 0#32
  let c1_i32_393 : BitVec 32 := 1#32
  let arg11 : BitVec 32 := Scf.iv c0_i32_391 c1_i32_393 k0_t1
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v805 : BitVec 32 := Scalar.subi c1_i32_444 v749
  let v867 : Index := Scalar.indexCast v805
  let c1_470 : Index := 1#32
  let c0_471 : Index := 0#32
  let c0_472 : Index := 0#32
  ![v867.toNat, 1, 0, 0]
@[reducible] def k0_t2_loop (i : grid0.Coords) : Scf.Loop 32 :=
  let c0_i32_391 : BitVec 32 := 0#32
  let arg2 : BitVec 32 := BitVec.ofNat 32 (i 2).val
  let c4_i32_8 : BitVec 32 := 4#32
  let v23 : BitVec 32 := Scalar.muli arg2 c4_i32_8
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let v730 : BitVec 32 := Scalar.addi c0_i32_391 v729
  let c1_i32_394 : BitVec 32 := 1#32
  ⟨v733, v730, c1_i32_394⟩
def k0_mult12 (i : grid0.Coords) (k0_t2 : Fin (k0_t2_loop i).trips) : BitVec 32 :=
  let arg2 : BitVec 32 := BitVec.ofNat 32 (i 2).val
  let c4_i32_8 : BitVec 32 := 4#32
  let v23 : BitVec 32 := Scalar.muli arg2 c4_i32_8
  let c1_i32_399 : BitVec 32 := 1#32
  let v737 : BitVec 32 := Scalar.subi v23 c1_i32_399
  let c0_i32_391 : BitVec 32 := 0#32
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let v738 : BitVec 32 := Scalar.subi v737 arg11
  let c128_i32_407 : BitVec 32 := 128#32
  let v750 : BitVec 32 := Scalar.muli v738 c128_i32_407
  v750
def k0_off15 (i : grid0.Coords) (k0_t2 : Fin (k0_t2_loop i).trips) : Fin 2 → Nat :=
  let arg2 : BitVec 32 := BitVec.ofNat 32 (i 2).val
  let c4_i32_8 : BitVec 32 := 4#32
  let v23 : BitVec 32 := Scalar.muli arg2 c4_i32_8
  let c1_i32_399 : BitVec 32 := 1#32
  let v737 : BitVec 32 := Scalar.subi v23 c1_i32_399
  let c0_i32_391 : BitVec 32 := 0#32
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let v738 : BitVec 32 := Scalar.subi v737 arg11
  let c128_i32_407 : BitVec 32 := 128#32
  let v750 : BitVec 32 := Scalar.muli v738 c128_i32_407
  let v751 : BitVec 32 := v750
  let v752 : Index := Scalar.indexCast v751
  let c0_408 : Index := 0#32
  ![v752.toNat, 0]
def k0_off16 (i : grid0.Coords) (k0_t2 : Fin (k0_t2_loop i).trips) : Fin 4 → Nat :=
  let c0_i32_391 : BitVec 32 := 0#32
  let arg2 : BitVec 32 := BitVec.ofNat 32 (i 2).val
  let c4_i32_8 : BitVec 32 := 4#32
  let v23 : BitVec 32 := Scalar.muli arg2 c4_i32_8
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v754 : Index := Scalar.indexCast v749
  let c0_409 : Index := 0#32
  let c0_410 : Index := 0#32
  let c0_411 : Index := 0#32
  ![v754.toNat, 0, 0, 0]
def k0_off17 (i : grid0.Coords) (k0_t2 : Fin (k0_t2_loop i).trips) : Fin 4 → Nat :=
  let c0_i32_391 : BitVec 32 := 0#32
  let arg2 : BitVec 32 := BitVec.ofNat 32 (i 2).val
  let c4_i32_8 : BitVec 32 := 4#32
  let v23 : BitVec 32 := Scalar.muli arg2 c4_i32_8
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v760 : Index := Scalar.indexCast v749
  let c0_416 : Index := 0#32
  let c0_417 : Index := 0#32
  let c0_418 : Index := 0#32
  ![v760.toNat, 0, 0, 0]
def k0_off18 (i : grid0.Coords) (k0_t2 : Fin (k0_t2_loop i).trips) : Fin 4 → Nat :=
  let c0_i32_391 : BitVec 32 := 0#32
  let arg2 : BitVec 32 := BitVec.ofNat 32 (i 2).val
  let c4_i32_8 : BitVec 32 := 4#32
  let v23 : BitVec 32 := Scalar.muli arg2 c4_i32_8
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v774 : Index := Scalar.indexCast v749
  let c1_423 : Index := 1#32
  let c0_424 : Index := 0#32
  let c0_425 : Index := 0#32
  ![v774.toNat, 1, 0, 0]
def k0_off19 (i : grid0.Coords) (k0_t2 : Fin (k0_t2_loop i).trips) : Fin 4 → Nat :=
  let c0_i32_391 : BitVec 32 := 0#32
  let arg2 : BitVec 32 := BitVec.ofNat 32 (i 2).val
  let c4_i32_8 : BitVec 32 := 4#32
  let v23 : BitVec 32 := Scalar.muli arg2 c4_i32_8
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v780 : Index := Scalar.indexCast v749
  let c1_430 : Index := 1#32
  let c0_431 : Index := 0#32
  let c0_432 : Index := 0#32
  ![v780.toNat, 1, 0, 0]
def k0_mult13 (i : grid0.Coords) (k0_t2 : Fin (k0_t2_loop i).trips) : BitVec 32 :=
  let arg2 : BitVec 32 := BitVec.ofNat 32 (i 2).val
  let c4_i32_8 : BitVec 32 := 4#32
  let v23 : BitVec 32 := Scalar.muli arg2 c4_i32_8
  let c1_i32_399 : BitVec 32 := 1#32
  let v737 : BitVec 32 := Scalar.subi v23 c1_i32_399
  let c0_i32_391 : BitVec 32 := 0#32
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let v738 : BitVec 32 := Scalar.subi v737 arg11
  let c1_i32_442 : BitVec 32 := 1#32
  let v803 : BitVec 32 := Scalar.subi v738 c1_i32_442
  let c0_i32_443 : BitVec 32 := 0#32
  let v804 : BitVec 32 := Scalar.maxsi v803 c0_i32_443
  let c128_i32_445 : BitVec 32 := 128#32
  let v806 : BitVec 32 := Scalar.muli v804 c128_i32_445
  v806
def k0_off20 (i : grid0.Coords) (k0_t2 : Fin (k0_t2_loop i).trips) : Fin 2 → Nat :=
  let arg2 : BitVec 32 := BitVec.ofNat 32 (i 2).val
  let c4_i32_8 : BitVec 32 := 4#32
  let v23 : BitVec 32 := Scalar.muli arg2 c4_i32_8
  let c1_i32_399 : BitVec 32 := 1#32
  let v737 : BitVec 32 := Scalar.subi v23 c1_i32_399
  let c0_i32_391 : BitVec 32 := 0#32
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let v738 : BitVec 32 := Scalar.subi v737 arg11
  let c1_i32_442 : BitVec 32 := 1#32
  let v803 : BitVec 32 := Scalar.subi v738 c1_i32_442
  let c0_i32_443 : BitVec 32 := 0#32
  let v804 : BitVec 32 := Scalar.maxsi v803 c0_i32_443
  let c128_i32_445 : BitVec 32 := 128#32
  let v806 : BitVec 32 := Scalar.muli v804 c128_i32_445
  let v807 : BitVec 32 := v806
  let v808 : Index := Scalar.indexCast v807
  let c0_446 : Index := 0#32
  ![v808.toNat, 0]
def k0_off21 (i : grid0.Coords) (k0_t2 : Fin (k0_t2_loop i).trips) : Fin 4 → Nat :=
  let c1_i32_444 : BitVec 32 := 1#32
  let c0_i32_391 : BitVec 32 := 0#32
  let arg2 : BitVec 32 := BitVec.ofNat 32 (i 2).val
  let c4_i32_8 : BitVec 32 := 4#32
  let v23 : BitVec 32 := Scalar.muli arg2 c4_i32_8
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v805 : BitVec 32 := Scalar.subi c1_i32_444 v749
  let v832 : Index := Scalar.indexCast v805
  let c0_455 : Index := 0#32
  let c0_456 : Index := 0#32
  let c0_457 : Index := 0#32
  ![v832.toNat, 0, 0, 0]
def k0_off22 (i : grid0.Coords) (k0_t2 : Fin (k0_t2_loop i).trips) : Fin 4 → Nat :=
  let c1_i32_444 : BitVec 32 := 1#32
  let c0_i32_391 : BitVec 32 := 0#32
  let arg2 : BitVec 32 := BitVec.ofNat 32 (i 2).val
  let c4_i32_8 : BitVec 32 := 4#32
  let v23 : BitVec 32 := Scalar.muli arg2 c4_i32_8
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v805 : BitVec 32 := Scalar.subi c1_i32_444 v749
  let v839 : Index := Scalar.indexCast v805
  let c0_459 : Index := 0#32
  let c0_460 : Index := 0#32
  let c0_461 : Index := 0#32
  ![v839.toNat, 0, 0, 0]
def k0_off23 (i : grid0.Coords) (k0_t2 : Fin (k0_t2_loop i).trips) : Fin 4 → Nat :=
  let c1_i32_444 : BitVec 32 := 1#32
  let c0_i32_391 : BitVec 32 := 0#32
  let arg2 : BitVec 32 := BitVec.ofNat 32 (i 2).val
  let c4_i32_8 : BitVec 32 := 4#32
  let v23 : BitVec 32 := Scalar.muli arg2 c4_i32_8
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v805 : BitVec 32 := Scalar.subi c1_i32_444 v749
  let v860 : Index := Scalar.indexCast v805
  let c1_466 : Index := 1#32
  let c0_467 : Index := 0#32
  let c0_468 : Index := 0#32
  ![v860.toNat, 1, 0, 0]
def k0_off24 (i : grid0.Coords) (k0_t2 : Fin (k0_t2_loop i).trips) : Fin 4 → Nat :=
  let c1_i32_444 : BitVec 32 := 1#32
  let c0_i32_391 : BitVec 32 := 0#32
  let arg2 : BitVec 32 := BitVec.ofNat 32 (i 2).val
  let c4_i32_8 : BitVec 32 := 4#32
  let v23 : BitVec 32 := Scalar.muli arg2 c4_i32_8
  let v729 : BitVec 32 := Scalar.subi v23 c0_i32_391
  let c1_i32_392 : BitVec 32 := 1#32
  let v731 : BitVec 32 := Scalar.divsi v729 c1_i32_392
  let v732 : BitVec 32 := Scalar.muli v731 c1_i32_392
  let v733 : BitVec 32 := Scalar.addi c0_i32_391 v732
  let c1_i32_394 : BitVec 32 := 1#32
  let arg11 : BitVec 32 := Scf.iv v733 c1_i32_394 k0_t2
  let c4_i32_400 : BitVec 32 := 4#32
  let v739 : BitVec 32 := Scalar.addi arg11 c4_i32_400
  let c2_i32_401 : BitVec 32 := 2#32
  let c0_i32_402 : BitVec 32 := 0#32
  let v740 : BitVec 1 := Scalar.cmpi .eq c2_i32_401 c0_i32_402
  let c1_i32_403 : BitVec 32 := 1#32
  let v741 : BitVec 32 := Scalar.select v740 c1_i32_403 c2_i32_401
  let v742 : BitVec 32 := Scalar.remsi v739 v741
  let c0_i32_405 : BitVec 32 := 0#32
  let v744 : BitVec 1 := Scalar.cmpi .slt v742 c0_i32_405
  let c0_i32_406 : BitVec 32 := 0#32
  let v745 : BitVec 1 := Scalar.cmpi .slt v741 c0_i32_406
  let v746 : BitVec 1 := Scalar.xori v744 v745
  let c0_i32_404 : BitVec 32 := 0#32
  let v743 : BitVec 1 := Scalar.cmpi .ne v742 c0_i32_404
  let v747 : BitVec 1 := Scalar.andi v746 v743
  let v748 : BitVec 32 := Scalar.addi v742 v741
  let v749 : BitVec 32 := Scalar.select v747 v748 v742
  let v805 : BitVec 32 := Scalar.subi c1_i32_444 v749
  let v867 : Index := Scalar.indexCast v805
  let c1_470 : Index := 1#32
  let c0_471 : Index := 0#32
  let c0_472 : Index := 0#32
  ![v867.toNat, 1, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== StickRefIdeal.lean ====
abbrev S32768x512 : Shape := ⟨2, ![32768, 512]⟩
abbrev S16x2048x8x64 : Shape := ⟨4, ![16, 2048, 8, 64]⟩
abbrev S16x8x2048x64 : Shape := ⟨4, ![16, 8, 2048, 64]⟩
abbrev S16x8x2048x2048 : Shape := ⟨4, ![16, 8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S32768x512, .bf16⟩
  | .hbm, ⟨2, _⟩ => ⟨S32768x512, .bf16⟩
  | .hbm, ⟨3, _⟩ => ⟨S32768x512, .f32⟩
  | .hbm, ⟨4, _⟩ => ⟨S16x2048x8x64, .f32⟩
  | .hbm, ⟨5, _⟩ => ⟨S16x8x2048x64, .f32⟩
  | .hbm, ⟨6, _⟩ => ⟨S32768x512, .f32⟩
  | .hbm, ⟨7, _⟩ => ⟨S16x2048x8x64, .f32⟩
  | .hbm, ⟨8, _⟩ => ⟨S16x8x2048x64, .f32⟩
  | .hbm, ⟨9, _⟩ => ⟨S32768x512, .f32⟩
  | .hbm, ⟨10, _⟩ => ⟨S16x2048x8x64, .f32⟩
  | .hbm, ⟨11, _⟩ => ⟨S16x8x2048x64, .f32⟩
  | .hbm, ⟨12, _⟩ => ⟨S16x8x2048x2048, .f32⟩
  | .hbm, ⟨13, _⟩ => ⟨S2048, .i32⟩
  | .hbm, ⟨14, _⟩ => ⟨S1x2048, .i32⟩
  | .hbm, ⟨15, _⟩ => ⟨S2048x1, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S16x8x2048x2048, .f32⟩
  | .hbm, ⟨20, _⟩ => ⟨S16x8x2048x2048, .f32⟩
  | .hbm, ⟨21, _⟩ => ⟨S_, .f32⟩
  | .hbm, ⟨22, _⟩ => ⟨S16x8x2048x2048, .f32⟩
  | .hbm, ⟨23, _⟩ => ⟨S16x8x2048x2048, .f32⟩
  | .hbm, ⟨24, _⟩ => ⟨S16x8x2048x2048, .f32⟩
  | .hbm, ⟨25, _⟩ => ⟨S16x8x2048x2048, .f32⟩
  | .hbm, ⟨26, _⟩ => ⟨S16x8x2048x2048, .i1⟩
  | .hbm, ⟨27, _⟩ => ⟨S16x8x2048x2048, .f32⟩
  | .hbm, ⟨28, _⟩ => ⟨S16x8x2048x2048, .f32⟩
  | .hbm, ⟨29, _⟩ => ⟨S16x8x2048x2048, .f32⟩
  | .hbm, ⟨30, _⟩ => ⟨S16x8x2048x2048, .f32⟩
  | .hbm, ⟨31, _⟩ => ⟨S16x8x2048x2048, .f32⟩
  | .hbm, ⟨32, _⟩ => ⟨S16x8x2048x2048, .f32⟩
  | .hbm, ⟨33, _⟩ => ⟨S16x8x2048x2048, .f32⟩
  | .hbm, ⟨34, _⟩ => ⟨S16x8x2048x2048, .f32⟩
  | .hbm, ⟨35, _⟩ => ⟨S16x8x2048x2048, .f32⟩
  | .hbm, ⟨36, _⟩ => ⟨S_, .f32⟩
  | .hbm, ⟨37, _⟩ => ⟨S_, .f32⟩
  | .hbm, ⟨38, _⟩ => ⟨S16x8x2048x2048, .i1⟩
  | .hbm, ⟨39, _⟩ => ⟨S16x8x2048x2048, .f32⟩
  | .hbm, ⟨40, _⟩ => ⟨S16x8x2048x2048, .f32⟩
  | .hbm, ⟨41, _⟩ => ⟨S_, .f32⟩
  | .hbm, ⟨42, _⟩ => ⟨S_, .f32⟩
  | .hbm, ⟨43, _⟩ => ⟨S16x8x2048x2048, .f32⟩
  | .hbm, ⟨44, _⟩ => ⟨S16x8x2048x2048, .f32⟩
  | .hbm, ⟨45, _⟩ => ⟨S16x8x2048x2048, .f32⟩
  | .hbm, ⟨46, _⟩ => ⟨S_, .f32⟩
  | .hbm, ⟨47, _⟩ => ⟨S16x8x2048x2048, .f32⟩
  | .hbm, ⟨48, _⟩ => ⟨S16x8x2048x2048, .f32⟩
  | .hbm, ⟨49, _⟩ => ⟨S16x8x2048x2048, .f32⟩
  | .hbm, ⟨50, _⟩ => ⟨S16x8x2048x2048, .f32⟩
  | .hbm, ⟨51, _⟩ => ⟨S16x8x2048x2048, .i1⟩
  | .hbm, ⟨52, _⟩ => ⟨S16x8x2048x2048, .f32⟩
  | .hbm, ⟨53, _⟩ => ⟨S16x8x2048x2048, .f32⟩
  | .hbm, ⟨54, _⟩ => ⟨S16x8x2048x2048, .f32⟩
  | .hbm, ⟨55, _⟩ => ⟨S16x8x2048x2048, .f32⟩
  | .hbm, ⟨56, _⟩ => ⟨S16x8x2048x2048, .f32⟩
  | .hbm, ⟨57, _⟩ => ⟨S16x8x2048x2048, .f32⟩
  | .hbm, ⟨58, _⟩ => ⟨S16x8x2048x2048, .f32⟩
  | .hbm, ⟨59, _⟩ => ⟨S16x8x2048x2048, .f32⟩
  | .hbm, ⟨60, _⟩ => ⟨S16x8x2048x2048, .f32⟩
  | .hbm, ⟨61, _⟩ => ⟨S16x8x2048x2048, .f32⟩
  | .hbm, ⟨62, _⟩ => ⟨S16x8x2048x2048, .f32⟩
  | .hbm, ⟨63, _⟩ => ⟨S_, .f32⟩
  | .hbm, ⟨64, _⟩ => ⟨S_, .f32⟩
  | .hbm, ⟨65, _⟩ => ⟨S16x8x2048x2048, .i1⟩
  | .hbm, ⟨66, _⟩ => ⟨S16x8x2048x2048, .f32⟩
  | .hbm, ⟨67, _⟩ => ⟨S16x8x2048x2048, .f32⟩
  | .hbm, ⟨68, _⟩ => ⟨S16x8x2048x64, .f32⟩
  | .hbm, ⟨69, _⟩ => ⟨S16x2048x8x64, .f32⟩
  | .hbm, ⟨70, _⟩ => ⟨S32768x512, .f32⟩
  | .hbm, ⟨71, _⟩ => ⟨S32768x512, .bf16⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_call2_cst : Ref sig .tc := ⟨.hbm, 41, rfl⟩
abbrev main_call2_v0 : Ref sig .tc := ⟨.hbm, 42, rfl⟩
abbrev main_v19 : Ref sig .tc := ⟨.hbm, 43, rfl⟩
abbrev main_v20 : Ref sig .tc := ⟨.hbm, 44, rfl⟩
abbrev main_call3_v0 : Ref sig .tc := ⟨.hbm, 45, rfl⟩
abbrev main_call3_call0_cst : Ref sig .tc := ⟨.hbm, 46, rfl⟩
abbrev main_call3_call0_v0 : Ref sig .tc := ⟨.hbm, 47, rfl⟩
abbrev main_call3_call0_v1 : Ref sig .tc := ⟨.hbm, 48, rfl⟩
abbrev main_call3_call0_v2 : Ref sig .tc := ⟨.hbm, 49, rfl⟩
abbrev main_call3_call0_v3 : Ref sig .tc := ⟨.hbm, 50, rfl⟩
abbrev main_call3_call0_v4 : Ref sig .tc := ⟨.hbm, 51, rfl⟩
abbrev main_call3_call0_v5 : Ref sig .tc := ⟨.hbm, 52, rfl⟩
abbrev main_call3_call0_v6 : Ref sig .tc := ⟨.hbm, 53, rfl⟩
abbrev main_call3_call0_v7 : Ref sig .tc := ⟨.hbm, 54, rfl⟩
abbrev main_call3_call0_v8 : Ref sig .tc := ⟨.hbm, 55, rfl⟩
abbrev main_call3_call0_v9 : Ref sig .tc := ⟨.hbm, 56, rfl⟩
abbrev main_call3_call0_v10 : Ref sig .tc := ⟨.hbm, 57, rfl⟩
abbrev main_call3_call0_v11 : Ref sig .tc := ⟨.hbm, 58, rfl⟩
abbrev main_call3_v1 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_cst_0 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩

abbrev nD : Nat := 1
abbrev τ : Topo := Topo.v7x

variable {F : FTy → Type} [FloatOps F]
-- ==== AbIn.lean ====
abbrev S32768x1024 : Shape := ⟨2, ![32768, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S1024x3072 : Shape := ⟨2, ![1024, 3072]⟩
abbrev S1024x16 : Shape := ⟨2, ![1024, 16]⟩
abbrev S_ : Shape := ⟨0, ![]⟩
abbrev S1024x128 : Shape := ⟨2, ![1024, 128]⟩
abbrev S128x256 : Shape := ⟨2, ![128, 256]⟩
abbrev S1x1024 : Shape := ⟨2, ![1, 1024]⟩
abbrev S1x256 : Shape := ⟨2, ![1, 256]⟩
abbrev S32768x512 : Shape := ⟨2, ![32768, 512]⟩
abbrev S32768x256 : Shape := ⟨2, ![32768, 256]⟩
abbrev S512x1024 : Shape := ⟨2, ![512, 1024]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S1024x512 : Shape := ⟨2, ![1024, 512]⟩
abbrev S1024x256 : Shape := ⟨2, ![1024, 256]⟩
abbrev S512x128 : Shape := ⟨2, ![512, 128]⟩

abbrev nBuf : Space → Nat
  | .hbm => 26
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S1024x3072, .f32⟩
  | .hbm, ⟨6, _⟩ => ⟨S1024x3072, .bf16⟩
  | .hbm, ⟨7, _⟩ => ⟨S1024x16, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x128, .bf16⟩
  | .hbm, ⟨12, _⟩ => ⟨S_, .i32⟩
  | .hbm, ⟨13, _⟩ => ⟨S_, .f32⟩
  | .hbm, ⟨14, _⟩ => ⟨S128x256, .f32⟩
  | .hbm, ⟨15, _⟩ => ⟨S128x256, .bf16⟩
  | .hbm, ⟨16, _⟩ => ⟨S1x1024, .f32⟩
  | .hbm, ⟨17, _⟩ => ⟨S1x256, .f32⟩
  | .hbm, ⟨18, _⟩ => ⟨S32768x512, .bf16⟩
  | .hbm, ⟨19, _⟩ => ⟨S32768x512, .bf16⟩
  | .hbm, ⟨20, _⟩ => ⟨S32768x512, .bf16⟩
  | .hbm, ⟨21, _⟩ => ⟨S32768x256, .f32⟩
  | .hbm, ⟨22, _⟩ => ⟨S32768x256, .f32⟩
  | .hbm, ⟨23, _⟩ => ⟨S32768x512, .bf16⟩
  | .hbm, ⟨24, _⟩ => ⟨S32768x512, .f32⟩
  | .hbm, ⟨25, _⟩ => ⟨S32768x256, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S1024x128, .bf16⟩
  | .local _ .vmem, ⟨5, _⟩ => ⟨S128x256, .bf16⟩
  | .local _ .vmem, ⟨6, _⟩ => ⟨S1x256, .f32⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x512, .bf16⟩
  | .local _ .vmem, ⟨18, _⟩ => ⟨S512x512, .bf16⟩
  | .local _ .vmem, ⟨19, _⟩ => ⟨S512x512, .f32⟩
  | .local _ .vmem, ⟨20, _⟩ => ⟨S512x512, .f32⟩
  | .local _ .vmem, ⟨21, _⟩ => ⟨S512x256, .f32⟩
  | .local _ .vmem, ⟨22, _⟩ => ⟨S512x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_call1_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev main_v9_5 : Ref sig .tc := ⟨.hbm, 23, rfl⟩
abbrev main_v9_6 : Ref sig .tc := ⟨.hbm, 24, rfl⟩
abbrev main_v9_7 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== AbInRefIdeal.lean ====
abbrev S32768x1024 : Shape := ⟨2, ![32768, 1024]⟩
abbrev S1024 : Shape := ⟨1, ![1024]⟩
abbrev S1024x3088 : Shape := ⟨2, ![1024, 3088]⟩
abbrev S16x256 : Shape := ⟨2, ![16, 256]⟩
abbrev S256 : Shape := ⟨1, ![256]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3088 : Shape := ⟨2, ![32768, 3088]⟩
abbrev S32768x512 : Shape := ⟨2, ![32768, 512]⟩
abbrev S32768x256 : Shape := ⟨2, ![32768, 256]⟩
abbrev S32768x16 : Shape := ⟨2, ![32768, 16]⟩
abbrev S1x256 : Shape := ⟨2, ![1, 256]⟩

abbrev nBuf : Space → Nat
  | .hbm => 60
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3088, .f32⟩
  | .hbm, ⟨3, _⟩ => ⟨S16x256, .f32⟩
  | .hbm, ⟨4, _⟩ => ⟨S256, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x3088, .f32⟩
  | .hbm, ⟨22, _⟩ => ⟨S32768x512, .f32⟩
  | .hbm, ⟨23, _⟩ => ⟨S32768x512, .f32⟩
  | .hbm, ⟨24, _⟩ => ⟨S32768x512, .f32⟩
  | .hbm, ⟨25, _⟩ => ⟨S32768x256, .f32⟩
  | .hbm, ⟨26, _⟩ => ⟨S32768x256, .f32⟩
  | .hbm, ⟨27, _⟩ => ⟨S32768x512, .f32⟩
  | .hbm, ⟨28, _⟩ => ⟨S32768x512, .f32⟩
  | .hbm, ⟨29, _⟩ => ⟨S32768x16, .f32⟩
  | .hbm, ⟨30, _⟩ => ⟨S32768x256, .f32⟩
  | .hbm, ⟨31, _⟩ => ⟨S1x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S_, .f32⟩
  | .hbm, ⟨36, _⟩ => ⟨S32768x256, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .i1⟩
  | .hbm, ⟨41, _⟩ => ⟨S32768x256, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S32768x256, .f32⟩
  | .hbm, ⟨50, _⟩ => ⟨S_, .f32⟩
  | .hbm, ⟨51, _⟩ => ⟨S32768x256, .f32⟩
  | .hbm, ⟨52, _⟩ => ⟨S32768x256, .f32⟩
  | .hbm, ⟨53, _⟩ => ⟨S_, .f32⟩
  | .hbm, ⟨54, _⟩ => ⟨S32768x512, .f32⟩
  | .hbm, ⟨55, _⟩ => ⟨S32768x512, .f32⟩
  | .hbm, ⟨56, _⟩ => ⟨S32768x512, .bf16⟩
  | .hbm, ⟨57, _⟩ => ⟨S32768x512, .bf16⟩
  | .hbm, ⟨58, _⟩ => ⟨S32768x512, .bf16⟩
  | .hbm, ⟨59, _⟩ => ⟨S32768x512, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_call0_v0 : Ref sig .tc := ⟨.hbm, 34, rfl⟩
abbrev main_call0_call0_cst : Ref sig .tc := ⟨.hbm, 35, rfl⟩
abbrev main_call0_call0_v0 : Ref sig .tc := ⟨.hbm, 36, rfl⟩
abbrev main_call0_call0_v1 : Ref sig .tc := ⟨.hbm, 37, rfl⟩
abbrev main_call0_call0_v2 : Ref sig .tc := ⟨.hbm, 38, rfl⟩
abbrev main_call0_call0_v3 : Ref sig .tc := ⟨.hbm, 39, rfl⟩
abbrev main_call0_call0_v4 : Ref sig .tc := ⟨.hbm, 40, rfl⟩
abbrev main_call0_call0_v5 : Ref sig .tc := ⟨.hbm, 41, rfl⟩
abbrev main_call0_call0_v6 : Ref sig .tc := ⟨.hbm, 42, rfl⟩
abbrev main_call0_call0_v7 : Ref sig .tc := ⟨.hbm, 43, rfl⟩
abbrev main_call0_call0_v8 : Ref sig .tc := ⟨.hbm, 44, rfl⟩
abbrev main_call0_call0_v9 : Ref sig .tc := ⟨.hbm, 45, rfl⟩
abbrev main_call0_call0_v10 : Ref sig .tc := ⟨.hbm, 46, rfl⟩
abbrev main_call0_call0_v11 : Ref sig .tc := ⟨.hbm, 47, rfl⟩
abbrev main_call0_v1 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_cst_3 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩

abbrev nD : Nat := 1
abbrev τ : Topo := Topo.v7x

variable {F : FTy → Type} [FloatOps F]
-- ==== AbOut.lean ====
abbrev S32768x1024 : Shape := ⟨2, ![32768, 1024]⟩
abbrev S32768x512 : Shape := ⟨2, ![32768, 512]⟩
abbrev S1024x1024 : Shape := ⟨2, ![1024, 1024]⟩
abbrev S512x1024 : Shape := ⟨2, ![512, 1024]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S1024x1024, .bf16⟩
  | .hbm, ⟨5, _⟩ => ⟨S512x1024, .bf16⟩
  | .hbm, ⟨6, _⟩ => ⟨S512x1024, .bf16⟩
  | .hbm, ⟨7, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AbOutRefIdeal.lean ====
abbrev S32768x1024 : Shape := ⟨2, ![32768, 1024]⟩
abbrev S32768x512 : Shape := ⟨2, ![32768, 512]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S1024x1024, .f32⟩
  | .hbm, ⟨4, _⟩ => ⟨S32768x512, .f32⟩
  | .hbm, ⟨5, _⟩ => ⟨S32768x512, .f32⟩
  | .hbm, ⟨6, _⟩ => ⟨S32768x1024, .f32⟩
  | .hbm, ⟨7, _⟩ => ⟨S32768x1024, .f32⟩
  | .hbm, ⟨8, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Final.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1x1024, .f32⟩
  | .hbm, ⟨3, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalRefIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S32768x1024, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S_, .f32⟩
  | .hbm, ⟨7, _⟩ => ⟨S32768x1, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S32768x1, .f32⟩
  | .hbm, ⟨13, _⟩ => ⟨S32768x1024, .f32⟩
  | .hbm, ⟨14, _⟩ => ⟨S32768x1024, .f32⟩
  | .hbm, ⟨15, _⟩ => ⟨S1x1024, .f32⟩
  | .hbm, ⟨16, _⟩ => ⟨S32768x1024, .f32⟩
  | .hbm, ⟨17, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Gla.lean ====
abbrev S32768x256 : Shape := ⟨2, ![32768, 256]⟩
abbrev S32768x512 : Shape := ⟨2, ![32768, 512]⟩
abbrev S512 : Shape := ⟨1, ![512]⟩
abbrev S1x512 : Shape := ⟨2, ![1, 512]⟩
abbrev S2048x256 : Shape := ⟨2, ![2048, 256]⟩
abbrev S2048x512 : Shape := ⟨2, ![2048, 512]⟩
abbrev S64x64 : Shape := ⟨2, ![64, 64]⟩
abbrev S64x128 : Shape := ⟨2, ![64, 128]⟩
abbrev S256x128 : Shape := ⟨2, ![256, 128]⟩
abbrev S1x128 : Shape := ⟨2, ![1, 128]⟩
abbrev S64x256 : Shape := ⟨2, ![64, 256]⟩
abbrev S64 : Shape := ⟨1, ![64]⟩
abbrev S64x1 : Shape := ⟨2, ![64, 1]⟩
abbrev S1x256 : Shape := ⟨2, ![1, 256]⟩

abbrev nBuf : Space → Nat
  | .hbm => 8
  | .vmem => 13
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x512, .bf16⟩
  | .hbm, ⟨4, _⟩ => ⟨S32768x512, .f32⟩
  | .hbm, ⟨5, _⟩ => ⟨S512, .f32⟩
  | .hbm, ⟨6, _⟩ => ⟨S1x512, .f32⟩
  | .hbm, ⟨7, _⟩ => ⟨S32768x512, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | .local _ .vmem, ⟨9, _⟩ => ⟨S2048x512, .f32⟩
  | .local _ .vmem, ⟨10, _⟩ => ⟨S1x512, .f32⟩
  | .local _ .vmem, ⟨11, _⟩ => ⟨S2048x512, .bf16⟩
  | .local _ .vmem, ⟨12, _⟩ => ⟨S2048x512, .bf16⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c32_i32 : BitVec 32 := 32#32
  let v19 : BitVec 32 := Scalar.addi c0_i32 c32_i32
  let c1_i32 : BitVec 32 := 1#32
  ⟨c0_i32, v19, c1_i32⟩
def k0_mult1 (k0_t1 : Fin k0_t1_loop.trips) : BitVec 32 :=
  let c0_i32 : BitVec 32 := 0#32
  let c1_i32 : BitVec 32 := 1#32
  let arg8 : BitVec 32 := Scf.iv c0_i32 c1_i32 k0_t1
  let c64_i32_6 : BitVec 32 := 64#32
  let v21 : BitVec 32 := Scalar.muli arg8 c64_i32_6
  v21
def k0_off1 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32_6 : BitVec 32 := 64#32
  let v21 : BitVec 32 := Scalar.muli arg8 c64_i32_6
  let v22 : BitVec 32 := v21
  let v23 : Index := Scalar.indexCast v22
  let c0 : Index := 0#32
  ![v23.toNat, 0]
def k0_off2 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32_6 : BitVec 32 := 64#32
  let v21 : BitVec 32 := Scalar.muli arg8 c64_i32_6
  let v22 : BitVec 32 := v21
  let v45 : Index := Scalar.indexCast v22
  let c0_12 : Index := 0#32
  ![v45.toNat, 0]
def k0_off3 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32_6 : BitVec 32 := 64#32
  let v21 : BitVec 32 := Scalar.muli arg8 c64_i32_6
  let v22 : BitVec 32 := v21
  let v109 : Index := Scalar.indexCast v22
  let c128 : Index := 128#32
  ![v109.toNat, 128]
def k0_off4 (k0_t1 : Fin k0_t1_loop.trips) : Fin 2 → Nat :=
  let c0_i32 : BitVec 32 := 0#32
  let c1_i32 : BitVec 32 := 1#32
  let arg8 : BitVec 32 := Scf.iv c0_i32 c1_i32 k0_t1
  let c64_i32_6 : BitVec 32 := 64#32
  let v21 : BitVec 32 := Scalar.muli arg8 c64_i32_6
  let v22 : BitVec 32 := v21
  let v131 : Index := Scalar.indexCast v22
  let c256 : Index := 256#32
  ![v131.toNat, 256]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GlaRefIdeal.lean ====
abbrev S32768x256 : Shape := ⟨2, ![32768, 256]⟩
abbrev S32768x512 : Shape := ⟨2, ![32768, 512]⟩
abbrev S512 : Shape := ⟨1, ![512]⟩
abbrev S_ : Shape := ⟨0, ![]⟩
abbrev S16x4x64x128 : Shape := ⟨4, ![16, 4, 64, 128]⟩
abbrev S16x32x64x4x64 : Shape := ⟨5, ![16, 32, 64, 4, 64]⟩
abbrev S32x16x4x64x64 : Shape := ⟨5, ![32, 16, 4, 64, 64]⟩
abbrev S16x32x64x4x128 : Shape := ⟨5, ![16, 32, 64, 4, 128]⟩
abbrev S32x16x4x64x128 : Shape := ⟨5, ![32, 16, 4, 64, 128]⟩
abbrev S1x16x4x64x64 : Shape := ⟨5, ![1, 16, 4, 64, 64]⟩
abbrev S16x4x64x64 : Shape := ⟨4, ![16, 4, 64, 64]⟩
abbrev S1x16x4x64x128 : Shape := ⟨5, ![1, 16, 4, 64, 128]⟩
abbrev S64x64 : Shape := ⟨2, ![64, 64]⟩
abbrev S16x4x1x64 : Shape := ⟨4, ![16, 4, 1, 64]⟩
abbrev S16x4x64 : Shape := ⟨3, ![16, 4, 64]⟩
abbrev S16x4x64x1 : Shape := ⟨4, ![16, 4, 64, 1]⟩
abbrev S32x16x4x64 : Shape := ⟨4, ![32, 16, 4, 64]⟩
abbrev S32x16x4x64x1 : Shape := ⟨5, ![32, 16, 4, 64, 1]⟩
abbrev S1x512 : Shape := ⟨2, ![1, 512]⟩

abbrev nBuf : Space → Nat
  | .hbm => 133
  | .vmem => 0
  | .smem => 0
  | _ => 0

abbrev hbmTy0_0 (i : Nat) : BufTy := match i % 128 with
  | 0 => ⟨S32768x256, .f32⟩
  | 1 => ⟨S32768x256, .f32⟩
  | 2 => ⟨S32768x256, .f32⟩
  | 3 => ⟨S32768x512, .bf16⟩
  | 4 => ⟨S32768x512, .f32⟩
  | 5 => ⟨S512, .f32⟩
  | 6 => ⟨S_, .f32⟩
  | 7 => ⟨S16x4x64x128, .f32⟩
  | 8 => ⟨S16x32x64x4x64, .f32⟩
  | 9 => ⟨S32x16x4x64x64, .f32⟩
  | 10 => ⟨S16x32x64x4x64, .f32⟩
  | 11 => ⟨S32x16x4x64x64, .f32⟩
  | 12 => ⟨S16x32x64x4x64, .f32⟩
  | 13 => ⟨S32x16x4x64x64, .f32⟩
  | 14 => ⟨S32768x512, .f32⟩
  | 15 => ⟨S16x32x64x4x128, .f32⟩
  | 16 => ⟨S32x16x4x64x128, .f32⟩
  | 17 => ⟨S_, .f32⟩
  | 18 => ⟨S32x16x4x64x128, .f32⟩
  | 19 => ⟨S_, .i32⟩
  | 20 => ⟨S32x16x4x64x64, .f32⟩
  | 21 => ⟨S32x16x4x64x64, .f32⟩
  | 22 => ⟨S32x16x4x64x64, .f32⟩
  | 23 => ⟨S32x16x4x64x128, .f32⟩
  | 24 => ⟨S_, .i32⟩
  | 25 => ⟨S16x4x64x128, .f32⟩
  | 26 => ⟨S32x16x4x64x128, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S1x16x4x64x64, .f32⟩
  | 34 => ⟨S16x4x64x64, .f32⟩
  | 35 => ⟨S_, .i32⟩
  | 36 => ⟨S_, .i32⟩
  | 37 => ⟨S_, .i32⟩
  | 38 => ⟨S_, .i32⟩
  | 39 => ⟨S1x16x4x64x64, .f32⟩
  | 40 => ⟨S16x4x64x64, .f32⟩
  | 41 => ⟨S_, .i32⟩
  | 42 => ⟨S_, .i32⟩
  | 43 => ⟨S_, .i32⟩
  | 44 => ⟨S_, .i32⟩
  | 45 => ⟨S1x16x4x64x64, .f32⟩
  | 46 => ⟨S16x4x64x64, .f32⟩
  | 47 => ⟨S_, .i32⟩
  | 48 => ⟨S_, .i32⟩
  | 49 => ⟨S_, .i32⟩
  | 50 => ⟨S_, .i32⟩
  | 51 => ⟨S1x16x4x64x128, .f32⟩
  | 52 => ⟨S16x4x64x128, .f32⟩
  | 53 => ⟨S_, .f32⟩
  | 54 => ⟨S_, .f32⟩
  | 55 => ⟨S16x4x64x64, .f32⟩
  | 56 => ⟨S_, .f32⟩
  | 57 => ⟨S16x4x64x64, .f32⟩
  | 58 => ⟨S16x4x64x64, .f32⟩
  | 59 => ⟨S16x4x64x64, .f32⟩
  | 60 => ⟨S16x4x64x64, .f32⟩
  | 61 => ⟨S16x4x64x64, .f32⟩
  | 62 => ⟨S16x4x64x64, .f32⟩
  | 63 => ⟨S16x4x64x64, .f32⟩
  | 64 => ⟨S_, .i1⟩
  | 65 => ⟨S64x64, .i1⟩
  | 66 => ⟨S64x64, .i32⟩
  | 67 => ⟨S_, .i32⟩
  | 68 => ⟨S64x64, .i32⟩
  | 69 => ⟨S64x64, .i32⟩
  | 70 => ⟨S64x64, .i32⟩
  | 71 => ⟨S64x64, .i1⟩
  | 72 => ⟨S_, .i1⟩
  | 73 => ⟨S64x64, .i1⟩
  | 74 => ⟨S64x64, .i1⟩
  | 75 => ⟨S16x4x64x64, .f32⟩
  | 76 => ⟨S_, .f32⟩
  | 77 => ⟨S_, .f32⟩
  | 78 => ⟨S16x4x64x64, .i1⟩
  | 79 => ⟨S16x4x64x64, .f32⟩
  | 80 => ⟨S16x4x64x64, .f32⟩
  | 81 => ⟨S16x4x64x128, .f32⟩
  | 82 => ⟨S16x4x64x128, .f32⟩
  | 83 => ⟨S16x4x64x128, .f32⟩
  | 84 => ⟨S16x4x1x64, .f32⟩
  | 85 => ⟨S16x4x64x64, .f32⟩
  | 86 => ⟨S16x4x64x64, .f32⟩
  | 87 => ⟨S16x4x64x64, .f32⟩
  | 88 => ⟨S16x4x64x64, .f32⟩
  | 89 => ⟨S16x4x64x128, .f32⟩
  | 90 => ⟨S16x4x64, .f32⟩
  | 91 => ⟨S16x4x64, .f32⟩
  | 92 => ⟨S16x4x64x1, .f32⟩
  | 93 => ⟨S16x4x64x128, .f32⟩
  | 94 => ⟨S16x4x64x128, .f32⟩
  | 95 => ⟨S16x4x64x128, .f32⟩
  | 96 => ⟨S1x16x4x64x128, .f32⟩
  | 97 => ⟨S_, .i32⟩
  | 98 => ⟨S_, .i32⟩
  | 99 => ⟨S_, .i32⟩
  | 100 => ⟨S_, .i32⟩
  | 101 => ⟨S32x16x4x64x128, .f32⟩
  | 102 => ⟨S_, .i32⟩
  | 103 => ⟨S_, .i32⟩
  | 104 => ⟨S32x16x4x64x128, .f32⟩
  | 105 => ⟨S_, .f32⟩
  | 106 => ⟨S32x16x4x64, .f32⟩
  | 107 => ⟨S32x16x4x64x1, .f32⟩
  | 108 => ⟨S_, .f32⟩
  | 109 => ⟨S32x16x4x64x1, .f32⟩
  | 110 => ⟨S32x16x4x64x1, .f32⟩
  | 111 => ⟨S_, .f32⟩
  | 112 => ⟨S32x16x4x64x1, .f32⟩
  | 113 => ⟨S32x16x4x64x1, .f32⟩
  | 114 => ⟨S32x16x4x64x1, .f32⟩
  | 115 => ⟨S32x16x4x64x128, .f32⟩
  | 116 => ⟨S32x16x4x64x128, .f32⟩
  | 117 => ⟨S16x32x64x4x128, .f32⟩
  | 118 => ⟨S32768x512, .f32⟩
  | 119 => ⟨S1x512, .f32⟩
  | 120 => ⟨S32768x512, .f32⟩
  | 121 => ⟨S32768x512, .f32⟩
  | 122 => ⟨S32768x512, .f32⟩
  | 123 => ⟨S32768x512, .f32⟩
  | 124 => ⟨S_, .f32⟩
  | 125 => ⟨S32768x512, .f32⟩
  | 126 => ⟨S32768x512, .f32⟩
  | 127 => ⟨S_, .f32⟩
  | _ => ⟨S32768x256, .f32⟩

abbrev hbmTy0_1 (i : Nat) : BufTy := match i % 128 with
  | 0 => ⟨S32768x512, .f32⟩
  | 1 => ⟨S32768x512, .f32⟩
  | 2 => ⟨S32768x512, .f32⟩
  | 3 => ⟨S32768x512, .f32⟩
  | 4 => ⟨S32768x512, .bf16⟩
  | _ => ⟨S32768x256, .f32⟩

abbrev hbmTy (i : Nat) : BufTy := match i / 128 with
  | 0 => hbmTy0_0 i
  | 1 => hbmTy0_1 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_c : Ref sig .tc := ⟨.hbm, 19, rfl⟩
abbrev main_v11_0 : Ref sig .tc := ⟨.hbm, 20, rfl⟩
abbrev main_v11_1 : Ref sig .tc := ⟨.hbm, 21, rfl⟩
abbrev main_v11_2 : Ref sig .tc := ⟨.hbm, 22, rfl⟩
abbrev main_v11_3 : Ref sig .tc := ⟨.hbm, 23, rfl⟩
abbrev main_v11_4 : Ref sig .tc := ⟨.hbm, 24, rfl⟩
abbrev main_v11_5 : Ref sig .tc := ⟨.hbm, 25, rfl⟩
abbrev main_v11_6 : Ref sig .tc := ⟨.hbm, 26, rfl⟩
abbrev main_while0c_c_10 : Ref sig .tc := ⟨.hbm, 27, rfl⟩
abbrev main_while0c_v30 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_c_1 : Ref sig .tc := ⟨.hbm, 31, rfl⟩
abbrev main_while0b_call0_c_2 : Ref sig .tc := ⟨.hbm, 32, rfl⟩
abbrev main_while0b_call0_v0 : Ref sig .tc := ⟨.hbm, 33, rfl⟩
abbrev main_while0b_v30 : Ref sig .tc := ⟨.hbm, 34, rfl⟩
abbrev main_while0b_call1_c : Ref sig .tc := ⟨.hbm, 35, rfl⟩
abbrev main_while0b_call1_c_0 : Ref sig .tc := ⟨.hbm, 36, rfl⟩
abbrev main_while0b_call1_c_1 : Ref sig .tc := ⟨.hbm, 37, rfl⟩
abbrev main_while0b_call1_c_2 : Ref sig .tc := ⟨.hbm, 38, rfl⟩
abbrev main_while0b_call1_v0 : Ref sig .tc := ⟨.hbm, 39, rfl⟩
abbrev main_while0b_v31 : Ref sig .tc := ⟨.hbm, 40, rfl⟩
abbrev main_while0b_call2_c : Ref sig .tc := ⟨.hbm, 41, rfl⟩
abbrev main_while0b_call2_c_0 : Ref sig .tc := ⟨.hbm, 42, rfl⟩
abbrev main_while0b_call2_c_1 : Ref sig .tc := ⟨.hbm, 43, rfl⟩
abbrev main_while0b_call2_c_2 : Ref sig .tc := ⟨.hbm, 44, rfl⟩
abbrev main_while0b_call2_v0 : Ref sig .tc := ⟨.hbm, 45, rfl⟩
abbrev main_while0b_v32 : Ref sig .tc := ⟨.hbm, 46, rfl⟩
abbrev main_while0b_call3_c : Ref sig .tc := ⟨.hbm, 47, rfl⟩
abbrev main_while0b_call3_c_0 : Ref sig .tc := ⟨.hbm, 48, rfl⟩
abbrev main_while0b_call3_c_1 : Ref sig .tc := ⟨.hbm, 49, rfl⟩
abbrev main_while0b_call3_c_2 : Ref sig .tc := ⟨.hbm, 50, rfl⟩
abbrev main_while0b_call3_v0 : Ref sig .tc := ⟨.hbm, 51, rfl⟩
abbrev main_while0b_v33 : Ref sig .tc := ⟨.hbm, 52, rfl⟩
abbrev main_while0b_call4_call0_cst : Ref sig .tc := ⟨.hbm, 53, rfl⟩
abbrev main_while0b_call4_call0_v0 : Ref sig .tc := ⟨.hbm, 54, rfl⟩
abbrev main_while0b_v34 : Ref sig .tc := ⟨.hbm, 55, rfl⟩
abbrev main_while0b_cst_10 : Ref sig .tc := ⟨.hbm, 56, rfl⟩
abbrev main_while0b_v35 : Ref sig .tc := ⟨.hbm, 57, rfl⟩
abbrev main_while0b_v36 : Ref sig .tc := ⟨.hbm, 58, rfl⟩
abbrev main_while0b_v37 : Ref sig .tc := ⟨.hbm, 59, rfl⟩
abbrev main_while0b_v38 : Ref sig .tc := ⟨.hbm, 60, rfl⟩
abbrev main_while0b_v39 : Ref sig .tc := ⟨.hbm, 61, rfl⟩
abbrev main_while0b_v40 : Ref sig .tc := ⟨.hbm, 62, rfl⟩
abbrev main_while0b_v41 : Ref sig .tc := ⟨.hbm, 63, rfl⟩
abbrev main_while0b_c_11 : Ref sig .tc := ⟨.hbm, 64, rfl⟩
abbrev main_while0b_v42 : Ref sig .tc := ⟨.hbm, 65, rfl⟩
abbrev main_while0b_call5_v0 : Ref sig .tc := ⟨.hbm, 66, rfl⟩
abbrev main_while0b_call5_c : Ref sig .tc := ⟨.hbm, 67, rfl⟩
abbrev main_while0b_call5_v1 : Ref sig .tc := ⟨.hbm, 68, rfl⟩
abbrev main_while0b_call5_v2 : Ref sig .tc := ⟨.hbm, 69, rfl⟩
abbrev main_while0b_call5_v3 : Ref sig .tc := ⟨.hbm, 70, rfl⟩
abbrev main_while0b_call5_v4 : Ref sig .tc := ⟨.hbm, 71, rfl⟩
abbrev main_while0b_call5_c_0 : Ref sig .tc := ⟨.hbm, 72, rfl⟩
abbrev main_while0b_call5_v5 : Ref sig .tc := ⟨.hbm, 73, rfl⟩
abbrev main_while0b_v43 : Ref sig .tc := ⟨.hbm, 74, rfl⟩
abbrev main_while0b_v44 : Ref sig .tc := ⟨.hbm, 75, rfl⟩
abbrev main_while0b_cst_12 : Ref sig .tc := ⟨.hbm, 76, rfl⟩
abbrev main_while0b_call6_v0 : Ref sig .tc := ⟨.hbm, 77, rfl⟩
abbrev main_while0b_call6_v1 : Ref sig .tc := ⟨.hbm, 78, rfl⟩
abbrev main_while0b_call6_v2 : Ref sig .tc := ⟨.hbm, 79, rfl⟩
abbrev main_while0b_v45 : Ref sig .tc := ⟨.hbm, 80, rfl⟩
abbrev main_while0b_v46 : Ref sig .tc := ⟨.hbm, 81, rfl⟩
abbrev main_while0b_v47 : Ref sig .tc := ⟨.hbm, 82, rfl⟩
abbrev main_while0b_v48 : Ref sig .tc := ⟨.hbm, 83, rfl⟩
abbrev main_while0b_v49 : Ref sig .tc := ⟨.hbm, 84, rfl⟩
abbrev main_while0b_v50 : Ref sig .tc := ⟨.hbm, 85, rfl⟩
abbrev main_while0b_v51 : Ref sig .tc := ⟨.hbm, 86, rfl⟩
abbrev main_while0b_v52 : Ref sig .tc := ⟨.hbm, 87, rfl⟩
abbrev main_while0b_v53 : Ref sig .tc := ⟨.hbm, 88, rfl⟩
abbrev main_while0b_v54 : Ref sig .tc := ⟨.hbm, 89, rfl⟩
abbrev main_while0b_v55 : Ref sig .tc := ⟨.hbm, 90, rfl⟩
abbrev main_while0b_v56 : Ref sig .tc := ⟨.hbm, 91, rfl⟩
abbrev main_while0b_v57 : Ref sig .tc := ⟨.hbm, 92, rfl⟩
abbrev main_while0b_v58 : Ref sig .tc := ⟨.hbm, 93, rfl⟩
abbrev main_while0b_v59 : Ref sig .tc := ⟨.hbm, 94, rfl⟩
abbrev main_while0b_v60 : Ref sig .tc := ⟨.hbm, 95, rfl⟩
abbrev main_while0b_call7_v0 : Ref sig .tc := ⟨.hbm, 96, rfl⟩
abbrev main_while0b_call7_c : Ref sig .tc := ⟨.hbm, 97, rfl⟩
abbrev main_while0b_call7_c_0 : Ref sig .tc := ⟨.hbm, 98, rfl⟩
abbrev main_while0b_call7_c_1 : Ref sig .tc := ⟨.hbm, 99, rfl⟩
abbrev main_while0b_call7_c_2 : Ref sig .tc := ⟨.hbm, 100, rfl⟩
abbrev main_while0b_v61 : Ref sig .tc := ⟨.hbm, 101, rfl⟩
abbrev main_while0b_c_13 : Ref sig .tc := ⟨.hbm, 102, rfl⟩
abbrev main_while0b_v62 : Ref sig .tc := ⟨.hbm, 103, rfl⟩
abbrev main_v12 : Ref sig .tc := ⟨.hbm, 104, rfl⟩
abbrev main_cst_1 : Ref sig .tc := ⟨.hbm, 105, rfl⟩
abbrev main_v13 : Ref sig .tc := ⟨.hbm, 106, rfl⟩
abbrev main_v14 : Ref sig .tc := ⟨.hbm, 107, rfl⟩
abbrev main_cst_2 : Ref sig .tc := ⟨.hbm, 108, rfl⟩
abbrev main_v15 : Ref sig .tc := ⟨.hbm, 109, rfl⟩
abbrev main_v16 : Ref sig .tc := ⟨.hbm, 110, rfl⟩
abbrev main_cst_3 : Ref sig .tc := ⟨.hbm, 111, rfl⟩
abbrev main_v17 : Ref sig .tc := ⟨.hbm, 112, rfl⟩
abbrev main_v18 : Ref sig .tc := ⟨.hbm, 113, rfl⟩
abbrev main_v19 : Ref sig .tc := ⟨.hbm, 114, rfl⟩
abbrev main_v20 : Ref sig .tc := ⟨.hbm, 115, rfl⟩
abbrev main_v21 : Ref sig .tc := ⟨.hbm, 116, rfl⟩
abbrev main_v22 : Ref sig .tc := ⟨.hbm, 117, rfl⟩
abbrev main_v23 : Ref sig .tc := ⟨.hbm, 118, rfl⟩
abbrev main_v24 : Ref sig .tc := ⟨.hbm, 119, rfl⟩
abbrev main_v25 : Ref sig .tc := ⟨.hbm, 120, rfl⟩
abbrev main_v26 : Ref sig .tc := ⟨.hbm, 121, rfl⟩
abbrev main_call8_v0 : Ref sig .tc := ⟨.hbm, 122, rfl⟩
abbrev main_call8_v1 : Ref sig .tc := ⟨.hbm, 123, rfl⟩
abbrev main_call8_cst : Ref sig .tc := ⟨.hbm, 124, rfl⟩
abbrev main_call8_v2 : Ref sig .tc := ⟨.hbm, 125, rfl⟩
abbrev main_call8_v3 : Ref sig .tc := ⟨.hbm, 126, rfl⟩
abbrev main_call8_cst_0 : Ref sig .tc := ⟨.hbm, 127, rfl⟩
abbrev main_call8_v4 : Ref sig .tc := ⟨.hbm, 128, rfl⟩
abbrev main_call8_v5 : Ref sig .tc := ⟨.hbm, 129, rfl⟩
abbrev main_v27 : Ref sig .tc := ⟨.hbm, 130, rfl⟩
abbrev main_v28 : Ref sig .tc := ⟨.hbm, 131, rfl⟩
abbrev main_v29 : Ref sig .tc := ⟨.hbm, 132, rfl⟩

abbrev nD : Nat := 1
abbrev τ : Topo := Topo.v7x

variable {F : FTy → Type} [FloatOps F]

abbrev main_while0_count : Scf.Loop 32 := ⟨0#32, 32#32, 1#32⟩
-- ==== Proof.SguCell.lean ====
module

public import proofs.«01_k».proof.Proof.Gen.SguIdeal.Skeleton
public import Idealize.ShloMosaic.Lib.Pointwise

@[expose] public section

set_option maxRecDepth 16384

noncomputable section

/- The values that one grid point of the spatial-gating kernel computes, written as formulas over the input blocks. -/
namespace Cert.Gating
open Cert.SguIdeal Cert.SguIdeal.Gen Idealize.ShloMosaic

/-- The gelu of the kernel: half of `z` times one plus the error function of `z` scaled. -/
def gel (z : EReal) : EReal :=
  Ideal.ofBits FTy.f32 1056964608#32 * z * (1 + Ideal.erf (z * Ideal.ofBits FTy.f32 1060439283#32))

/-- The reciprocal root of a mean square: `s` the sum of squares, `n` the word of the row's length. -/
def rms (s : EReal) (n : BitVec 32) : EReal :=
  Ideal.rsqrt (Ideal.div s (Ideal.ofBits FTy.f32 n) + Ideal.ofBits FTy.f32 897988541#32)

/-- The normalised input row `X` scaled by the gain `G`. -/
def hRow (X G : Fin 1024 → EReal) (k : Fin 1024) : EReal :=
  X k * rms (∑ x, X x * X x) 1149239296#32 * G k

/-- One entry of the input projection of a row, through the gelu. -/
def proj (X G : Fin 1024 → EReal) (W : Fin 1024 → Fin 4096 → EReal) (j : Fin 4096) : EReal :=
  gel (∑ k, hRow X G k * W k j)

/-- The gate half of the projection (columns 2048 to 4095), normalised over its 2048 columns and scaled. -/
def vRow (X G : Fin 1024 → EReal) (W : Fin 1024 → Fin 4096 → EReal) (N : Fin 2048 → EReal) (l : Fin 2048) : EReal :=
  proj X G W ⟨2048 + l.val, by omega⟩
    * rms (∑ x : Fin 2048, proj X G W ⟨2048 + x.val, by omega⟩ * proj X G W ⟨2048 + x.val, by omega⟩) 1157627904#32 * N l

/-- One entry of the gated row: the other half of the projection times the causal mixture of the chunk's gate rows plus a bias.
    `Xs` are the 128 rows of the chunk, `r` the row in the chunk, `l` the column; the column's group is `l / 256`. -/
def yRow (Xs : Fin 128 → Fin 1024 → EReal) (G : Fin 1024 → EReal) (W : Fin 1024 → Fin 4096 → EReal) (N : Fin 2048 → EReal)
    (S : Fin 8 → Fin 128 → Fin 128 → EReal) (B : Fin 8 → Fin 128 → EReal) (r : Fin 128) (l : Fin 2048) : EReal :=
  proj (Xs r) G W ⟨l.val, by omega⟩
    * ((∑ x : Fin 128, if x ≤ r then S ⟨l.val / 256, by omega⟩ r x * vRow (Xs x) G W N l else 0) + B ⟨l.val / 256, by omega⟩ r)

/-- The causal mask of the kernel as a proposition. -/
theorem mask_at (r x : Fin 128) (a b : EReal) :
    Scalar.select (IntOp.cmpi CmpIPredicate.sle (BitVec.ofNat 32 ↑x) (BitVec.ofNat 32 ↑r)) a b = if x ≤ r then a else b := by
  have h : IntOp.cmpi CmpIPredicate.sle (BitVec.ofNat 32 ↑x) (BitVec.ofNat 32 ↑r) = if x ≤ r then 1#1 else 0#1 := by
    revert r x; decide +kernel
  rw [h]; by_cases hx : x ≤ r <;> simp [hx, Scalar.select]

/-- The normalised stream at an index of the block. -/
theorem pay3_at (x0 : FVec Ideal S256x1024 .f32) (x1 : Vec Ideal S1x1024 .f32) (r : Fin 256) (k : Fin 1024) :
    k0_pay3 (F := Ideal) x0 x1 (ix2 r k) = hRow (fun k => x0 (ix2 r k)) (fun k => x1 (ix2 0 k)) k := by
  pointwise [k0_pay3, k0_pay2, hRow, rms]

/-- The projected value half at an index: its row, normalised, against a column, through the gelu. -/
theorem pay5_at (x0 : FVec Ideal S256x1024 .f32) (x1 : Vec Ideal S1x1024 .f32) (w : Vec Ideal S1024x2048 .bf16)
    (W : Fin 1024 → Fin 4096 → EReal) (hw : ∀ k (l : Fin 2048), w (ix2 k l) = W k ⟨2048 + l.val, by omega⟩) (r : Fin 256) (l : Fin 2048) :
    k0_pay5 (F := Ideal) x0 x1 w (ix2 r l) = proj (fun k => x0 (ix2 r k)) (fun k => x1 (ix2 0 k)) W ⟨2048 + l.val, by omega⟩ := by
  pointwise [k0_pay5]
  simp only [pay3_at, hw, proj, gel, Ideal.erf_def]

/-- The value half at an index after its own norm. -/
theorem pay8_at (x0 : FVec Ideal S256x1024 .f32) (x1 : Vec Ideal S1x1024 .f32) (w : Vec Ideal S1024x2048 .bf16) (x3 : Vec Ideal S1x2048 .f32)
    (W : Fin 1024 → Fin 4096 → EReal) (hw : ∀ k (l : Fin 2048), w (ix2 k l) = W k ⟨2048 + l.val, by omega⟩) (r : Fin 256) (l : Fin 2048) :
    k0_pay8 (F := Ideal) (k0_pay5 x0 x1 w) (k0_pay6 x3) (k0_pay7 x0 x1 w) (ix2 r l)
      = vRow (fun k => x0 (ix2 r k)) (fun k => x1 (ix2 0 k)) W (fun l => x3 (ix2 0 l)) l := by
  pointwise [k0_pay8, k0_pay6, k0_pay7]
  simp only [pay5_at x0 x1 w W hw, vRow, rms]

/-- The block that the body stores for one chunk of rows (from row `oc`) and one group of columns (from column `og`), over the
    normalised rows `h`, the normalised gate `v`, and the loads of the weights for the group. -/
def slab (oc og : ℕ) (h : FVec Ideal S256x1024 .bf16) (v : FVec Ideal S256x2048 .bf16) (s : Vec Ideal S1x128x128 .f32) (w : Vec Ideal S1024x256 .bf16)
    (b : Vec Ideal S1x128x128 .f32) (hv : S256x2048.Slices ![oc, og] S128x256) (hu : S256x256.Slices ![oc, 0] S128x256) : FVec Ideal S128x256 .bf16 :=
  shapeCast S128x256 (truncf .bf16 (mulf (extractStridedSlice S128x256 ![oc, 0] (k0_pay10 h w) hu)
    (addf (matmul dot_S128x128_S128x256_S128x256_1_0_0_1_n_n none (k0_pay9 k0_pay4 s) (extractStridedSlice S128x256 ![oc, og] v hv) (constant S128x256 .f32 0x00000000#32))
      (concatenate S128x256 1 [⟨S128x128, k0_pay11 b⟩, ⟨S128x128, k0_pay11 b⟩] concatenates_S128x128_S128x128_S128x256_d1)))
    bitsLt_bf16_f32) shapeCasts_S128x256_S128x256

/-- The stored block at an index: the gated row's entry, for the rows and columns that the block stands at. -/
theorem slab_at (oc og g : ℕ) (x0 : FVec Ideal S256x1024 .f32) (x1 : Vec Ideal S1x1024 .f32) (wv : Vec Ideal S1024x2048 .bf16) (x3 : Vec Ideal S1x2048 .f32)
    (s : Vec Ideal S1x128x128 .f32) (w : Vec Ideal S1024x256 .bf16) (b : Vec Ideal S1x128x128 .f32)
    (hv : S256x2048.Slices ![oc, og] S128x256) (hu : S256x256.Slices ![oc, 0] S128x256)
    (W : Fin 1024 → Fin 4096 → EReal) (S : Fin 8 → Fin 128 → Fin 128 → EReal) (B : Fin 8 → Fin 128 → EReal)
    (hwv : ∀ k (l : Fin 2048), wv (ix2 k l) = W k ⟨2048 + l.val, by omega⟩)
    (hg : g < 8) (hog : og = 256 * g) (hoc : oc ≤ 128)
    (hw : ∀ k (l : Fin 256), w (ix2 k l) = W k ⟨og + l.val, by omega⟩)
    (hs : ∀ r x, s (ix3 0 r x) = S ⟨g, hg⟩ r x) (hb : ∀ r x, b (ix3 0 r x) = B ⟨g, hg⟩ r)
    (r : Fin 128) (l : Fin 256) :
    slab oc og (k0_pay3 x0 x1) (k0_pay8 (k0_pay5 x0 x1 wv) (k0_pay6 x3) (k0_pay7 x0 x1 wv)) s w b hv hu (ix2 r l)
      = yRow (fun x k => x0 (ix2 ⟨oc + x.val, by omega⟩ k)) (fun k => x1 (ix2 0 k)) W (fun l => x3 (ix2 0 l)) S B r ⟨og + l.val, by omega⟩ := by
  have hgl : (og + l.val) / 256 = g := by omega
  pointwise [slab, k0_pay9, k0_pay4, k0_pay11, k0_pay10]
  simp only [mask_at, pay8_at x0 x1 wv x3 W hwv, pay3_at, hw, hs, hb, dite_eq_ite, ite_self, yRow, proj, gel, Ideal.erf_def, hgl]

end Cert.Gating
end
-- ==== Proof.SguPoint.lean ====
module

public import proofs.«01_k».proof.Proof.Gen.SguIdeal.Frame
public import proofs.«01_k».proof.Proof.SguCell
public import Idealize.ShloMosaic.Lib.Pipeline.ValueKit

@[expose] public section

set_option maxRecDepth 16384

noncomputable section

/- The block that one grid point of the spatial-gating kernel leaves, as a formula over the input blocks. -/
namespace Cert.Gating
open Cert.SguIdeal Cert.SguIdeal.Gen Idealize.ShloMosaic Idealize.ShloMosaic.TcCoe Idealize.SL.Sem

/-- The gated row of a point at row `r` of its block and column `l`, over the point's input blocks. -/
def gated (x0 : Vec Ideal S256x1024 .f32) (x1 : Vec Ideal S1x1024 .f32) (x2 : Vec Ideal S1024x4096 .bf16) (x3 : Vec Ideal S1x2048 .f32)
    (x4 : Vec Ideal S8x128x128 .f32) (x5 : Vec Ideal S8x128x128 .f32) (r : Fin 256) (l : Fin 2048) : EReal :=
  yRow (fun x k => x0 (ix2 ⟨128 * (r.val / 128) + x.val, by omega⟩ k)) (fun k => x1 (ix2 0 k)) (fun k j => x2 (ix2 k j))
    (fun l => x3 (ix2 0 l)) (fun g r x => x4 (ix3 g r x)) (fun g r => x5 (ix3 g r 0)) ⟨r.val % 128, by omega⟩ l

/-- One entry of a point's output block over its input blocks: the input plus the gated row times the output weights. -/
def blockOut (x0 : Vec Ideal S256x1024 .f32) (x1 : Vec Ideal S1x1024 .f32) (x2 : Vec Ideal S1024x4096 .bf16) (x3 : Vec Ideal S1x2048 .f32)
    (x4 : Vec Ideal S8x128x128 .f32) (x5 : Vec Ideal S8x128x128 .f32) (x6 : Vec Ideal S2048x1024 .bf16) (r : Fin 256) (j : Fin 1024) : EReal :=
  let X : Fin 256 → Fin 1024 → EReal := fun r j => x0 (ix2 r j)
  let O : Fin 2048 → Fin 1024 → EReal := fun l j => x6 (ix2 l j)
  X r j + ∑ l : Fin 2048, gated x0 x1 x2 x3 x4 x5 r l * O l j

/-- A stored block against the gated rows: what is stored from row `oc` and column `og` is the gated row's entry at the place. -/
theorem stored_at (oc og g : ℕ) (hg : g < 8) (hoc : oc % 128 = 0) (hoc' : oc ≤ 128) (hog : og = 256 * g)
    (x0 : Vec Ideal S256x1024 .f32) (x1 : Vec Ideal S1x1024 .f32) (x2 : Vec Ideal S1024x4096 .bf16) (x3 : Vec Ideal S1x2048 .f32)
    (x4 : Vec Ideal S8x128x128 .f32) (x5 : Vec Ideal S8x128x128 .f32) (hb : ∀ g r x, x5 (ix3 g r x) = x5 (ix3 g r 0))
    (hv : S256x2048.Slices ![oc, og] S128x256) (hu : S256x256.Slices ![oc, 0] S128x256) (i2 i2' i4)
    (x : S128x256.Idx) (r : Fin 256) (l : Fin 2048) (h0 : r.val = oc + (x 0).val) (h1 : l.val = og + (x 1).val) :
    slab oc og (k0_pay3 x0 x1) (k0_pay8 (k0_pay5 x0 x1 (View.ld x2 (Rect.unit ![0, 2048] ![1024, 2048] i2))) (k0_pay6 x3)
        (k0_pay7 x0 x1 (View.ld x2 (Rect.unit ![0, 2048] ![1024, 2048] i2))))
      (View.ld x4 (Rect.unit ![g, 0, 0] ![1, 128, 128] i4)) (View.ld x2 (Rect.unit ![0, og] ![1024, 256] i2')) (View.ld x5 (Rect.unit ![g, 0, 0] ![1, 128, 128] i4)) hv hu x
      = gated x0 x1 x2 x3 x4 x5 r l := by
  obtain ⟨a, b, rfl⟩ : ∃ (a : Fin 128) (b : Fin 256), x = ix2 a b := ⟨x 0, x 1, by funext i; match i with | ⟨0, _⟩ => rfl | ⟨1, _⟩ => rfl⟩
  replace h0 : r.val = oc + a.val := h0
  replace h1 : l.val = og + b.val := h1
  refine (slab_at oc og g x0 x1 _ x3 _ _ _ hv hu (fun k j => x2 (ix2 k j)) (fun g r x => x4 (ix3 g r x)) (fun g r => x5 (ix3 g r 0)) ?_ hg hog hoc' ?_ ?_ ?_ _ _).trans ?_
  · intro k l
    exact View.ld_unit_apply_of _ _ _ _ _ _ fun | ⟨0, _⟩ => by simp [ix2] | ⟨1, _⟩ => by simp [ix2]
  · intro k l
    exact View.ld_unit_apply_of _ _ _ _ _ _ fun | ⟨0, _⟩ => by simp [ix2] | ⟨1, _⟩ => by simp [ix2]
  · intro r x
    exact View.ld_unit_apply_of _ _ _ _ _ _ fun | ⟨0, _⟩ => by simp [ix3] | ⟨1, _⟩ => by simp [ix3] | ⟨2, _⟩ => by simp [ix3]
  · intro r x
    refine Eq.trans (b := x5 (ix3 ⟨g, hg⟩ r x)) ?_ (hb _ _ _)
    exact View.ld_unit_apply_of _ _ _ _ _ _ fun | ⟨0, _⟩ => by simp [ix3] | ⟨1, _⟩ => by simp [ix3] | ⟨2, _⟩ => by simp [ix3]
  · have e0 : 128 * (r.val / 128) = oc := by omega
    have e1 : (⟨r.val % 128, by omega⟩ : Fin 128) = a := Fin.ext (by show r.val % 128 = a.val; omega)
    have e2 : (⟨og + b.val, by omega⟩ : Fin 2048) = l := Fin.ext h1.symm
    unfold gated
    simp only [e0, e1, e2]

variable (m : (ℓ : Loc nD τ sig) → Buf (Elt Ideal) ℓ)

/-- A point's output block at an index, over the point's input blocks. -/
theorem after_at (c : Dev nD) (t : Fin cfg0.N) (hb : ∀ g r x, iblk m c 5 t (ix3 g r x) = iblk m c 5 t (ix3 g r 0)) (r : Fin 256) (j : Fin 1024) :
    (dats m 0 c).after 7 t (ix2 r j) = blockOut (iblk m c 0 t) (iblk m c 1 t) (iblk m c 2 t) (iblk m c 3 t) (iblk m c 4 t) (iblk m c 5 t) (iblk m c 6 t) r j := by
  rw [after0_7]; unfold outsAt0
  frame_out
  rw [View.readCov_eq_canon']
  have hsc : ∀ (v : Vec Ideal S256x2048 .bf16), (∀ l, v (ix2 r l) = gated (iblk m c 0 t) (iblk m c 1 t) (iblk m c 2 t) (iblk m c 3 t) (iblk m c 4 t) (iblk m c 5 t) r l) →
      k0_pay1 (F := Ideal) (k0_pay2 (iblk m c 0 t)) v (iblk m c 6 t) (ix2 r j)
        = blockOut (iblk m c 0 t) (iblk m c 1 t) (iblk m c 2 t) (iblk m c 3 t) (iblk m c 4 t) (iblk m c 5 t) (iblk m c 6 t) r j := by
    intro v hv
    pointwise [k0_pay1, k0_pay2]
    simp only [hv, blockOut]
  refine hsc _ fun l => ?_
  refine (View.ld_unit_apply_of (View.canon _) ![0, 0] ![256, 2048] inb_S256x2048_S256x2048_0_0 (ix2 r l) (ix2 r l)
    fun | ⟨0, _⟩ => by simp [ix2] | ⟨1, _⟩ => by simp [ix2]).trans ?_
  canon_tiles x h
  all_goals
    refine stored_at _ _ _ ?_ ?_ ?_ ?_ _ _ _ _ _ _ hb _ _ _ _ _ x r l ?_ ?_
  all_goals first | decide | (rw [Nat.zero_add]; assumption) | assumption

end Cert.Gating
end
-- ==== Proof.SguReference.lean ====
module

public import proofs.«01_k».proof.Proof.Gen.SguRefIdeal.Run
public import proofs.«01_k».proof.Proof.SguCell

@[expose] public section

set_option maxRecDepth 16384

noncomputable section

/- The reference's result, read at an index. -/
namespace Cert.Gating
open Cert.SguRefIdeal Cert.SguRefIdeal.Gen Cert.SguRefIdeal.Value Idealize.ShloMosaic Idealize.ShloMosaic.TcCoe Idealize.SL.Sem

/-- The reference's normalised input. -/
def refHid (A0 : FVec Ideal S16x2048x1024 .f32) (A1 : FVec Ideal S1024 .f32) : FVec Ideal S16x2048x1024 .f32 :=
  (mulf (mulf A0 (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf A0 A0) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 A1)))

/-- The reference's input projection through the gelu. -/
def refProj (H : FVec Ideal S16x2048x1024 .f32) (A2 : FVec Ideal S1024x4096 .f32) : FVec Ideal S16x2048x4096 .f32 :=
  (mulf (mulf (broadcastInDim S16x2048x4096 ![] bcast_S_S16x2048x4096 (constant S_ .f32 0x3F000000#32)) (Host.dotGeneral dot_S16x2048x1024_S1024x4096_S16x2048x4096_2_0_01_1_n_n none H A2)) (Host.erfc (mulf (Host.negf (Host.dotGeneral dot_S16x2048x1024_S1024x4096_S16x2048x4096_2_0_01_1_n_n none H A2)) (broadcastInDim S16x2048x4096 ![] bcast_S_S16x2048x4096 (constant S_ .f32 0x3F3504F3#32)))))

/-- The reference's normalised gate. -/
def refGate (P : FVec Ideal S16x2048x4096 .f32) (A3 : FVec Ideal S2048 .f32) : FVec Ideal S16x2048x2048 .f32 :=
  (mulf (mulf (extractStridedSlice S16x2048x2048 ![0, 0, 2048] P slices_S16x2048x4096_S16x2048x2048_0_0_2048) (broadcastInDim S16x2048x2048 ![0, 1, 2] bcast_S16x2048x1_S16x2048x2048_0_1_2 (Host.rsqrt (addf (Host.divf (broadcastInDim S16x2048x1 ![0, 1] bcast_S16x2048_S16x2048x1_0_1 (Host.reduceAdd (mulf (extractStridedSlice S16x2048x2048 ![0, 0, 2048] P slices_S16x2048x4096_S16x2048x2048_0_0_2048) (extractStridedSlice S16x2048x2048 ![0, 0, 2048] P slices_S16x2048x4096_S16x2048x2048_0_0_2048)) (constant S_ .f32 0x00000000#32) reducesTo_S16x2048x2048_S16x2048_d2 h_S_)) (broadcastInDim S16x2048x1 ![] bcast_S_S16x2048x1 (constant S_ .f32 0x45000000#32))) (broadcastInDim S16x2048x1 ![] bcast_S_S16x2048x1 (constant S_ .f32 0x358637BD#32)))))) (broadcastInDim S16x2048x2048 ![0, 1, 2] bcast_S1x1x2048_S16x2048x2048_0_1_2 (broadcastInDim S1x1x2048 ![2] bcast_S2048_S1x1x2048_2 A3)))

/-- The reference's causal weights. -/
def refTril (A4 : FVec Ideal S8x128x128 .f32) : FVec Ideal S8x128x128 .f32 :=
  (select (broadcastInDim S8x128x128 ![0, 1, 2] bcast_S1x128x128_S8x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) A4 (broadcastInDim S8x128x128 ![] bcast_S_S8x128x128 (id (constant S_ .f32 0x00000000#32))))

/-- The reference's mixture of the gate's rows within each chunk, with its bias. -/
def refMix (V : FVec Ideal S16x2048x2048 .f32) (T : FVec Ideal S8x128x128 .f32) (A5 : FVec Ideal S8x128 .f32) : FVec Ideal S16x2048x2048 .f32 :=
  (shapeCast _ (addf (transpose S16x16x128x8x256 [1, 2, 4, 0, 3] (Host.dotGeneral dot_S16x16x128x8x256_S8x128x128_S8x16x16x256x128_2_2_014_1_3_0 none (shapeCast _ V shapeCasts_S16x2048x2048_S16x16x128x8x256) T) transposes_S8x16x16x256x128_S16x16x128x8x256_1_2_4_0_3) (broadcastInDim S16x16x128x8x256 ![0, 1, 2, 3, 4] bcast_S1x1x128x8x1_S16x16x128x8x256_0_1_2_3_4 (broadcastInDim S1x1x128x8x1 ![2, 3, 4] bcast_S128x8x1_S1x1x128x8x1_2_3_4 (broadcastInDim S128x8x1 ![0, 1] bcast_S128x8_S128x8x1_0_1 (transpose S128x8 [1, 0] A5 transposes_S8x128_S128x8_1_0))))) shapeCasts_S16x16x128x8x256_S16x2048x2048)

/-- The reference's result from the projection and the mixture. -/
def refOut (A0 : FVec Ideal S16x2048x1024 .f32) (P : FVec Ideal S16x2048x4096 .f32) (M : FVec Ideal S16x2048x2048 .f32) (A6 : FVec Ideal S2048x1024 .f32) : FVec Ideal S32768x1024 .f32 :=
  shapeCast _ (addf A0 (Host.dotGeneral dot_S16x2048x2048_S2048x1024_S16x2048x1024_2_0_01_1_n_n none (mulf (extractStridedSlice S16x2048x2048 ![0, 0, 0] P slices_S16x2048x4096_S16x2048x2048_0_0_0) M) A6)) shapeCasts_S16x2048x1024_S32768x1024

/-- The normalised stream at an index. -/
theorem refHid_at (A0 : FVec Ideal S16x2048x1024 .f32) (A1 : FVec Ideal S1024 .f32) (n : Fin 16) (s : Fin 2048) (k : Fin 1024) :
    refHid A0 A1 (ix3 n s k) = hRow (fun k => A0 (ix3 n s k)) (fun k => A1 (ix1 k)) k := by
  pointwise [refHid, hRow, rms]

/-- The input projection through the gelu at an index. -/
theorem refProj_at (A0 : FVec Ideal S16x2048x1024 .f32) (A1 : FVec Ideal S1024 .f32) (A2 : FVec Ideal S1024x4096 .f32) (n : Fin 16) (s : Fin 2048) (j : Fin 4096) :
    refProj (refHid A0 A1) A2 (ix3 n s j) = proj (fun k => A0 (ix3 n s k)) (fun k => A1 (ix1 k)) (fun k j => A2 (ix2 k j)) j := by
  pointwise [refProj]
  simp only [refHid_at, EReal.neg_mul, Ideal.erfc_neg, proj, gel]

/-- The value half after its norm at an index. -/
theorem refGate_at (A0 : FVec Ideal S16x2048x1024 .f32) (A1 : FVec Ideal S1024 .f32) (A2 : FVec Ideal S1024x4096 .f32) (A3 : FVec Ideal S2048 .f32) (n : Fin 16) (s : Fin 2048) (l : Fin 2048) :
    refGate (refProj (refHid A0 A1) A2) A3 (ix3 n s l) = vRow (fun k => A0 (ix3 n s k)) (fun k => A1 (ix1 k)) (fun k j => A2 (ix2 k j)) (fun l => A3 (ix1 l)) l := by
  pointwise [refGate]
  simp only [refProj_at, vRow, rms]

/-- The reference's comparison of positions is the causal order. -/
theorem refMask_at (r x : Fin 128) (a b : EReal) :
    Scalar.select (Scalar.select (IntOp.cmpi CmpIPredicate.sge (IntOp.addi (BitVec.ofNat 32 ↑r) 0#32) (BitVec.ofNat 32 ↑x)) 1#1 0#1) a b = if x ≤ r then a else b := by
  have h : Scalar.select (IntOp.cmpi CmpIPredicate.sge (IntOp.addi (BitVec.ofNat 32 ↑r) 0#32) (BitVec.ofNat 32 ↑x)) 1#1 0#1 = if x ≤ r then 1#1 else 0#1 := by
    revert r x; decide +kernel
  rw [h]; by_cases hx : x ≤ r <;> simp [hx, Scalar.select]

/-- The spatial weights at an index: zero above the diagonal. -/
theorem refTril_at (A4 : FVec Ideal S8x128x128 .f32) (g : Fin 8) (r x : Fin 128) :
    refTril A4 (ix3 g r x) = if x ≤ r then A4 (ix3 g r x) else (0 : EReal) := by
  pointwise [refTril]
  rw [refMask_at]
  congr 1
  exact Ideal.ofBits_zero_f32

/-- The mixed values at an index: the chunk's rows against the group's weights, and the bias. -/
theorem refMix_at (V : FVec Ideal S16x2048x2048 .f32) (T : FVec Ideal S8x128x128 .f32) (A5 : FVec Ideal S8x128 .f32) (n : Fin 16) (s : Fin 2048) (l : Fin 2048) :
    refMix V T A5 (ix3 n s l) = (∑ x : Fin 128, (V (ix3 n ⟨s.val / 128 * 128 + x.val, by omega⟩ l) * T (ix3 ⟨l.val / 256, by omega⟩ ⟨s.val % 128, by omega⟩ x) : EReal))
      + (A5 (ix2 ⟨l.val / 256, by omega⟩ ⟨s.val % 128, by omega⟩) : EReal) := by
  pointwise [refMix]

/-- The result at an index: the gated rows against the output weights, and the stream. -/
theorem refOut_at (A0 : FVec Ideal S16x2048x1024 .f32) (P : FVec Ideal S16x2048x4096 .f32) (M : FVec Ideal S16x2048x2048 .f32) (A6 : FVec Ideal S2048x1024 .f32) (R : Fin 32768) (j : Fin 1024) :
    refOut A0 P M A6 (ix2 R j) = (A0 (ix3 ⟨R.val / 2048, by omega⟩ ⟨R.val % 2048, by omega⟩ j) : EReal)
      + ∑ x : Fin 2048, (P (ix3 ⟨R.val / 2048, by omega⟩ ⟨R.val % 2048, by omega⟩ ⟨x.val, by omega⟩) * M (ix3 ⟨R.val / 2048, by omega⟩ ⟨R.val % 2048, by omega⟩ x) * A6 (ix2 x j) : EReal) := by
  pointwise [refOut]

/-- The layer at row `R` of the flattened batch and column `j`, over the arguments. -/
def sguAt (A0 : FVec Ideal S16x2048x1024 .f32) (A1 : FVec Ideal S1024 .f32) (A2 : FVec Ideal S1024x4096 .f32) (A3 : FVec Ideal S2048 .f32)
    (A4 : FVec Ideal S8x128x128 .f32) (A5 : FVec Ideal S8x128 .f32) (A6 : FVec Ideal S2048x1024 .f32) (R : Fin 32768) (j : Fin 1024) : EReal :=
  (A0 (ix3 ⟨R.val / 2048, by omega⟩ ⟨R.val % 2048, by omega⟩ j) : EReal)
    + ∑ l : Fin 2048, (yRow (fun x k => A0 (ix3 ⟨R.val / 2048, by omega⟩ ⟨R.val % 2048 / 128 * 128 + x.val, by omega⟩ k)) (fun k => A1 (ix1 k)) (fun k j => A2 (ix2 k j))
        (fun l => A3 (ix1 l)) (fun g r x => A4 (ix3 g r x)) (fun g r => A5 (ix2 g r)) ⟨R.val % 2048 % 128, by omega⟩ l * A6 (ix2 l j) : EReal)

/-- The reference's term at an index. -/
theorem refTerm_at (A0 : FVec Ideal S16x2048x1024 .f32) (A1 : FVec Ideal S1024 .f32) (A2 : FVec Ideal S1024x4096 .f32) (A3 : FVec Ideal S2048 .f32)
    (A4 : FVec Ideal S8x128x128 .f32) (A5 : FVec Ideal S8x128 .f32) (A6 : FVec Ideal S2048x1024 .f32) (R : Fin 32768) (j : Fin 1024) :
    refOut A0 (refProj (refHid A0 A1) A2) (refMix (refGate (refProj (refHid A0 A1) A2) A3) (refTril A4) A5) A6 (ix2 R j)
      = sguAt A0 A1 A2 A3 A4 A5 A6 R j := by
  have hs : ∀ s : Fin 2048, s.val / 128 * 128 + s.val % 128 = s.val := fun s => by omega
  rw [refOut_at]
  simp only [refProj_at, refMix_at, refGate_at, refTril_at, sguAt, yRow, mul_ite, mul_zero, hs]
  refine congrArg _ (Finset.sum_congr rfl fun l _ => ?_)
  have hR : R.val % 2048 / 128 * 128 + R.val % 2048 % 128 = R.val % 2048 := by omega
  simp only [hR]
  refine congrArg (· * _) (congrArg (_ * ·) (congrArg (· + _) (Finset.sum_congr rfl fun x _ => ?_)))
  by_cases hx : x ≤ (⟨R.val % 2048 % 128, by omega⟩ : Fin 128)
  · simp only [hx, if_true]; exact mul_comm _ _
  · simp only [hx, if_false]

/-- The reference's result array is its stages one after the other. -/
theorem res_eq (m : (ℓ : Loc nD τ sig) → Buf (Elt Ideal) ℓ) (c : Dev nD) :
    res_main_v52 m c = refOut (m ((c.tc : Thread nD τ).loc main_arg0)) (refProj (refHid (m ((c.tc : Thread nD τ).loc main_arg0)) (m ((c.tc : Thread nD τ).loc main_arg1))) (m ((c.tc : Thread nD τ).loc main_arg2)))
      (refMix (refGate (refProj (refHid (m ((c.tc : Thread nD τ).loc main_arg0)) (m ((c.tc : Thread nD τ).loc main_arg1))) (m ((c.tc : Thread nD τ).loc main_arg2))) (m ((c.tc : Thread nD τ).loc main_arg3)))
        (refTril (m ((c.tc : Thread nD τ).loc main_arg4))) (m ((c.tc : Thread nD τ).loc main_arg5)))
      (m ((c.tc : Thread nD τ).loc main_arg6)) := rfl
end Cert.Gating
end
-- ==== Proof.SguKernel.lean ====
module

public import proofs.«01_k».proof.Proof.Gen.SguIdeal.Value
public import proofs.«01_k».proof.Proof.SguPoint
public import proofs.«01_k».proof.Proof.SguReference
public import Idealize.ShloMosaic.Lib.Claim

@[expose] public section

set_option maxRecDepth 16384

noncomputable section

/- The array that the spatial-gating kernel leaves, over its arguments. -/
namespace Cert.Gating
open Cert.SguIdeal Cert.SguIdeal.Gen Idealize.ShloMosaic Idealize.ShloMosaic.TcCoe Idealize.SL.Sem
open Idealize.ShloMosaic.Pipeline (Dat)

variable (m : (ℓ : Loc nD τ sig) → Buf (Elt Ideal) ℓ)

/-- The block indices of the windows at each point: the rows' window moves with the point, the others stay. -/
theorem idx : ∀ t : Fin cfg0.N, win0_0.index t = ![t.val, 0] ∧ win0_1.index t = ![0, 0] ∧ win0_2.index t = ![0, 0] ∧ win0_3.index t = ![0, 0]
    ∧ win0_4.index t = ![0, 0, 0] ∧ win0_5.index t = ![0, 0, 0] ∧ win0_6.index t = ![0, 0] ∧ win0_7.index t = ![t.val, 0] ∧ t.val < 128 :=
  (by decide +kernel : ∀ t : Fin grid0.N, _)

/-- The stream's block at a point is the stream's rows that the point stands at. -/
theorem b0 (c : Dev nD) (t : Fin cfg0.N) (r : Fin 256) (k : Fin 1024) (R : Fin 32768) (hR : R.val = 256 * t.val + r.val) :
    iblk m c 0 t (ix2 r k) = (m ((c : Thread nD τ).loc main_arg0) : FVec Ideal S16x2048x1024 .f32) (ix3 ⟨R.val / 2048, by omega⟩ ⟨R.val % 2048, by omega⟩ k) := by
  blk_simp [iblk]
  entry_read
  pointwise
  have e : ((((cfg0.win 0).blk t).view.emb (ix2 r k)) 0).val = R.val := by
    blk_simp [idx t]
    omega
  blk_ext [idx t, e]

/-- The norm's scale's block at a point is the whole scale. -/
theorem b1 (c : Dev nD) (t : Fin cfg0.N) (k : Fin 1024) :
    iblk m c 1 t (ix2 0 k) = (m ((c : Thread nD τ).loc main_arg1) : FVec Ideal S1024 .f32) (ix1 k) := by
  blk_simp [iblk]
  entry_read
  pointwise
  blk_ext [idx t]

/-- The input weights' block at a point is all of them. -/
theorem b2 (c : Dev nD) (t : Fin cfg0.N) (k : Fin 1024) (j : Fin 4096) :
    iblk m c 2 t (ix2 k j) = (m ((c : Thread nD τ).loc main_arg2) : FVec Ideal S1024x4096 .f32) (ix2 k j) := by
  blk_simp [iblk]
  entry_read
  pointwise
  blk_ext [idx t]

/-- The value norm's scale's block at a point is the whole scale. -/
theorem b3 (c : Dev nD) (t : Fin cfg0.N) (k : Fin 2048) :
    iblk m c 3 t (ix2 0 k) = (m ((c : Thread nD τ).loc main_arg3) : FVec Ideal S2048 .f32) (ix1 k) := by
  blk_simp [iblk]
  entry_read
  pointwise
  blk_ext [idx t]

/-- The spatial weights' block at a point is all of them. -/
theorem b4 (c : Dev nD) (t : Fin cfg0.N) (g : Fin 8) (r x : Fin 128) :
    iblk m c 4 t (ix3 g r x) = (m ((c : Thread nD τ).loc main_arg4) : FVec Ideal S8x128x128 .f32) (ix3 g r x) := by
  blk_ext [iblk, V, idx t]

/-- The biases' block at a point holds each row's bias in every lane. -/
theorem b5 (c : Dev nD) (t : Fin cfg0.N) (g : Fin 8) (r x : Fin 128) :
    iblk m c 5 t (ix3 g r x) = (m ((c : Thread nD τ).loc main_arg5) : FVec Ideal S8x128 .f32) (ix2 g r) := by
  blk_simp [iblk]
  entry_read
  pointwise
  blk_ext [idx t]

/-- The output weights' block at a point is all of them. -/
theorem b6 (c : Dev nD) (t : Fin cfg0.N) (r : Fin 2048) (k : Fin 1024) :
    iblk m c 6 t (ix2 r k) = (m ((c : Thread nD τ).loc main_arg6) : FVec Ideal S2048x1024 .f32) (ix2 r k) := by
  blk_simp [iblk]
  entry_read
  pointwise
  blk_ext [idx t]

/-- A point's output block against the layer at the rows that it stands at. -/
theorem point (c : Dev nD) (t : Fin cfg0.N) (r : Fin 256) (j : Fin 1024) (R : Fin 32768) (hR : R.val = 256 * t.val + r.val) :
    (dats m 0 c).after 7 t (ix2 r j)
      = sguAt (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) R j := by
  have ht : t.val < 128 := (idx t).2.2.2.2.2.2.2.2
  rw [after_at m c t (fun g r x => (b5 m c t g r x).trans (b5 m c t g r 0).symm) r j]
  have hx : ∀ (x : Fin 128) (k : Fin 1024), iblk m c 0 t (ix2 (⟨128 * (r.val / 128) + x.val, by omega⟩ : Fin 256) k)
      = (m ((c : Thread nD τ).loc main_arg0) : FVec Ideal S16x2048x1024 .f32) (ix3 ⟨R.val / 2048, by omega⟩ ⟨R.val % 2048 / 128 * 128 + x.val, by omega⟩ k) := by
    intro x k
    refine (b0 m c t _ k ⟨256 * t.val + (128 * (r.val / 128) + x.val), by omega⟩ rfl).trans ?_
    congr 2 <;> exact Fin.ext (by simp only; omega)
  have hr : (⟨r.val % 128, by omega⟩ : Fin 128) = ⟨R.val % 2048 % 128, by omega⟩ := Fin.ext (by simp only; omega)
  unfold blockOut sguAt gated
  simp only [hx, b0 m c t r j R hR, b1, b2, b3, b4, b5, b6, hr]

/-- The result array after the run is the layer over the arguments. -/
theorem final (c : Dev nD) : (dats m 0 c).arrAt 7 cfg0.N
    = fun i : S32768x1024.Idx => sguAt (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (i 0) (i 1) := by
  refine (dats m 0 c).arrAt_eq_of_covers 7 _ (by decide +kernel) fun t _ y => ?_
  blk_simp
  idx_vars y
  refine (point m c t y0 y1 ((((cfg0.win 7).blk t).view.emb (ix2 y0 y1)) 0) ?_).trans ?_
  · blk_simp [idx t]
    omega
  · have e : y1 = ((((cfg0.win 7).blk t).view.emb (ix2 y0 y1)) 1 : Fin 1024) := Fin.ext (by blk_simp [idx t])
    exact congrArg _ e

end Cert.Gating
end
-- ==== Proof.SguClaim.lean ====
module

public import proofs.«01_k».proof.Defs
public import proofs.«01_k».proof.Proof.SguKernel
public import proofs.«01_k».proof.Proof.SguReference
public import Idealize.ShloMosaic.Lib.Claim

@[expose] public section

set_option maxRecDepth 16384

noncomputable section

/- The claims about the spatial-gating layer. -/
namespace Cert.Gating

open Idealize.ShloMosaic Idealize.ShloMosaic.TcCoe Idealize.SL.Sem

/-- The reference runs and leaves its arguments; it has no semaphore. -/
theorem frameRef : Cert.quiescent_SguRefIdeal (hSguRefIdeal := Cert.SguRefIdeal.Gen.facts) := fun m g _ =>
  (θ_run _ _ _).mono (fun r h => ⟨fun c => (h c).2, sem_eq_zero_of_no_sems (by decide) r.2⟩) (Cert.SguRefIdeal.Value.run m g)

/-- The kernel and the reference end with equal results. -/
theorem algebraic : Cert.algebraic_SguIdeal_SguRefIdeal (hSguIdeal := Cert.SguIdeal.Gen.facts) (hSguRefIdeal := Cert.SguRefIdeal.Gen.facts) := by
  pair_intro
  · run_from Cert.SguIdeal.Gen.run_main m g
  · run_from Cert.SguRefIdeal.Value.run m' g'
    obtain ⟨h0, h1, h2, h3, h4, h5, h6⟩ := hagree c
    refine (res_eq m' c).trans ?_
    rw [h0, h1, h2, h3, h4, h5, h6]
    refine Eq.trans ?_ (final m c).symm
    funext i
    obtain ⟨R, j, rfl⟩ : ∃ (R : Fin 32768) (j : Fin 1024), i = ix2 R j := ⟨i 0, i 1, by funext a; match a with | ⟨0, _⟩ => rfl | ⟨1, _⟩ => rfl⟩
    exact refTerm_at _ _ _ _ _ _ _ R j

end Cert.Gating

end
-- ==== Proof.StickCell.lean ====
/-
  What the attention kernel's straight-line blocks compute, one cell at a time.

  The kernel walks over the keys in blocks of 128, from the tile's diagonal down to the first key.
  For each block it stores the two heads' logits twice over: `lsb`, the log of the stay probability
  (and beside it the part the narrow format would lose, which is `ls - ls`), and `lz`, the log of
  the break probability. A later step multiplies `lsb` by a fixed 256 by 256 matrix, which gives
  the sums over the later keys of the block in one half and the block's total in the other, adds
  what the blocks before left behind, and takes the exponential times the values' block.

  Here each of these blocks is read at one row and lane, in terms of the functions below.
-/
module

public import proofs.«01_k».proof.Proof.Gen.StickIdeal.Skeleton
public import Idealize.ShloMosaic.Lib.Pointwise

@[expose] public section

set_option maxRecDepth 16384

noncomputable section
namespace Cert.Breaking
open Cert.StickIdeal Cert.StickIdeal.Gen
open Idealize.ShloMosaic Idealize.ShloMosaic.TcCoe Idealize.SL.Sem

/-- One of two numbers, by the half of the lanes that lane `d` lies in. -/
def halves (d : Fin 128) (a b : EReal) : EReal :=
  Scalar.select (IntOp.cmpi CmpIPredicate.slt (BitVec.ofNat 32 ↑d) 64#32) a b

/-- The first head's logit of a query row and a key row. -/
def logit0 (q k : Fin 128 → EReal) : EReal := ∑ d, halves d (q d) 0 * k d

/-- The second head's logit of a query row and a key row. -/
def logit1 (q k : Fin 128 → EReal) : EReal := ∑ d, halves d 0 (q d) * k d

/-- The log of the stay probability at logit `z`, as the kernel writes it. -/
def stay (z : EReal) : EReal :=
  min (0 - z) 0 - Ideal.log (1 + Ideal.exp (min z (0 - z)))

/-- The log of the break probability at logit `z`, as the kernel writes it. -/
def brk (z : EReal) : EReal :=
  min z 0 - Ideal.log (1 + Ideal.exp (min z (0 - z)))

/-- A row of 128 numbers followed by what the narrow format loses of it. -/
def hiLo (f : Fin 128 → EReal) (x : Fin 256) : EReal :=
  if h : x.val < 128 then f ⟨x.val, h⟩ else f ⟨x.val - 128, by omega⟩ - f ⟨x.val - 128, by omega⟩

/-- Whether key `l` of block `j` lies before row `r` of tile `a`, the row counted from `R`. -/
def live (a j R : BitVec 32) (r : ℕ) (l : Fin 128) : BitVec 1 :=
  IntOp.cmpi CmpIPredicate.slt (IntOp.addi (BitVec.ofNat 32 ↑l) (Scalar.muli j 128#32))
    (IntOp.addi (BitVec.ofNat 32 r) (Scalar.addi R (Scalar.muli a 512#32)))

/-- A row of logits against one lane of the fixed matrix. -/
def later (L : Fin 256 → EReal) (U : Fin 256 → Fin 256 → EReal) (x : Fin 256) : EReal :=
  ∑ m, L m * U m x

/-- A block's share of the output, all its keys being before the row. -/
def share (Z c : Fin 128 → EReal) (L : Fin 256 → EReal) (U : Fin 256 → Fin 256 → EReal)
    (v : Fin 128 → EReal) : EReal :=
  ∑ l, Ideal.exp (Z l + later L U ⟨↑l, by omega⟩ + c l) * v l

/-- A block's share of the output, only the keys marked by `w` counting. -/
def shareIf (w : Fin 128 → BitVec 1) (Z c : Fin 128 → EReal) (L : Fin 256 → EReal)
    (U : Fin 256 → Fin 256 → EReal) (v : Fin 128 → EReal) : EReal :=
  ∑ l, Scalar.select (w l) (Ideal.exp (Z l + later L U ⟨↑l, by omega⟩ + c l) * v l) 0

/-- The stored stay row of the first head, in the first diagonal block. -/
theorem stay0_0 (a j : BitVec 32) (K : Vec Ideal S128x128 .bf16) (Q : Vec Ideal S128x128 .bf16) (r : Fin 128) (x
    : Fin 256) :
    k0_pay55 a j K (k0_pay51 Q) (ix4 0 0 r x) =
      hiLo (fun l => Scalar.select (live a j 384#32 r l) (stay (logit0 (fun d => Q (ix2 r d)) (fun d => K (ix2 l d)))) 0) x := by
  pointwise [k0_pay49, k0_pay50, k0_pay51, k0_pay52, k0_pay53, k0_pay54, k0_pay55, hiLo, live,
    stay, logit0, halves]

/-- The stored break row of the first head, in the first diagonal block. -/
theorem brk0_0 (K : Vec Ideal S128x128 .bf16) (Q : Vec Ideal S128x128 .bf16) (r : Fin 128) (l : Fin 128) :
    k0_pay56 K (k0_pay51 Q) (ix4 0 0 r l) =
      brk (logit0 (fun d => Q (ix2 r d)) (fun d => K (ix2 l d))) := by
  pointwise [k0_pay49, k0_pay50, k0_pay51, k0_pay52, k0_pay53, k0_pay54, k0_pay56, brk, logit0,
    halves]

/-- What the first head carries on to the blocks before, in the first diagonal block. -/
theorem carry0_0 (U : Vec Ideal S256x256 .bf16) (L : Vec Ideal S1x1x128x256 .bf16) (C : Vec Ideal S1x128x128 .f32)
    (r : Fin 128) (x : Fin 128) :
    (k0_pay65 U L C) (ix3 0 r x) =
      (C (ix3 0 r x) : EReal) + later (fun m => L (ix4 0 0 r m)) (fun m y => U (ix2 m y)) ⟨128 + ↑x, by omega⟩ := by
  pointwise [k0_pay62, k0_pay63, k0_pay65, later]

/-- The stored stay row of the second head, in the first diagonal block. -/
theorem stay1_0 (a j : BitVec 32) (K : Vec Ideal S128x128 .bf16) (Q : Vec Ideal S128x128 .bf16) (r : Fin 128) (x
    : Fin 256) :
    k0_pay60 a j (k0_pay57 K Q k0_pay49 k0_pay50) (FloatOps.ofBits FTy.f32 0#32) (ix4 0 0 r x) =
      hiLo (fun l => Scalar.select (live a j 384#32 r l) (stay (logit1 (fun d => Q (ix2 r d)) (fun d => K (ix2 l d)))) 0) x := by
  pointwise [k0_pay49, k0_pay50, k0_pay57, k0_pay58, k0_pay59, k0_pay60, hiLo, live, stay, logit1,
    halves]

/-- The stored break row of the second head, in the first diagonal block. -/
theorem brk1_0 (K : Vec Ideal S128x128 .bf16) (Q : Vec Ideal S128x128 .bf16) (r : Fin 128) (l : Fin 128) :
    k0_pay61 (k0_pay57 K Q k0_pay49 k0_pay50) (FloatOps.ofBits FTy.f32 0#32) (ix4 0 0 r l) =
      brk (logit1 (fun d => Q (ix2 r d)) (fun d => K (ix2 l d))) := by
  pointwise [k0_pay49, k0_pay50, k0_pay57, k0_pay58, k0_pay59, k0_pay61, brk, logit1, halves]

/-- What the second head carries on to the blocks before, in the first diagonal block. -/
theorem carry1_0 (U : Vec Ideal S256x256 .bf16) (L : Vec Ideal S1x1x128x256 .bf16) (C : Vec Ideal S1x128x128 .f32)
    (r : Fin 128) (x : Fin 128) :
    (k0_pay68 (k0_pay66 U L) C) (ix3 0 r x) =
      (C (ix3 0 r x) : EReal) + later (fun m => L (ix4 0 0 r m)) (fun m y => U (ix2 m y)) ⟨128 + ↑x, by omega⟩ := by
  pointwise [k0_pay66, k0_pay67, k0_pay68, later]

/-- The running output after the first diagonal block. -/
theorem acc_0 (a j : BitVec 32) (U : Vec Ideal S256x256 .bf16) (V : Vec Ideal S128x128 .bf16)
    (L L1 : Vec Ideal S1x1x128x256 .bf16) (C C1 : Vec Ideal S1x128x128 .f32) (Z Z1 : Vec Ideal S1x1x128x128 .f32)
    (A : Vec Ideal S128x128 .f32) (r : Fin 128) (x : Fin 128) :
    (k0_pay69 a j V (k0_pay64 a U j V L C Z) (k0_pay66 U L1) C1 Z1 A) (ix2 r x) =
      (A (ix2 r x) : EReal) + halves x
        (shareIf (live a j 384#32 r) (fun l => Z (ix4 0 0 r l)) (fun l => C (ix3 0 r l))
          (fun m => L (ix4 0 0 r m)) (fun m y => U (ix2 m y)) (fun l => V (ix2 l x)))
        (shareIf (live a j 384#32 r) (fun l => Z1 (ix4 0 0 r l)) (fun l => C1 (ix3 0 r l))
          (fun m => L1 (ix4 0 0 r m)) (fun m y => U (ix2 m y)) (fun l => V (ix2 l x))) := by
  pointwise [k0_pay62, k0_pay63, k0_pay64, k0_pay66, k0_pay67, k0_pay69, halves, shareIf, later,
    live]

/-- The stored stay row of the first head, in the second diagonal block. -/
theorem stay0_1 (a j0 : BitVec 32) (K : Vec Ideal S128x128 .bf16) (Q : Vec Ideal S256x128 .bf16) (r : Fin 256)
    (x : Fin 256) :
    k0_pay76 (k0_pay75 a j0 K Q) (ix4 0 0 r x) =
      hiLo (fun l => Scalar.select (live a (Scalar.subi j0 1#32) 256#32 r l) (stay (logit0 (fun d => Q (ix2 r d)) (fun d => K (ix2 l d)))) 0) x := by
  pointwise [k0_pay70, k0_pay71, k0_pay72, k0_pay73, k0_pay74, k0_pay75, k0_pay76, hiLo, live,
    stay, logit0, halves]

/-- The stored break row of the first head, in the second diagonal block. -/
theorem brk0_1 (K : Vec Ideal S128x128 .bf16) (Q : Vec Ideal S256x128 .bf16) (r : Fin 256) (l : Fin 128) :
    k0_pay77 (k0_pay72 K Q) (k0_pay74 K Q) (ix4 0 0 r l) =
      brk (logit0 (fun d => Q (ix2 r d)) (fun d => K (ix2 l d))) := by
  pointwise [k0_pay70, k0_pay71, k0_pay72, k0_pay73, k0_pay74, k0_pay77, brk, logit0, halves]

/-- What the first head carries on to the blocks before, in the second diagonal block. -/
theorem carry0_1 (U : Vec Ideal S256x256 .bf16) (L : Vec Ideal S1x1x256x256 .bf16) (C : Vec Ideal S1x256x128 .f32)
    (r : Fin 256) (x : Fin 128) :
    (k0_pay87 (k0_pay83 U L) (k0_pay84 C)) (ix3 0 r x) =
      (C (ix3 0 r x) : EReal) + later (fun m => L (ix4 0 0 r m)) (fun m y => U (ix2 m y)) ⟨128 + ↑x, by omega⟩ := by
  pointwise [k0_pay83, k0_pay84, k0_pay87, later]

/-- The stored stay row of the second head, in the second diagonal block. -/
theorem stay1_1 (a j : BitVec 32) (K : Vec Ideal S128x128 .bf16) (Q : Vec Ideal S256x128 .bf16) (r : Fin 256) (x
    : Fin 256) :
    k0_pay81 a j K Q k0_pay70 k0_pay71 (ix4 0 0 r x) =
      hiLo (fun l => Scalar.select (live a j 256#32 r l) (stay (logit1 (fun d => Q (ix2 r d)) (fun d => K (ix2 l d)))) 0) x := by
  pointwise [k0_pay70, k0_pay71, k0_pay78, k0_pay79, k0_pay80, k0_pay81, hiLo, live, stay, logit1,
    halves]

/-- The stored break row of the second head, in the second diagonal block. -/
theorem brk1_1 (K : Vec Ideal S128x128 .bf16) (Q : Vec Ideal S256x128 .bf16) (r : Fin 256) (l : Fin 128) :
    k0_pay82 (k0_pay78 K Q k0_pay70 k0_pay71) (k0_pay80 K Q k0_pay70 k0_pay71) (FloatOps.ofBits FTy.f32 0#32) (ix4 0 0 r l) =
      brk (logit1 (fun d => Q (ix2 r d)) (fun d => K (ix2 l d))) := by
  pointwise [k0_pay70, k0_pay71, k0_pay78, k0_pay79, k0_pay80, k0_pay82, brk, logit1, halves]

/-- What the second head carries on to the blocks before, in the second diagonal block. -/
theorem carry1_1 (U : Vec Ideal S256x256 .bf16) (L : Vec Ideal S1x1x256x256 .bf16) (C : Vec Ideal S1x256x128 .f32)
    (r : Fin 256) (x : Fin 128) :
    (k0_pay91 U L C) (ix3 0 r x) =
      (C (ix3 0 r x) : EReal) + later (fun m => L (ix4 0 0 r m)) (fun m y => U (ix2 m y)) ⟨128 + ↑x, by omega⟩ := by
  pointwise [k0_pay88, k0_pay89, k0_pay91, later]

/-- The running output after the second diagonal block. -/
theorem acc_1 (a j0 j : BitVec 32) (U : Vec Ideal S256x256 .bf16) (V : Vec Ideal S128x128 .bf16)
    (L L1 : Vec Ideal S1x1x256x256 .bf16) (C C1 : Vec Ideal S1x256x128 .f32) (Z Z1 : Vec Ideal S1x1x256x128 .f32)
    (A : Vec Ideal S256x128 .f32) (r : Fin 256) (x : Fin 128) :
    (k0_pay92 (k0_pay86 V (k0_pay85 a U j0 L C Z) (constant S256x128 FTy.f32 0#32)) (k0_pay90 a U j V L1 C1 Z1) A) (ix2 r x) =
      (A (ix2 r x) : EReal) + halves x
        (shareIf (live a (Scalar.subi j0 1#32) 256#32 r) (fun l => Z (ix4 0 0 r l)) (fun l => C (ix3 0 r l))
          (fun m => L (ix4 0 0 r m)) (fun m y => U (ix2 m y)) (fun l => V (ix2 l x)))
        (shareIf (live a j 256#32 r) (fun l => Z1 (ix4 0 0 r l)) (fun l => C1 (ix3 0 r l))
          (fun m => L1 (ix4 0 0 r m)) (fun m y => U (ix2 m y)) (fun l => V (ix2 l x))) := by
  pointwise [k0_pay83, k0_pay84, k0_pay85, k0_pay86, k0_pay88, k0_pay89, k0_pay90, k0_pay92,
    halves, shareIf, later, live]

/-- The stored stay row of the first head, in the third diagonal block. -/
theorem stay0_2 (a j0 : BitVec 32) (K : Vec Ideal S128x128 .bf16) (Q : Vec Ideal S384x128 .bf16) (r : Fin 384)
    (x : Fin 256) :
    k0_pay100 (k0_pay98 K Q) (k0_pay99 j0) (iota Kind.tc S384x128 32 [0] iota_S384x128_d0_w32) (Scalar.muli a 512#32) 128#32 (ix4 0 0 r x) =
      hiLo (fun l => Scalar.select (live a (Scalar.subi (Scalar.subi j0 1#32) 1#32) 128#32 r l) (stay (logit0 (fun d => Q (ix2 r d)) (fun d => K (ix2 l d)))) 0) x := by
  pointwise [k0_pay93, k0_pay94, k0_pay95, k0_pay96, k0_pay97, k0_pay98, k0_pay99, k0_pay100,
    hiLo, live, stay, logit0, halves]

/-- The stored break row of the first head, in the third diagonal block. -/
theorem brk0_2 (K : Vec Ideal S128x128 .bf16) (Q : Vec Ideal S384x128 .bf16) (r : Fin 384) (l : Fin 128) :
    k0_pay101 (k0_pay95 K Q) (k0_pay97 K Q) (ix4 0 0 r l) =
      brk (logit0 (fun d => Q (ix2 r d)) (fun d => K (ix2 l d))) := by
  pointwise [k0_pay93, k0_pay94, k0_pay95, k0_pay96, k0_pay97, k0_pay101, brk, logit0, halves]

/-- What the first head carries on to the blocks before, in the third diagonal block. -/
theorem carry0_2 (U : Vec Ideal S256x256 .bf16) (L : Vec Ideal S1x1x384x256 .bf16) (C : Vec Ideal S1x384x128 .f32)
    (r : Fin 384) (x : Fin 128) :
    (k0_pay114 (k0_pay110 U L) (k0_pay111 C)) (ix3 0 r x) =
      (C (ix3 0 r x) : EReal) + later (fun m => L (ix4 0 0 r m)) (fun m y => U (ix2 m y)) ⟨128 + ↑x, by omega⟩ := by
  pointwise [k0_pay110, k0_pay111, k0_pay114, later]

/-- The stored stay row of the second head, in the third diagonal block. -/
theorem stay1_2 (a j : BitVec 32) (K : Vec Ideal S128x128 .bf16) (Q : Vec Ideal S384x128 .bf16) (r : Fin 384) (x
    : Fin 256) :
    k0_pay108 (k0_pay105 K Q k0_pay93 k0_pay94) (k0_pay106 j) (k0_pay107 a) (ix4 0 0 r x) =
      hiLo (fun l => Scalar.select (live a j 128#32 r l) (stay (logit1 (fun d => Q (ix2 r d)) (fun d => K (ix2 l d)))) 0) x := by
  pointwise [k0_pay93, k0_pay94, k0_pay102, k0_pay103, k0_pay104, k0_pay105, k0_pay106, k0_pay107,
    k0_pay108, hiLo, live, stay, logit1, halves]

/-- The stored break row of the second head, in the third diagonal block. -/
theorem brk1_2 (K : Vec Ideal S128x128 .bf16) (Q : Vec Ideal S384x128 .bf16) (r : Fin 384) (l : Fin 128) :
    k0_pay109 (k0_pay102 K Q k0_pay93 k0_pay94) (k0_pay104 K Q k0_pay93 k0_pay94) (ix4 0 0 r l) =
      brk (logit1 (fun d => Q (ix2 r d)) (fun d => K (ix2 l d))) := by
  pointwise [k0_pay93, k0_pay94, k0_pay102, k0_pay103, k0_pay104, k0_pay109, brk, logit1, halves]

/-- What the second head carries on to the blocks before, in the third diagonal block. -/
theorem carry1_2 (U : Vec Ideal S256x256 .bf16) (L : Vec Ideal S1x1x384x256 .bf16) (C : Vec Ideal S1x384x128 .f32)
    (r : Fin 384) (x : Fin 128) :
    (k0_pay119 (k0_pay115 U L) (k0_pay116 C)) (ix3 0 r x) =
      (C (ix3 0 r x) : EReal) + later (fun m => L (ix4 0 0 r m)) (fun m y => U (ix2 m y)) ⟨128 + ↑x, by omega⟩ := by
  pointwise [k0_pay115, k0_pay116, k0_pay119, later]

/-- The running output after the third diagonal block. -/
theorem acc_2 (a j : BitVec 32) (U : Vec Ideal S256x256 .bf16) (V : Vec Ideal S128x128 .bf16)
    (L L1 : Vec Ideal S1x1x384x256 .bf16) (C C1 : Vec Ideal S1x384x128 .f32) (Z Z1 : Vec Ideal S1x1x384x128 .f32)
    (A : Vec Ideal S384x128 .f32) (r : Fin 384) (x : Fin 128) :
    (k0_pay120 V (k0_pay113 a j V (k0_pay112 U L C Z)) (k0_pay117 U L1 C1 Z1) (k0_pay118 j) (iota Kind.tc S384x128 32 [0] iota_S384x128_d0_w32) (Scalar.muli a 512#32) 128#32 A) (ix2 r x) =
      (A (ix2 r x) : EReal) + halves x
        (shareIf (live a j 128#32 r) (fun l => Z (ix4 0 0 r l)) (fun l => C (ix3 0 r l))
          (fun m => L (ix4 0 0 r m)) (fun m y => U (ix2 m y)) (fun l => V (ix2 l x)))
        (shareIf (live a j 128#32 r) (fun l => Z1 (ix4 0 0 r l)) (fun l => C1 (ix3 0 r l))
          (fun m => L1 (ix4 0 0 r m)) (fun m y => U (ix2 m y)) (fun l => V (ix2 l x))) := by
  pointwise [k0_pay110, k0_pay111, k0_pay112, k0_pay113, k0_pay115, k0_pay116, k0_pay117,
    k0_pay118, k0_pay120, halves, shareIf, later, live]

/-- The stored stay row of the first head, in the last diagonal block. -/
theorem stay0_3 (a j : BitVec 32) (K : Vec Ideal S128x128 .bf16) (Q : Vec Ideal S512x128 .bf16) (r : Fin 512) (x
    : Fin 256) :
    k0_pay127 a j (k0_pay124 K Q) (k0_pay125 K Q) (ix4 0 0 r x) =
      hiLo (fun l => Scalar.select (live a j 0#32 r l) (stay (logit0 (fun d => Q (ix2 r d)) (fun d => K (ix2 l d)))) 0) x := by
  pointwise [k0_pay121, k0_pay122, k0_pay123, k0_pay124, k0_pay125, k0_pay126, k0_pay127, hiLo,
    live, stay, logit0, halves]

/-- The stored break row of the first head, in the last diagonal block. -/
theorem brk0_3 (K : Vec Ideal S128x128 .bf16) (Q : Vec Ideal S512x128 .bf16) (r : Fin 512) (l : Fin 128) :
    k0_pay128 (k0_pay123 K Q) (k0_pay125 K Q) (ix4 0 0 r l) =
      brk (logit0 (fun d => Q (ix2 r d)) (fun d => K (ix2 l d))) := by
  pointwise [k0_pay121, k0_pay122, k0_pay123, k0_pay124, k0_pay125, k0_pay126, k0_pay128, brk,
    logit0, halves]

/-- What the first head carries on to the blocks before, in the last diagonal block. -/
theorem carry0_3 (U : Vec Ideal S256x256 .bf16) (L : Vec Ideal S1x1x512x256 .bf16) (C : Vec Ideal S1x512x128 .f32)
    (r : Fin 512) (x : Fin 128) :
    (k0_pay139 U L C) (ix3 0 r x) =
      (C (ix3 0 r x) : EReal) + later (fun m => L (ix4 0 0 r m)) (fun m y => U (ix2 m y)) ⟨128 + ↑x, by omega⟩ := by
  pointwise [k0_pay136, k0_pay137, k0_pay139, later]

/-- The stored stay row of the second head, in the last diagonal block. -/
theorem stay1_3 (a j : BitVec 32) (K : Vec Ideal S128x128 .bf16) (Q : Vec Ideal S512x128 .bf16) (r : Fin 512) (x
    : Fin 256) :
    k0_pay134 a j (k0_pay130 K Q k0_pay121 k0_pay122) (k0_pay131 K Q k0_pay121 k0_pay122) k0_pay132 (ix4 0 0 r x) =
      hiLo (fun l => Scalar.select (live a j 0#32 r l) (stay (logit1 (fun d => Q (ix2 r d)) (fun d => K (ix2 l d)))) 0) x := by
  pointwise [k0_pay121, k0_pay122, k0_pay129, k0_pay130, k0_pay131, k0_pay132, k0_pay133,
    k0_pay134, hiLo, live, stay, logit1, halves]

/-- The stored break row of the second head, in the last diagonal block. -/
theorem brk1_3 (K : Vec Ideal S128x128 .bf16) (Q : Vec Ideal S512x128 .bf16) (r : Fin 512) (l : Fin 128) :
    k0_pay135 (k0_pay129 K Q k0_pay121 k0_pay122) (k0_pay131 K Q k0_pay121 k0_pay122) k0_pay132 (ix4 0 0 r l) =
      brk (logit1 (fun d => Q (ix2 r d)) (fun d => K (ix2 l d))) := by
  pointwise [k0_pay121, k0_pay122, k0_pay129, k0_pay130, k0_pay131, k0_pay132, k0_pay133,
    k0_pay135, brk, logit1, halves]

/-- What the second head carries on to the blocks before, in the last diagonal block. -/
theorem carry1_3 (U : Vec Ideal S256x256 .bf16) (L : Vec Ideal S1x1x512x256 .bf16) (C : Vec Ideal S1x512x128 .f32)
    (r : Fin 512) (x : Fin 128) :
    (k0_pay142 (k0_pay140 U L) (k0_pay141 C)) (ix3 0 r x) =
      (C (ix3 0 r x) : EReal) + later (fun m => L (ix4 0 0 r m)) (fun m y => U (ix2 m y)) ⟨128 + ↑x, by omega⟩ := by
  pointwise [k0_pay140, k0_pay141, k0_pay142, later]

/-- The running output after the last diagonal block. -/
theorem acc_3 (a j : BitVec 32) (U : Vec Ideal S256x256 .bf16) (V : Vec Ideal S128x128 .bf16)
    (L L1 : Vec Ideal S1x1x512x256 .bf16) (C C1 : Vec Ideal S1x512x128 .f32) (Z Z1 : Vec Ideal S1x1x512x128 .f32)
    (A : Vec Ideal S512x128 .f32) (r : Fin 512) (x : Fin 128) :
    (k0_pay143 a j V (k0_pay138 a U j V L C Z) (k0_pay140 U L1) (k0_pay141 C1) Z1 A) (ix2 r x) =
      (A (ix2 r x) : EReal) + halves x
        (shareIf (live a j 0#32 r) (fun l => Z (ix4 0 0 r l)) (fun l => C (ix3 0 r l))
          (fun m => L (ix4 0 0 r m)) (fun m y => U (ix2 m y)) (fun l => V (ix2 l x)))
        (shareIf (live a j 0#32 r) (fun l => Z1 (ix4 0 0 r l)) (fun l => C1 (ix3 0 r l))
          (fun m => L1 (ix4 0 0 r m)) (fun m y => U (ix2 m y)) (fun l => V (ix2 l x))) := by
  pointwise [k0_pay136, k0_pay137, k0_pay138, k0_pay140, k0_pay141, k0_pay143, halves, shareIf,
    later, live]

/-- The stored stay row of the first head, in the block after the diagonal, before the loop. -/
theorem stay0_4 (K : Vec Ideal S128x128 .bf16) (Q : Vec Ideal S512x128 .bf16) (r : Fin 512) (x : Fin 256) :
    k0_pay149 K Q (ix4 0 0 r x) =
      hiLo (fun l => stay (logit0 (fun d => Q (ix2 r d)) (fun d => K (ix2 l d)))) x := by
  pointwise [k0_pay144, k0_pay145, k0_pay146, k0_pay147, k0_pay148, k0_pay149, hiLo, live, stay,
    logit0, halves]

/-- The stored break row of the first head, in the block after the diagonal, before the loop. -/
theorem brk0_4 (K : Vec Ideal S128x128 .bf16) (Q : Vec Ideal S512x128 .bf16) (r : Fin 512) (l : Fin 128) :
    k0_pay150 K Q (ix4 0 0 r l) =
      brk (logit0 (fun d => Q (ix2 r d)) (fun d => K (ix2 l d))) := by
  pointwise [k0_pay144, k0_pay145, k0_pay146, k0_pay147, k0_pay148, k0_pay150, brk, logit0,
    halves]

/-- The stored stay row of the second head, in the block after the diagonal, before the loop. -/
theorem stay1_4 (K : Vec Ideal S128x128 .bf16) (Q : Vec Ideal S512x128 .bf16) (r : Fin 512) (x : Fin 256) :
    k0_pay155 (k0_pay152 K Q) (k0_pay153 K Q) (ix4 0 0 r x) =
      hiLo (fun l => stay (logit1 (fun d => Q (ix2 r d)) (fun d => K (ix2 l d)))) x := by
  pointwise [k0_pay144, k0_pay145, k0_pay151, k0_pay152, k0_pay153, k0_pay154, k0_pay155, hiLo,
    live, stay, logit1, halves]

/-- The stored break row of the second head, in the block after the diagonal, before the loop. -/
theorem brk1_4 (K : Vec Ideal S128x128 .bf16) (Q : Vec Ideal S512x128 .bf16) (r : Fin 512) (l : Fin 128) :
    k0_pay156 (k0_pay151 K Q) (k0_pay153 K Q) (ix4 0 0 r l) =
      brk (logit1 (fun d => Q (ix2 r d)) (fun d => K (ix2 l d))) := by
  pointwise [k0_pay144, k0_pay145, k0_pay151, k0_pay152, k0_pay153, k0_pay154, k0_pay156, brk,
    logit1, halves]

/-- The stored stay row of the first head, in the loop. -/
theorem stay0_5 (K : Vec Ideal S128x128 .bf16) (Q : Vec Ideal S512x128 .bf16) (r : Fin 512) (x : Fin 256) :
    k0_pay24 K Q (ix4 0 0 r x) =
      hiLo (fun l => stay (logit0 (fun d => Q (ix2 r d)) (fun d => K (ix2 l d)))) x := by
  pointwise [k0_pay19, k0_pay20, k0_pay21, k0_pay22, k0_pay23, k0_pay24, hiLo, live, stay, logit0,
    halves]

/-- The stored break row of the first head, in the loop. -/
theorem brk0_5 (K : Vec Ideal S128x128 .bf16) (Q : Vec Ideal S512x128 .bf16) (r : Fin 512) (l : Fin 128) :
    k0_pay25 K Q (ix4 0 0 r l) =
      brk (logit0 (fun d => Q (ix2 r d)) (fun d => K (ix2 l d))) := by
  pointwise [k0_pay19, k0_pay20, k0_pay21, k0_pay22, k0_pay23, k0_pay25, brk, logit0, halves]

/-- What the first head carries on to the blocks before, in the loop. -/
theorem carry0_5 (U : Vec Ideal S256x256 .bf16) (L : Vec Ideal S1x1x512x256 .bf16) (C : Vec Ideal S1x512x128 .f32)
    (r : Fin 512) (x : Fin 128) :
    (k0_pay14 (k0_pay13 U L C)) (ix3 0 r x) =
      (C (ix3 0 r x) : EReal) + later (fun m => L (ix4 0 0 r m)) (fun m y => U (ix2 m y)) ⟨128 + ↑x, by omega⟩ := by
  pointwise [k0_pay10, k0_pay11, k0_pay13, k0_pay14, later]

/-- The stored stay row of the second head, in the loop. -/
theorem stay1_5 (K : Vec Ideal S128x128 .bf16) (Q : Vec Ideal S512x128 .bf16) (r : Fin 512) (x : Fin 256) :
    k0_pay3 (k0_pay26 K Q) k0_pay27 (ix4 0 0 r x) =
      hiLo (fun l => stay (logit1 (fun d => Q (ix2 r d)) (fun d => K (ix2 l d)))) x := by
  pointwise [k0_pay1, k0_pay2, k0_pay3, k0_pay19, k0_pay20, k0_pay26, k0_pay27, hiLo, live, stay,
    logit1, halves]

/-- The stored break row of the second head, in the loop. -/
theorem brk1_5 (K : Vec Ideal S128x128 .bf16) (Q : Vec Ideal S512x128 .bf16) (r : Fin 512) (l : Fin 128) :
    k0_pay4 (k0_pay26 K Q) k0_pay27 (ix4 0 0 r l) =
      brk (logit1 (fun d => Q (ix2 r d)) (fun d => K (ix2 l d))) := by
  pointwise [k0_pay1, k0_pay2, k0_pay4, k0_pay19, k0_pay20, k0_pay26, k0_pay27, brk, logit1,
    halves]

/-- What the second head carries on to the blocks before, in the loop. -/
theorem carry1_5 (U : Vec Ideal S256x256 .bf16) (L : Vec Ideal S1x1x512x256 .bf16) (C : Vec Ideal S1x512x128 .f32)
    (r : Fin 512) (x : Fin 128) :
    (k0_pay17 U L C) (ix3 0 r x) =
      (C (ix3 0 r x) : EReal) + later (fun m => L (ix4 0 0 r m)) (fun m y => U (ix2 m y)) ⟨128 + ↑x, by omega⟩ := by
  pointwise [k0_pay15, k0_pay16, k0_pay17, later]

/-- The running output after the loop. -/
theorem acc_5 (U : Vec Ideal S256x256 .bf16) (V : Vec Ideal S128x128 .bf16)
    (L L1 : Vec Ideal S1x1x512x256 .bf16) (C C1 : Vec Ideal S1x512x128 .f32) (Z Z1 : Vec Ideal S1x1x512x128 .f32)
    (A : Vec Ideal S512x128 .f32) (r : Fin 512) (x : Fin 128) :
    (k0_pay18 U V (k0_pay12 U V L C Z) L1 C1 Z1 A) (ix2 r x) =
      (A (ix2 r x) : EReal) + halves x
        (share (fun l => Z (ix4 0 0 r l)) (fun l => C (ix3 0 r l))
          (fun m => L (ix4 0 0 r m)) (fun m y => U (ix2 m y)) (fun l => V (ix2 l x)))
        (share (fun l => Z1 (ix4 0 0 r l)) (fun l => C1 (ix3 0 r l))
          (fun m => L1 (ix4 0 0 r m)) (fun m y => U (ix2 m y)) (fun l => V (ix2 l x))) := by
  pointwise [k0_pay10, k0_pay11, k0_pay12, k0_pay15, k0_pay16, k0_pay18, halves, share, later,
    live]

end Cert.Breaking
end
-- ==== Proof.StickMath.lean ====
/-
  Sums over the keys, in the kernel's order.

  Fix a query at position `R` of its sequence, with logit `z k` against key `k` and value `v k` in
  some lane. Walking the keys from the last to the first, the kernel carries the sum of the stay
  logs over the keys seen so far, and the output they have earned. These are `suf` and `out` below,
  and the theorems say how they change when a block of 128 keys is added. All logits being real
  numbers, the narrow format's correction row vanishes.
-/
module

public import proofs.«01_k».proof.Proof.StickCell
public import Idealize.ShloMosaic.Lib.WordCmp

@[expose] public section

set_option maxRecDepth 16384

noncomputable section
namespace Cert.Breaking
open Cert.StickIdeal Cert.StickIdeal.Gen
open Idealize.ShloMosaic Idealize.ShloMosaic.TcCoe Idealize.SL.Sem

/-- The stay log of key `k`, zero for the keys that do not come before the query. -/
def st (R : ℕ) (z : ℕ → EReal) (k : ℕ) : EReal := if k < R then stay (z k) else 0

/-- The stay logs of the keys from `K` on, added up. -/
def suf (R : ℕ) (z : ℕ → EReal) (K : ℕ) : EReal := ∑ k ∈ Finset.Ico K 2048, st R z k

/-- What key `k` adds to the output. -/
def term (R : ℕ) (z v : ℕ → EReal) (k : ℕ) : EReal :=
  if k < R then Ideal.exp (brk (z k) + suf R z (k + 1)) * v k else 0

/-- The output earned by the keys from `K` on. -/
def out (R : ℕ) (z v : ℕ → EReal) (K : ℕ) : EReal := ∑ k ∈ Finset.Ico K 2048, term R z v k

/-- The kernel's fixed matrix: which later keys of the block a lane adds up. -/
def IsLater (U : Fin 256 → Fin 256 → EReal) : Prop :=
  ∀ m x : Fin 256, U m x = if x.val < 128 then (if x.val < m.val % 128 then 1 else 0) else 1

/-- The log of one plus an exponential of a real number is a real number. -/
theorem log_real (x : ℝ) : ∃ y : ℝ, Ideal.log (1 + Ideal.exp (x : EReal)) = y := by
  refine ⟨Real.log (1 + Real.exp x), ?_⟩
  have h : (1 : EReal) + Ideal.exp (x : EReal) = ((1 + Real.exp x : ℝ) : EReal) := by
    rw [Ideal.exp_coe]; norm_cast
  rw [h, Ideal.log_coe, if_neg (not_le.mpr (by positivity))]

/-- The stay log of a real logit is a real number. -/
theorem stay_real (x : ℝ) : ∃ y : ℝ, stay (x : EReal) = y := by
  have h0 : (0 : EReal) - (x : EReal) = ((0 - x : ℝ) : EReal) := by norm_cast
  have h1 : min (x : EReal) ((0 - x : ℝ) : EReal) = ((min x (0 - x) : ℝ) : EReal) := by norm_cast
  have h2 : min ((0 - x : ℝ) : EReal) 0 = ((min (0 - x) 0 : ℝ) : EReal) := by norm_cast
  obtain ⟨y, hy⟩ := log_real (min x (0 - x))
  refine ⟨min (0 - x) 0 - y, ?_⟩
  unfold stay
  rw [h0, h1, hy, h2]
  norm_cast

/-- Masked stay logs are real numbers too. -/
theorem st_real (R : ℕ) (z : ℕ → EReal) (hz : ∀ k, ∃ x : ℝ, z k = x) (k : ℕ) :
    ∃ y : ℝ, st R z k = y := by
  unfold st
  split
  · obtain ⟨x, hx⟩ := hz k
    rw [hx]; exact stay_real x
  · exact ⟨0, rfl⟩

/-- A row against the fixed matrix, the row holding real numbers: only its first half counts. -/
theorem later_row (f : Fin 128 → EReal) (hf : ∀ l, ∃ y : ℝ, f l = y)
    (U : Fin 256 → Fin 256 → EReal) (hU : IsLater U) (x : Fin 256) :
    later (hiLo f) U x =
      ∑ l : Fin 128, if x.val < 128 ∧ l.val ≤ x.val then 0 else f l := by
  have key : later (hiLo f) U x = ∑ m : Fin (128 + 128), hiLo f m * U m x := rfl
  rw [key, Fin.sum_univ_add]
  have hi : ∀ l : Fin 128, hiLo f (Fin.natAdd 128 l) * U (Fin.natAdd 128 l) x = 0 := by
    intro l
    obtain ⟨y, hy⟩ := hf l
    have e : hiLo f (Fin.natAdd 128 l) = f l - f l := by
      unfold hiLo
      rw [dif_neg (by simp)]
      have : (⟨(Fin.natAdd 128 l : Fin (128 + 128)).val - 128, by simp⟩ : Fin 128) = l := by
        ext; simp
      rw [this]
    rw [e, hy, ← EReal.coe_sub, sub_self, EReal.coe_zero, zero_mul]
  rw [Finset.sum_eq_zero (fun l _ => hi l), add_zero]
  refine Finset.sum_congr rfl fun l _ => ?_
  have e : hiLo f (Fin.castAdd 128 l) = f l := by
    unfold hiLo
    rw [dif_pos (by simp)]
    rfl
  have hm : (Fin.castAdd 128 l : Fin (128 + 128)).val % 128 = l.val := by
    have := l.isLt
    simp only [Fin.val_castAdd]
    omega
  rw [e, hU, hm]
  by_cases h1 : x.val < 128
  · by_cases h2 : x.val < l.val
    · rw [if_pos h1, if_pos h2, if_neg (by omega), mul_one]
    · rw [if_pos h1, if_neg h2, if_pos ⟨h1, by omega⟩, mul_zero]
  · rw [if_neg h1, if_neg (by omega), mul_one]

/-- A block's sum, from lane `x` on, as a sum over key numbers. -/
theorem block_sum (g : ℕ → EReal) (J x : ℕ) (hx : x ≤ 128) :
    (∑ l : Fin 128, if l.val < x then 0 else g (128 * J + l.val)) =
      ∑ k ∈ Finset.Ico (128 * J + x) (128 * (J + 1)), g k := by
  rw [Fin.sum_univ_eq_sum_range (fun l => if l < x then 0 else g (128 * J + l)) 128]
  have : ∀ l, (if l < x then 0 else g (128 * J + l)) = if x ≤ l then g (128 * J + l) else 0 := by
    intro l
    by_cases h : l < x
    · rw [if_pos h, if_neg (by omega)]
    · rw [if_neg h, if_pos (by omega)]
  simp only [this]
  rw [← Finset.sum_filter]
  have hf : (Finset.range 128).filter (fun l => x ≤ l) = Finset.Ico x 128 := by
    ext l; simp only [Finset.mem_filter, Finset.mem_range, Finset.mem_Ico]; omega
  rw [hf, Finset.sum_Ico_add g x 128 (128 * J), show 128 + 128 * J = 128 * (J + 1) by ring,
    Nat.add_comm x]

/-- Cutting a sum over the keys at a block's end. -/
theorem cut (g : ℕ → EReal) (J K : ℕ) (hJ : J < 16) (hK : K ≤ 128 * (J + 1)) :
    ∑ k ∈ Finset.Ico K 2048, g k =
      (∑ k ∈ Finset.Ico K (128 * (J + 1)), g k) + ∑ k ∈ Finset.Ico (128 * (J + 1)) 2048, g k :=
  (Finset.sum_Ico_consecutive g hK (by omega)).symm

/-- The block's total brings the carried sum one block further. -/
theorem carry_step (R : ℕ) (z : ℕ → EReal) (hz : ∀ k, ∃ x : ℝ, z k = x)
    (U : Fin 256 → Fin 256 → EReal) (hU : IsLater U) (J : ℕ) (hJ : J < 16) (x : Fin 128) :
    suf R z (128 * (J + 1)) + later (hiLo fun l => st R z (128 * J + l.val)) U ⟨128 + ↑x, by omega⟩ =
      suf R z (128 * J) := by
  rw [later_row _ (fun l => st_real R z hz _) U hU]
  have h := block_sum (st R z) J 0 (by omega)
  simp only [Nat.not_lt_zero, if_false] at h
  have e : ∀ l : Fin 128, (if 128 + x.val < 128 ∧ l.val ≤ 128 + x.val then 0
      else st R z (128 * J + l.val)) = st R z (128 * J + l.val) := fun l => if_neg (by omega)
  simp only [e, h]
  unfold suf
  rw [cut (st R z) J (128 * J) hJ (by omega), add_comm, Nat.add_zero]

/-- The later keys of the block and the carried sum make up the sum over all later keys. -/
theorem expo_step (R : ℕ) (z : ℕ → EReal) (hz : ∀ k, ∃ x : ℝ, z k = x)
    (U : Fin 256 → Fin 256 → EReal) (hU : IsLater U) (J : ℕ) (hJ : J < 16) (l : Fin 128) :
    later (hiLo fun m => st R z (128 * J + m.val)) U ⟨↑l, by omega⟩ + suf R z (128 * (J + 1)) =
      suf R z (128 * J + l.val + 1) := by
  rw [later_row _ (fun l => st_real R z hz _) U hU]
  have h := block_sum (st R z) J (l.val + 1) (by omega)
  have e : ∀ m : Fin 128, (if l.val < 128 ∧ m.val ≤ l.val then 0
      else st R z (128 * J + m.val)) = if m.val < l.val + 1 then 0 else st R z (128 * J + m.val) := by
    intro m
    by_cases hm : m.val ≤ l.val
    · rw [if_pos ⟨l.isLt, hm⟩, if_pos (by omega)]
    · rw [if_neg (by omega), if_neg (by omega)]
  simp only [e, h]
  unfold suf
  rw [cut (st R z) J (128 * J + l.val + 1) hJ (by omega)]
  rfl

/-- The output grows by the block's terms. -/
theorem out_step (R : ℕ) (z v : ℕ → EReal) (J : ℕ) (hJ : J < 16) :
    out R z v (128 * J) = out R z v (128 * (J + 1)) + ∑ l : Fin 128, term R z v (128 * J + l.val) := by
  have h := block_sum (term R z v) J 0 (by omega)
  simp only [Nat.not_lt_zero, if_false] at h
  unfold out
  rw [h, cut (term R z v) J (128 * J) hJ (by omega), add_comm]
  rfl

/-- A block that does not come before the query carries the sum on unchanged. -/
theorem suf_skip (R : ℕ) (z : ℕ → EReal) (J : ℕ) (hJ : J < 16) (hR : R ≤ 128 * J) :
    suf R z (128 * J) = suf R z (128 * (J + 1)) := by
  unfold suf
  rw [cut (st R z) J (128 * J) hJ (by omega), Finset.sum_eq_zero, zero_add]
  intro k hk
  exact if_neg (by have := (Finset.mem_Ico.mp hk).1; omega)

/-- A block that does not come before the query leaves the output unchanged. -/
theorem out_skip (R : ℕ) (z v : ℕ → EReal) (J : ℕ) (hJ : J < 16) (hR : R ≤ 128 * J) :
    out R z v (128 * J) = out R z v (128 * (J + 1)) := by
  unfold out
  rw [cut (term R z v) J (128 * J) hJ (by omega), Finset.sum_eq_zero, zero_add]
  intro k hk
  exact if_neg (by have := (Finset.mem_Ico.mp hk).1; omega)

/-- A masked block's share is the sum of its terms. -/
theorem shareIf_eq (R : ℕ) (z v : ℕ → EReal) (hz : ∀ k, ∃ x : ℝ, z k = x)
    (U : Fin 256 → Fin 256 → EReal) (hU : IsLater U) (J : ℕ) (hJ : J < 16)
    (w : Fin 128 → BitVec 1) (hw : ∀ l a b, (Scalar.select (w l) a b : EReal) = if 128 * J + l.val < R then a else b) :
    shareIf w (fun l => brk (z (128 * J + l.val))) (fun _ => suf R z (128 * (J + 1)))
      (hiLo fun m => st R z (128 * J + m.val)) U (fun l => v (128 * J + l.val)) =
      ∑ l : Fin 128, term R z v (128 * J + l.val) := by
  unfold shareIf
  refine Finset.sum_congr rfl fun l _ => ?_
  rw [hw, add_assoc, expo_step R z hz U hU J hJ l]
  rfl

/-- The share of a block lying wholly before the query is the sum of its terms. -/
theorem share_eq (R : ℕ) (z v : ℕ → EReal) (hz : ∀ k, ∃ x : ℝ, z k = x)
    (U : Fin 256 → Fin 256 → EReal) (hU : IsLater U) (J : ℕ) (hJ : J < 16) (hR : 128 * (J + 1) ≤ R) :
    share (fun l => brk (z (128 * J + l.val))) (fun _ => suf R z (128 * (J + 1)))
      (hiLo fun m => st R z (128 * J + m.val)) U (fun l => v (128 * J + l.val)) =
      ∑ l : Fin 128, term R z v (128 * J + l.val) := by
  unfold share
  refine Finset.sum_congr rfl fun l _ => ?_
  rw [add_assoc, expo_step R z hz U hU J hJ l]
  exact (if_pos (by omega)).symm

/-- Before all blocks nothing has been carried. -/
theorem suf_top (R : ℕ) (z : ℕ → EReal) (h : R ≤ 2048) (K : ℕ) (hK : R ≤ K) : suf R z K = 0 :=
  Finset.sum_eq_zero fun k hk => if_neg (by have := (Finset.mem_Ico.mp hk).1; omega)

/-- Before all blocks nothing has been earned. -/
theorem out_top (R : ℕ) (z v : ℕ → EReal) (K : ℕ) (hK : R ≤ K) : out R z v K = 0 :=
  Finset.sum_eq_zero fun k hk => if_neg (by have := (Finset.mem_Ico.mp hk).1; omega)

/-- The choice between the halves goes through a sum. -/
theorem halves_add (x : Fin 128) (a b c d : EReal) :
    halves x a b + halves x c d = halves x (a + c) (b + d) := by
  unfold halves Scalar.select
  split <;> rfl

/-- A choice by a bit, the bit standing for a proposition. -/
theorem select_prop {α : Type} (c : BitVec 1) (p : Prop) [Decidable p] (h : c = 1#1 ↔ p) (a b : α) :
    Scalar.select c a b = if p then a else b := by
  unfold Scalar.select
  by_cases hp : p
  · rw [if_pos hp]; exact if_pos (h.mpr hp)
  · rw [if_neg hp]; exact if_neg fun e => hp (h.mp e)

/-- The lane test as a comparison of numbers. -/
theorem halves_eq (x : Fin 128) (a b : EReal) : halves x a b = if x.val < 64 then a else b :=
  select_prop _ _ (WordCmp.cmpi_slt_ofNat_eq_one_iff (by omega) (by omega)) a b

/-- The masks' test as a comparison of numbers: key `128 J + l` before row `r0 + r` of tile `I`. -/
theorem live_eq (I J r0 r : ℕ) (l : Fin 128) (hI : I < 4) (hJ : J < 16) (hr : r0 + r < 512)
    (a b : EReal) :
    Scalar.select (live (BitVec.ofNat 32 I) (BitVec.ofNat 32 J) (BitVec.ofNat 32 r0) r l) a b =
      if 128 * J + l.val < 512 * I + (r0 + r) then a else b := by
  refine select_prop _ _ ?_ a b
  unfold live
  show IntOp.cmpi .slt (IntOp.addi (BitVec.ofNat 32 l.val) (IntOp.muli (BitVec.ofNat 32 J) (BitVec.ofNat 32 128)))
    (IntOp.addi (BitVec.ofNat 32 r) (IntOp.addi (BitVec.ofNat 32 r0)
      (IntOp.muli (BitVec.ofNat 32 I) (BitVec.ofNat 32 512)))) = 1#1 ↔ _
  rw [WordCmp.muli_ofNat, WordCmp.muli_ofNat, WordCmp.addi_ofNat, WordCmp.addi_ofNat, WordCmp.addi_ofNat,
    WordCmp.cmpi_slt_ofNat_eq_one_iff (by omega) (by omega)]
  omega

/-- The kernel's matrix is the one described. -/
theorem pay46_later : IsLater (fun m x => k0_pay46 (F := Ideal) (ix2 m x)) := by
  intro m x
  have e : k0_pay46 (F := Ideal) (ix2 m x) = Scalar.select
      (IntOp.ori (IntOp.cmpi CmpIPredicate.sgt (IntOp.andi (BitVec.ofNat 32 ↑m) 127#32) (BitVec.ofNat 32 ↑x))
      (IntOp.cmpi CmpIPredicate.sge (BitVec.ofNat 32 ↑x) 128#32)) (1 : EReal) 0 := by
    pointwise [k0_pay46]
  have ha : ∀ m : Fin 256, IntOp.andi (BitVec.ofNat 32 ↑m) 127#32 = BitVec.ofNat 32 (m.val % 128) := by
    decide +kernel
  show k0_pay46 (F := Ideal) (ix2 m x) = _
  rw [e, ha, WordCmp.cmpi_sgt_ofNat (by omega) (by omega), WordCmp.cmpi_sge_ofNat (by omega) (by omega),
    WordCmp.ori_ofBool, WordCmp.select_ofBool]
  by_cases h1 : x.val < 128
  · by_cases h2 : x.val < m.val % 128
    · rw [if_pos h1, if_pos h2, if_pos (by simp [h2])]
    · rw [if_pos h1, if_neg h2, if_neg (by simp; omega)]
  · rw [if_neg h1, if_pos (by simp; omega)]

end Cert.Breaking
end
-- ==== Proof.StickMem.lean ====
/-
  Reading the kernel's buffers one cell at a time: a rectangle read out of a buffer is the buffer's
  contents at the rectangle's cells, and a buffer just written holds the new cells inside the
  rectangle and the old ones outside.
-/
module

public import proofs.«01_k».proof.Proof.Gen.StickIdeal.Frame
public import Idealize.ShloMosaic.Lib.WritesUnit
public import Idealize.ShloMosaic.Lib.Pointwise

@[expose] public section

set_option maxRecDepth 16384

noncomputable section
namespace Cert.Breaking
open Cert.StickIdeal Cert.StickIdeal.Gen
open Idealize.ShloMosaic Idealize.ShloMosaic.TcCoe Idealize.SL.Sem

variable {e : EltTy}

/-- A rectangle read out of a buffer, at one cell. -/
theorem read_rect {s : Shape} (v : View sig .tc .vmem s e) (f : v.ty.Contents (Elt Ideal))
    {off off' size : Fin s.rank → ℕ} (inb : ∀ a, off a + size a ≤ s.size a) (ho : off = off')
    (x : (Rect.unit off size inb).shape.Idx) (y : s.Idx) (hy : ∀ a, (y a).val = off' a + (x a).val) :
    v.readAt (Elt Ideal) (Rect.unit off size inb).toLoadRect f x = v.read (Elt Ideal) f y := by
  subst ho
  show v.read (Elt Ideal) f _ = _
  congr 1
  funext a
  refine Fin.ext ?_
  show off a + 1 * (x a).val = (y a).val
  rw [hy a, Nat.one_mul]

/-- Rows `o` and on of a two-axis buffer. -/
theorem read2 {N n o : ℕ} (v : View sig .tc .vmem (⟨2, ![N, 128]⟩ : Shape) e) (f : v.ty.Contents (Elt Ideal))
    {off : Fin 2 → ℕ} (inb : ∀ k : Fin 2, off k + (![n, 128] : Fin 2 → ℕ) k ≤ (![N, 128] : Fin 2 → ℕ) k)
    (ho : off = ![o, 0]) (r : Fin n) (x : Fin 128) (R : Fin N) (hR : R.val = o + r.val) :
    v.readAt (Elt Ideal) (Rect.unit (s := ⟨2, ![N, 128]⟩) off ![n, 128] inb).toLoadRect f (ix2 r x) =
      v.read (Elt Ideal) f (ix2 R x) :=
  read_rect v f inb ho _ _ (Fin.forall_fin_two.mpr ⟨hR, (Nat.zero_add _).symm⟩)

/-- Rows `o` and on of one head of the carried sums. -/
theorem read3 {n o h : ℕ} (v : View sig .tc .vmem (⟨3, ![2, 512, 128]⟩ : Shape) e) (f : v.ty.Contents (Elt Ideal))
    (inb : ∀ k : Fin 3, (![h, o, 0] : Fin 3 → ℕ) k + (![1, n, 128] : Fin 3 → ℕ) k ≤ (![2, 512, 128] : Fin 3 → ℕ) k)
    (r : Fin n) (x : Fin 128) (H : Fin 2) (hH : H.val = h) (R : Fin 512) (hR : R.val = o + r.val) :
    v.readAt (Elt Ideal) (Rect.unit (s := ⟨3, ![2, 512, 128]⟩) ![h, o, 0] ![1, n, 128] inb).toLoadRect f
        (ix3 0 r x) = v.read (Elt Ideal) f (ix3 H R x) :=
  read_rect v f inb rfl _ _ fun k => by
    fin_cases k
    · exact hH
    · exact hR
    · exact (Nat.zero_add _).symm

/-- Rows `o` and on of one slot and head of a stored block. -/
theorem read4 {n o h p m : ℕ} (v : View sig .tc .vmem (⟨4, ![2, 2, 512, m]⟩ : Shape) e) (f : v.ty.Contents (Elt Ideal))
    {off : Fin 4 → ℕ}
    (inb : ∀ k : Fin 4, off k + (![1, 1, n, m] : Fin 4 → ℕ) k ≤ (![2, 2, 512, m] : Fin 4 → ℕ) k)
    (ho : off = ![p, h, o, 0])
    (r : Fin n) (x : Fin m) (P H : Fin 2) (hP : P.val = p) (hH : H.val = h) (R : Fin 512) (hR : R.val = o + r.val) :
    v.readAt (Elt Ideal) (Rect.unit (s := ⟨4, ![2, 2, 512, m]⟩) off ![1, 1, n, m] inb).toLoadRect f
        (ix4 0 0 r x) = v.read (Elt Ideal) f (ix4 P H R x) :=
  read_rect v f inb ho _ _ fun k => by
    fin_cases k
    · exact hP
    · exact hH
    · exact hR
    · exact (Nat.zero_add _).symm

/-- A row just written into a two-axis buffer. -/
theorem new2 {n o : ℕ} (v : View sig .tc .vmem (⟨2, ![512, 128]⟩ : Shape) e) (f : v.ty.Contents (Elt Ideal))
    (inb : ∀ k : Fin 2, (![o, 0] : Fin 2 → ℕ) k + (![n, 128] : Fin 2 → ℕ) k ≤ (![512, 128] : Fin 2 → ℕ) k)
    (w : (⟨2, ![n, 128]⟩ : Shape).Idx → Elt Ideal e) (L : List (View.Piece (Elt Ideal) (⟨2, ![512, 128]⟩ : Shape) e))
    (r : Fin n) (x : Fin 128) (R : Fin 512) (hR : R.val = o + r.val) :
    v.read (Elt Ideal) (v.writes (Elt Ideal) f
      (⟨Rect.unit (s := ⟨2, ![512, 128]⟩) ![o, 0] ![n, 128] inb, w⟩ :: L)) (ix2 R x) = w (ix2 r x) :=
  View.read_writes_cons_unit_of_mem v f inb w L (ix2 R x) (ix2 r x) rfl
    (Fin.forall_fin_two.mpr ⟨hR, (Nat.zero_add _).symm⟩)

/-- A row above those just written into a two-axis buffer. -/
theorem old2 {n o : ℕ} (v : View sig .tc .vmem (⟨2, ![512, 128]⟩ : Shape) e) (f : v.ty.Contents (Elt Ideal))
    (inb : ∀ k : Fin 2, (![o, 0] : Fin 2 → ℕ) k + (![n, 128] : Fin 2 → ℕ) k ≤ (![512, 128] : Fin 2 → ℕ) k)
    (w : (⟨2, ![n, 128]⟩ : Shape).Idx → Elt Ideal e) (L : List (View.Piece (Elt Ideal) (⟨2, ![512, 128]⟩ : Shape) e))
    (x : Fin 128) (R : Fin 512) (hR : R.val < o) :
    v.read (Elt Ideal) (v.writes (Elt Ideal) f
      (⟨Rect.unit (s := ⟨2, ![512, 128]⟩) ![o, 0] ![n, 128] inb, w⟩ :: L)) (ix2 R x) =
      v.read (Elt Ideal) (v.writes (Elt Ideal) f L) (ix2 R x) :=
  View.read_writes_cons_unit_of_not_mem v f inb w L (ix2 R x) rfl 0 (Or.inl hR)

/-- A row just written into one head of the carried sums. -/
theorem new3 {n o h : ℕ} (v : View sig .tc .vmem (⟨3, ![2, 512, 128]⟩ : Shape) e) (f : v.ty.Contents (Elt Ideal))
    (inb : ∀ k : Fin 3, (![h, o, 0] : Fin 3 → ℕ) k + (![1, n, 128] : Fin 3 → ℕ) k ≤ (![2, 512, 128] : Fin 3 → ℕ) k)
    (w : (⟨3, ![1, n, 128]⟩ : Shape).Idx → Elt Ideal e)
    (L : List (View.Piece (Elt Ideal) (⟨3, ![2, 512, 128]⟩ : Shape) e))
    (r : Fin n) (x : Fin 128) (H : Fin 2) (hH : H.val = h) (R : Fin 512) (hR : R.val = o + r.val) :
    v.read (Elt Ideal) (v.writes (Elt Ideal) f
      (⟨Rect.unit (s := ⟨3, ![2, 512, 128]⟩) ![h, o, 0] ![1, n, 128] inb, w⟩ :: L)) (ix3 H R x) = w (ix3 0 r x) :=
  View.read_writes_cons_unit_of_mem v f inb w L (ix3 H R x) (ix3 0 r x) rfl fun k => by
    fin_cases k
    · exact hH
    · exact hR
    · exact (Nat.zero_add _).symm

/-- A row above those just written into the carried sums. -/
theorem old3 {n o h : ℕ} (v : View sig .tc .vmem (⟨3, ![2, 512, 128]⟩ : Shape) e) (f : v.ty.Contents (Elt Ideal))
    (inb : ∀ k : Fin 3, (![h, o, 0] : Fin 3 → ℕ) k + (![1, n, 128] : Fin 3 → ℕ) k ≤ (![2, 512, 128] : Fin 3 → ℕ) k)
    (w : (⟨3, ![1, n, 128]⟩ : Shape).Idx → Elt Ideal e)
    (L : List (View.Piece (Elt Ideal) (⟨3, ![2, 512, 128]⟩ : Shape) e))
    (x : Fin 128) (H : Fin 2) (R : Fin 512) (hR : R.val < o) :
    v.read (Elt Ideal) (v.writes (Elt Ideal) f
      (⟨Rect.unit (s := ⟨3, ![2, 512, 128]⟩) ![h, o, 0] ![1, n, 128] inb, w⟩ :: L)) (ix3 H R x) =
      v.read (Elt Ideal) (v.writes (Elt Ideal) f L) (ix3 H R x) :=
  View.read_writes_cons_unit_of_not_mem v f inb w L (ix3 H R x) rfl 1 (Or.inl hR)

/-- The other head of the carried sums. -/
theorem other3 {n o h : ℕ} (v : View sig .tc .vmem (⟨3, ![2, 512, 128]⟩ : Shape) e) (f : v.ty.Contents (Elt Ideal))
    (inb : ∀ k : Fin 3, (![h, o, 0] : Fin 3 → ℕ) k + (![1, n, 128] : Fin 3 → ℕ) k ≤ (![2, 512, 128] : Fin 3 → ℕ) k)
    (w : (⟨3, ![1, n, 128]⟩ : Shape).Idx → Elt Ideal e)
    (L : List (View.Piece (Elt Ideal) (⟨3, ![2, 512, 128]⟩ : Shape) e))
    (x : Fin 128) (H : Fin 2) (hH : H.val ≠ h) (R : Fin 512) :
    v.read (Elt Ideal) (v.writes (Elt Ideal) f
      (⟨Rect.unit (s := ⟨3, ![2, 512, 128]⟩) ![h, o, 0] ![1, n, 128] inb, w⟩ :: L)) (ix3 H R x) =
      v.read (Elt Ideal) (v.writes (Elt Ideal) f L) (ix3 H R x) :=
  View.read_writes_cons_unit_of_not_mem v f inb w L (ix3 H R x) rfl 0
    (show H.val < h ∨ h + 1 ≤ H.val by omega)

/-- A row just written into one slot and head of the stored blocks. -/
theorem new4 {n o h p m : ℕ} (v : View sig .tc .vmem (⟨4, ![2, 2, 512, m]⟩ : Shape) e) (f : v.ty.Contents (Elt Ideal))
    {off : Fin 4 → ℕ}
    (inb : ∀ k : Fin 4, off k + (![1, 1, n, m] : Fin 4 → ℕ) k ≤ (![2, 2, 512, m] : Fin 4 → ℕ) k)
    (w : (⟨4, ![1, 1, n, m]⟩ : Shape).Idx → Elt Ideal e)
    (L : List (View.Piece (Elt Ideal) (⟨4, ![2, 2, 512, m]⟩ : Shape) e)) (ho : off = ![p, h, o, 0])
    (r : Fin n) (x : Fin m) (P H : Fin 2) (hP : P.val = p) (hH : H.val = h) (R : Fin 512) (hR : R.val = o + r.val) :
    v.read (Elt Ideal) (v.writes (Elt Ideal) f
      (⟨Rect.unit (s := ⟨4, ![2, 2, 512, m]⟩) off ![1, 1, n, m] inb, w⟩ :: L)) (ix4 P H R x) = w (ix4 0 0 r x) :=
  View.read_writes_cons_unit_of_mem v f inb w L (ix4 P H R x) (ix4 0 0 r x) ho fun k => by
    fin_cases k
    · exact hP
    · exact hH
    · exact hR
    · exact (Nat.zero_add _).symm

/-- Another head or slot than the one just written. -/
theorem other4 {n o h p m : ℕ} (v : View sig .tc .vmem (⟨4, ![2, 2, 512, m]⟩ : Shape) e) (f : v.ty.Contents (Elt Ideal))
    {off : Fin 4 → ℕ}
    (inb : ∀ k : Fin 4, off k + (![1, 1, n, m] : Fin 4 → ℕ) k ≤ (![2, 2, 512, m] : Fin 4 → ℕ) k)
    (w : (⟨4, ![1, 1, n, m]⟩ : Shape).Idx → Elt Ideal e)
    (L : List (View.Piece (Elt Ideal) (⟨4, ![2, 2, 512, m]⟩ : Shape) e)) (ho : off = ![p, h, o, 0])
    (x : Fin m) (P H : Fin 2) (hPH : P.val ≠ p ∨ H.val ≠ h) (R : Fin 512) :
    v.read (Elt Ideal) (v.writes (Elt Ideal) f
      (⟨Rect.unit (s := ⟨4, ![2, 2, 512, m]⟩) off ![1, 1, n, m] inb, w⟩ :: L)) (ix4 P H R x) =
      v.read (Elt Ideal) (v.writes (Elt Ideal) f L) (ix4 P H R x) := by
  rcases hPH with hP | hH
  · exact View.read_writes_cons_unit_of_not_mem v f inb w L (ix4 P H R x) ho 0
      (show P.val < p ∨ p + 1 ≤ P.val by omega)
  · exact View.read_writes_cons_unit_of_not_mem v f inb w L (ix4 P H R x) ho 1
      (show H.val < h ∨ h + 1 ≤ H.val by omega)

/-- Rows read out of an input block. -/
theorem input_at {N n o : ℕ} (a : Memref sig .tc .vmem (⟨2, ![N, 128]⟩ : Shape) e) (ha : a.IsWhole)
    (X : Vec Ideal (⟨2, ![N, 128]⟩ : Shape) e) {off : Fin 2 → ℕ}
    (inb : ∀ k : Fin 2, off k + (![n, 128] : Fin 2 → ℕ) k ≤ (![N, 128] : Fin 2 → ℕ) k) (ho : off = ![o, 0])
    (r : Fin n) (d : Fin 128) (R : Fin N) (hR : R.val = o + r.val) :
    a.view.readAt (Elt Ideal) (Rect.unit (s := ⟨2, ![N, 128]⟩) off ![n, 128] inb).toLoadRect (ha.unread X) (ix2 r d) =
      X (ix2 R d) := by
  rw [read2 a.view (ha.unread X) inb ho r d R hR, ha.read_unread]

end Cert.Breaking
end
-- ==== Proof.StickState.lean ====
/-
  What the kernel's buffers hold between two blocks of keys.

  After the blocks from block `K` on have been walked through, the carried sums hold `suf` from key
  `128 K` on and the running output holds `out` from there on; a stored block holds its keys' stay
  and break logs. The theorems say that one more block keeps this so, whichever rows it touches.
-/
module

public import proofs.«01_k».proof.Proof.StickMath
public import proofs.«01_k».proof.Proof.StickMem

@[expose] public section

set_option maxRecDepth 16384

noncomputable section
namespace Cert.Breaking
open Cert.StickIdeal Cert.StickIdeal.Gen
open Idealize.ShloMosaic Idealize.ShloMosaic.TcCoe Idealize.SL.Sem

/-- The logit of one head. -/
def lg : Fin 2 → (Fin 128 → EReal) → (Fin 128 → EReal) → EReal
  | 0 => logit0
  | 1 => logit1

/-- The logit of query row `r` of the tile against key `k` of the sequence. -/
def zl (x0 : Vec Ideal S512x128 .bf16) (x1 : Vec Ideal S2048x128 .bf16) (h : Fin 2) (r : Fin 512) (k : ℕ) : EReal :=
  if hk : k < 2048 then lg h (fun d => x0 (ix2 r d)) (fun d => x1 (ix2 ⟨k, hk⟩ d)) else 0

/-- Lane `x` of the value of key `k`. -/
def vl (x2 : Vec Ideal S2048x128 .bf16) (x : Fin 128) (k : ℕ) : EReal :=
  if hk : k < 2048 then x2 (ix2 ⟨k, hk⟩ x) else 0

/-- All logits are real numbers. -/
def AllReal (x0 : Vec Ideal S512x128 .bf16) (x1 : Vec Ideal S2048x128 .bf16) : Prop :=
  ∀ h r k, ∃ y : ℝ, zl x0 x1 h r k = y

variable (I : ℕ) (x0 : Vec Ideal S512x128 .bf16) (x1 x2 : Vec Ideal S2048x128 .bf16)

/-- The carried sums of head `h` over the keys from block `K` on. -/
def Carried (h : Fin 2) (K : ℕ) (V : Fin 512 → Fin 128 → EReal) : Prop :=
  ∀ r x, V r x = suf (512 * I + r.val) (zl x0 x1 h r) (128 * K)

/-- The output earned by the keys from block `K` on. -/
def Earned (K : ℕ) (V : Fin 512 → Fin 128 → EReal) : Prop :=
  ∀ r x, V r x = halves x (out (512 * I + r.val) (zl x0 x1 0 r) (vl x2 x) (128 * K))
    (out (512 * I + r.val) (zl x0 x1 1 r) (vl x2 x) (128 * K))

/-- The stay logs of block `J`, stored for the rows from `o` on. -/
def Stored (n o J : ℕ) (h : Fin 2) (L : Fin n → Fin 256 → EReal) : Prop :=
  ∀ r : Fin n, ∀ R : Fin 512, R.val = o + r.val → ∀ m,
    L r m = hiLo (fun l => st (512 * I + R.val) (zl x0 x1 h R) (128 * J + l.val)) m

/-- The break logs of block `J`, stored for the rows from `o` on. -/
def Broke (n o J : ℕ) (h : Fin 2) (Z : Fin n → Fin 128 → EReal) : Prop :=
  ∀ r : Fin n, ∀ R : Fin 512, R.val = o + r.val → ∀ l,
    Z r l = brk (zl x0 x1 h R (128 * J + l.val))

/-- The mask bits of block `J` for the rows from `o` on. -/
def Masks (n o J : ℕ) (w : Fin n → Fin 128 → BitVec 1) : Prop :=
  ∀ r : Fin n, ∀ l a b, (Scalar.select (w r l) a b : EReal) =
    if 128 * J + l.val < 512 * I + (o + r.val) then a else b

/-- Rows `o` and on of the query tile. -/
def QRows (n o : ℕ) (q : Fin n → Fin 128 → EReal) : Prop :=
  ∀ r : Fin n, ∀ R : Fin 512, R.val = o + r.val → ∀ d, q r d = x0 (ix2 R d)

/-- Block `J` of a sequence of keys or values. -/
def KRows (x : Vec Ideal S2048x128 .bf16) (J : ℕ) (k : Fin 128 → Fin 128 → EReal) : Prop :=
  ∀ l : Fin 128, ∀ R : Fin 2048, R.val = 128 * J + l.val → ∀ d, k l d = x (ix2 R d)

variable {I x0 x1 x2}

/-- The logits computed from a tile's rows and a block are those of the sequence. -/
theorem logit_rows {n o J : ℕ} (hJ : J < 16) {q : Fin n → Fin 128 → EReal} {k : Fin 128 → Fin 128 → EReal}
    (hq : QRows x0 n o q) (hk : KRows x1 J k) (h : Fin 2) (r : Fin n) (R : Fin 512)
    (hR : R.val = o + r.val) (l : Fin 128) :
    lg h (q r) (k l) = zl x0 x1 h R (128 * J + l.val) := by
  unfold zl
  have hl : 128 * J + l.val < 2048 := by omega
  rw [dif_pos hl]
  congr 1
  · funext d; exact hq r R hR d
  · funext d; exact hk l ⟨128 * J + l.val, hl⟩ rfl d

/-- A masked block's stay logs, once stored. -/
theorem stored_masked {n o J : ℕ} (hJ : J < 16) {q : Fin n → Fin 128 → EReal} {k : Fin 128 → Fin 128 → EReal}
    {w : Fin n → Fin 128 → BitVec 1} (hw : Masks I n o J w) (hq : QRows x0 n o q) (hk : KRows x1 J k) (h : Fin 2)
    {L : Fin n → Fin 256 → EReal}
    (hL : ∀ r m, L r m = hiLo (fun l => Scalar.select (w r l) (stay (lg h (q r) (k l))) 0) m) :
    Stored I x0 x1 n o J h L := by
  intro r R hR m
  rw [hL]
  congr 1
  funext l
  rw [hw r l, logit_rows hJ hq hk h r R hR l, hR]
  rfl

/-- The stay logs of a block before the whole tile, once stored. -/
theorem stored_whole {n o J : ℕ} (hJ : J < 16) (hI : 128 * (J + 1) ≤ 512 * I)
    {q : Fin n → Fin 128 → EReal} {k : Fin 128 → Fin 128 → EReal}
    (hq : QRows x0 n o q) (hk : KRows x1 J k) (h : Fin 2) {L : Fin n → Fin 256 → EReal}
    (hL : ∀ r m, L r m = hiLo (fun l => stay (lg h (q r) (k l))) m) :
    Stored I x0 x1 n o J h L := by
  intro r R hR m
  rw [hL]
  congr 1
  funext l
  rw [logit_rows hJ hq hk h r R hR l]
  exact (if_pos (by omega)).symm

/-- A block's break logs, once stored. -/
theorem broke_rows {n o J : ℕ} (hJ : J < 16) {q : Fin n → Fin 128 → EReal} {k : Fin 128 → Fin 128 → EReal}
    (hq : QRows x0 n o q) (hk : KRows x1 J k) (h : Fin 2) {Z : Fin n → Fin 128 → EReal}
    (hZ : ∀ r l, Z r l = brk (lg h (q r) (k l))) : Broke x0 x1 n o J h Z := by
  intro r R hR l
  rw [hZ, logit_rows hJ hq hk h r R hR l]

/-- One block more, for the carried sums. -/
theorem carried_step (hz : AllReal x0 x1) {n o J : ℕ} {h : Fin 2} (hn : o + n = 512) (hJ : J < 16)
    (ho : o = 0 ∨ 512 * I + o ≤ 128 * J) {V V' : Fin 512 → Fin 128 → EReal} {L : Fin n → Fin 256 → EReal}
    {C : Fin n → Fin 128 → EReal} {U : Fin 256 → Fin 256 → EReal} (hU : IsLater U)
    (hV : Carried I x0 x1 h (J + 1) V) (hL : Stored I x0 x1 n o J h L)
    (hC : ∀ r : Fin n, ∀ R : Fin 512, R.val = o + r.val → ∀ x, C r x = V R x)
    (hin : ∀ r : Fin n, ∀ R : Fin 512, R.val = o + r.val → ∀ x,
      V' R x = C r x + later (L r) U ⟨128 + ↑x, by omega⟩)
    (hout : ∀ R : Fin 512, R.val < o → ∀ x, V' R x = V R x) : Carried I x0 x1 h J V' := by
  intro R x
  by_cases hR : R.val < o
  · rw [hout R hR, hV R x, suf_skip _ _ J hJ (by omega)]
  · have e : R.val = o + (⟨R.val - o, by omega⟩ : Fin n).val := by simp only; omega
    rw [hin ⟨R.val - o, by omega⟩ R e, hC _ R e, hV R x,
      show L ⟨R.val - o, by omega⟩ = _ from funext (hL ⟨R.val - o, by omega⟩ R e)]
    exact carry_step _ _ (hz h R) U hU J hJ x

/-- One masked block more, for the running output. -/
theorem earned_masked (hz : AllReal x0 x1) {n o J : ℕ} (hn : o + n = 512) (hJ : J < 16)
    (ho : o = 0 ∨ 512 * I + o ≤ 128 * J) {V V' : Fin 512 → Fin 128 → EReal}
    {L0 L1 : Fin n → Fin 256 → EReal} {Z0 Z1 C0 C1 : Fin n → Fin 128 → EReal} {v : Fin 128 → Fin 128 → EReal}
    {w0 w1 : Fin n → Fin 128 → BitVec 1}
    {C0' C1' : Fin 512 → Fin 128 → EReal} {U : Fin 256 → Fin 256 → EReal} (hU : IsLater U)
    (hV : Earned I x0 x1 x2 (J + 1) V)
    (hL0 : Stored I x0 x1 n o J 0 L0) (hL1 : Stored I x0 x1 n o J 1 L1)
    (hZ0 : Broke x0 x1 n o J 0 Z0) (hZ1 : Broke x0 x1 n o J 1 Z1)
    (hc0 : Carried I x0 x1 0 (J + 1) C0') (hc1 : Carried I x0 x1 1 (J + 1) C1')
    (hC0 : ∀ r : Fin n, ∀ R : Fin 512, R.val = o + r.val → ∀ x, C0 r x = C0' R x)
    (hC1 : ∀ r : Fin n, ∀ R : Fin 512, R.val = o + r.val → ∀ x, C1 r x = C1' R x)
    (hv : KRows x2 J v) (hw0 : Masks I n o J w0) (hw1 : Masks I n o J w1)
    (hin : ∀ r : Fin n, ∀ R : Fin 512, R.val = o + r.val → ∀ x,
      V' R x = V R x + halves x (shareIf (w0 r) (Z0 r) (C0 r) (L0 r) U (fun l => v l x))
        (shareIf (w1 r) (Z1 r) (C1 r) (L1 r) U (fun l => v l x)))
    (hout : ∀ R : Fin 512, R.val < o → ∀ x, V' R x = V R x) : Earned I x0 x1 x2 J V' := by
  intro R x
  by_cases hR : R.val < o
  · rw [hout R hR, hV R x, out_skip _ _ _ J hJ (by omega), out_skip _ _ _ J hJ (by omega)]
  · have e : R.val = o + (⟨R.val - o, by omega⟩ : Fin n).val := by simp only; omega
    generalize (⟨R.val - o, by omega⟩ : Fin n) = r at e
    have ev : (fun l => v l x) = fun l : Fin 128 => vl x2 x (128 * J + l.val) := by
      funext l
      unfold vl
      rw [dif_pos (by omega)]
      exact hv l ⟨128 * J + l.val, by omega⟩ rfl x
    have w0' : ∀ l a b, (Scalar.select (w0 r l) a b : EReal) =
        if 128 * J + l.val < 512 * I + R.val then a else b := by rw [e]; exact hw0 r
    have w1' : ∀ l a b, (Scalar.select (w1 r l) a b : EReal) =
        if 128 * J + l.val < 512 * I + R.val then a else b := by rw [e]; exact hw1 r
    rw [hin r R e, hV R x, ev, show L0 r = _ from funext (hL0 r R e), show L1 r = _ from funext (hL1 r R e),
      show Z0 r = _ from funext (hZ0 r R e), show Z1 r = _ from funext (hZ1 r R e),
      show C0 r = fun _ => suf (512 * I + R.val) (zl x0 x1 0 R) (128 * (J + 1)) from
        funext fun y => (hC0 r R e y).trans (hc0 R y),
      show C1 r = fun _ => suf (512 * I + R.val) (zl x0 x1 1 R) (128 * (J + 1)) from
        funext fun y => (hC1 r R e y).trans (hc1 R y),
      shareIf_eq _ _ _ (hz 0 R) U hU J hJ _ w0', shareIf_eq _ _ _ (hz 1 R) U hU J hJ _ w1',
      halves_add, ← out_step _ _ _ J hJ, ← out_step _ _ _ J hJ]

/-- One block before the whole tile more, for the running output. -/
theorem earned_whole (hz : AllReal x0 x1) {J : ℕ} (hJ : J < 16) (hI : 128 * (J + 1) ≤ 512 * I)
    {V V' : Fin 512 → Fin 128 → EReal}
    {L0 L1 : Fin 512 → Fin 256 → EReal} {Z0 Z1 C0 C1 : Fin 512 → Fin 128 → EReal} {v : Fin 128 → Fin 128 → EReal}
    {U : Fin 256 → Fin 256 → EReal} (hU : IsLater U)
    (hV : Earned I x0 x1 x2 (J + 1) V)
    (hL0 : Stored I x0 x1 512 0 J 0 L0) (hL1 : Stored I x0 x1 512 0 J 1 L1)
    (hZ0 : Broke x0 x1 512 0 J 0 Z0) (hZ1 : Broke x0 x1 512 0 J 1 Z1)
    (hC0 : Carried I x0 x1 0 (J + 1) C0) (hC1 : Carried I x0 x1 1 (J + 1) C1)
    (hv : KRows x2 J v)
    (hin : ∀ R x, V' R x = V R x + halves x (share (Z0 R) (C0 R) (L0 R) U (fun l => v l x))
        (share (Z1 R) (C1 R) (L1 R) U (fun l => v l x))) : Earned I x0 x1 x2 J V' := by
  intro R x
  have e : R.val = 0 + R.val := (Nat.zero_add _).symm
  have ev : (fun l => v l x) = fun l : Fin 128 => vl x2 x (128 * J + l.val) := by
    funext l
    unfold vl
    rw [dif_pos (by omega)]
    exact hv l ⟨128 * J + l.val, by omega⟩ rfl x
  rw [hin R, hV R x, ev, show L0 R = _ from funext (hL0 R R e), show L1 R = _ from funext (hL1 R R e),
    show Z0 R = _ from funext (hZ0 R R e), show Z1 R = _ from funext (hZ1 R R e),
    show C0 R = fun _ => suf (512 * I + R.val) (zl x0 x1 0 R) (128 * (J + 1)) from funext (hC0 R),
    show C1 R = fun _ => suf (512 * I + R.val) (zl x0 x1 1 R) (128 * (J + 1)) from funext (hC1 R),
    share_eq _ _ _ (hz 0 R) U hU J hJ (by omega), share_eq _ _ _ (hz 1 R) U hU J hJ (by omega),
    halves_add, ← out_step _ _ _ J hJ, ← out_step _ _ _ J hJ]

end Cert.Breaking
end
-- ==== Proof.StickDiag.lean ====
/-
  The four blocks on the tile's diagonal, and the block the loop starts from.

  The kernel treats them one after the other, from the last key down: block `4 I + 3` touches the
  last 128 rows of tile `I`, block `4 I + 2` the last 256, and so on. For each block: what is stored
  of it, what is carried on, and what the running output is afterwards.
-/
module

public import proofs.«01_k».proof.Proof.StickState

@[expose] public section

set_option maxRecDepth 16384

noncomputable section
namespace Cert.Breaking
open Cert.StickIdeal Cert.StickIdeal.Gen Cert.StickIdeal.Gen.kernelRun0_A
open Idealize.ShloMosaic Idealize.ShloMosaic.TcCoe Idealize.SL.Sem

/-- What a list of writes leaves in one head of the carried sums. -/
def held7 (a : Memref sig .tc .vmem S2x512x128 .f32) (L : List (View.Piece (Elt Ideal) S2x512x128 .f32)) (h : Fin 2)
    (R : Fin 512) (x : Fin 128) : EReal :=
  a.view.read (Elt Ideal) (a.view.writes (Elt Ideal) a.view.junk L) (ix3 h R x)

/-- What a list of writes leaves in the running output. -/
def held8 (a : Memref sig .tc .vmem S512x128 .f32) (L : List (View.Piece (Elt Ideal) S512x128 .f32))
    (R : Fin 512) (x : Fin 128) : EReal :=
  a.view.read (Elt Ideal) (a.view.writes (Elt Ideal) a.view.junk L) (ix2 R x)

/-- The mask bits, once their words are known. -/
theorem masks {n o J I : ℕ} (hI : I < 4) (hJ : J < 16) (hn : o + n = 512) {j : BitVec 32} (hj : j = BitVec.ofNat 32 J) :
    Masks I n o J (fun r l => live (BitVec.ofNat 32 I) j (BitVec.ofNat 32 o) r l) := by
  subst hj
  intro r l a b
  exact live_eq I J o r l hI hJ (by omega) a b

variable (c : Dev nD) (i : grid0.Coords) (arg3 : Memref sig .tc .vmem S512x128 .bf16) (harg3 : arg3.IsWhole)
  (arg4 : Memref sig .tc .vmem S2048x128 .bf16) (harg4 : arg4.IsWhole)
  (arg5 : Memref sig .tc .vmem S2048x128 .bf16) (harg5 : arg5.IsWhole)
  (arg7 : Memref sig .tc .vmem S2x512x128 .f32) (arg8 : Memref sig .tc .vmem S512x128 .f32)
  (arg9 : Memref sig .tc .vmem S2x2x512x256 .bf16) (arg10 : Memref sig .tc .vmem S2x2x512x128 .f32)
  (x0 : Vec Ideal S512x128 .bf16) (x1 x2 : Vec Ideal S2048x128 .bf16)

/-- The tile's number is below four. -/
theorem tile_lt : (i 2).val < 4 := (i 2).isLt

/-- The word of the last diagonal block. -/
theorem w22 : sl.v22 i = BitVec.ofNat 32 (4 * (i 2).val + 3) := by
  have h : ∀ w : Fin 4, Scalar.subi (Scalar.muli (Scalar.addi (BitVec.ofNat 32 w.val) 1#32) 4#32) 1#32 =
      BitVec.ofNat 32 (4 * w.val + 3) := by decide
  exact h (i 2)

/-- Words counted down from the last diagonal block. -/
theorem wsub (k : ℕ) (hk : k ≤ 3) : Scalar.subi (BitVec.ofNat 32 (4 * (i 2).val + 3)) (BitVec.ofNat 32 k) =
    BitVec.ofNat 32 (4 * (i 2).val + (3 - k)) := by
  have h : ∀ w k : Fin 4, Scalar.subi (BitVec.ofNat 32 (4 * w.val + 3)) (BitVec.ofNat 32 k.val) =
      BitVec.ofNat 32 (4 * w.val + (3 - k.val)) := by decide
  exact h (i 2) ⟨k, by omega⟩

/-- Where the first diagonal block of keys lies. -/
theorem off1_eq : k0_off1 i = ![128 * (4 * (i 2).val + 3), 0] := by
  have h : ∀ w : Fin 4, (Scalar.indexCast (Scalar.muli (Scalar.subi (Scalar.muli (Scalar.addi (BitVec.ofNat 32 w.val)
      1#32) 4#32) 1#32) 128#32)).toNat = 128 * (4 * w.val + 3) := by decide
  exact congrArg (fun n : ℕ => (![n, 0] : Fin 2 → ℕ)) (h (i 2))

/-- Where the diagonal blocks of values lie. -/
theorem off2_eq (k : ℕ) (hk : k ≤ 3) : k0_off2 i (BitVec.ofNat 32 k) = ![128 * (4 * (i 2).val + (3 - k)), 0] := by
  have h : ∀ w k : Fin 4, (Scalar.indexCast (Scalar.muli (Scalar.subi (Scalar.subi (Scalar.muli (Scalar.addi
      (BitVec.ofNat 32 w.val) 1#32) 4#32) 1#32) (BitVec.ofNat 32 k.val)) 128#32)).toNat =
        128 * (4 * w.val + (3 - k.val)) := by decide
  exact congrArg (fun n : ℕ => (![n, 0] : Fin 2 → ℕ)) (h (i 2) ⟨k, by omega⟩)

/-- Where the later diagonal blocks of keys lie. -/
theorem off3_eq (k : ℕ) (hk : k ≤ 2) : k0_off3 i (BitVec.ofNat 32 k) = ![128 * (4 * (i 2).val + (2 - k)), 0] := by
  have h : ∀ (w : Fin 4) (k : Fin 3), (Scalar.indexCast (Scalar.muli (Scalar.subi (Scalar.subi (Scalar.subi
      (Scalar.muli (Scalar.addi (BitVec.ofNat 32 w.val) 1#32) 4#32) 1#32) (BitVec.ofNat 32 k.val)) 1#32)
        128#32)).toNat = 128 * (4 * w.val + (2 - k.val)) := by decide
  exact congrArg (fun n : ℕ => (![n, 0] : Fin 2 → ℕ)) (h (i 2) ⟨k, by omega⟩)

/-- Where the block before the diagonal lies; the first tile has none and takes block 0. -/
theorem off4_eq : k0_off4 i = ![128 * (4 * (i 2).val - 1), 0] := by
  have h : ∀ w : Fin 4, (Scalar.indexCast (Scalar.muli (Scalar.maxsi (Scalar.subi (Scalar.muli (BitVec.ofNat 32 w.val)
      4#32) 1#32) 0#32) 128#32)).toNat = 128 * (4 * w.val - 1) := by decide
  exact congrArg (fun n : ℕ => (![n, 0] : Fin 2 → ℕ)) (h (i 2))

/-- Nothing has been carried at first. -/
theorem carried_start (h : Fin 2) :
    Carried (i 2).val x0 x1 h (4 * (i 2).val + 4) (held7 arg7 sl.HS0_1 h) := by
  intro r x
  have hi := tile_lt i
  rw [suf_top _ _ (by omega) _ (by omega)]
  refine (View.read_writes_cons_unit_of_mem arg7.view _ _ _ _ (ix3 h r x) (ix3 h r x) rfl fun a => ?_).trans ?_
  · fin_cases a <;> exact (Nat.zero_add _).symm
  · pointwise [k0_pay47]

/-- Nothing has been earned at first. -/
theorem earned_start : Earned (i 2).val x0 x1 x2 (4 * (i 2).val + 4) (held8 arg8 sl.HS1_1) := by
  intro r x
  have hi := tile_lt i
  rw [out_top _ _ _ _ (by omega), out_top _ _ _ _ (by omega)]
  refine (View.read_writes_cons_unit_of_mem arg8.view _ _ _ _ (ix2 r x) (ix2 r x) rfl fun a => ?_).trans ?_
  · fin_cases a <;> exact (Nat.zero_add _).symm
  · have e : halves x (0 : EReal) 0 = 0 := by rw [halves_eq]; split <;> rfl
    rw [e]
    pointwise [k0_pay48]

/-- A word of the first diagonal block. -/
theorem word_0_a : sl.v22 i = BitVec.ofNat 32 (4 * (i 2).val + 3) := by
  have h : ∀ w : Fin 4, (Scalar.subi (Scalar.muli (Scalar.addi (BitVec.ofNat 32 w.val) 1#32) 4#32) 1#32) = BitVec.ofNat 32 (4 * w.val + 3) := by decide
  exact h (i 2)

/-- A word of the first diagonal block. -/
theorem word_0_c : sl.v109 i = BitVec.ofNat 32 (4 * (i 2).val + 3) := by
  have h : ∀ w : Fin 4, (Scalar.subi (Scalar.subi (Scalar.muli (Scalar.addi (BitVec.ofNat 32 w.val) 1#32) 4#32) 1#32) 0#32) = BitVec.ofNat 32 (4 * w.val + 3) := by decide
  exact h (i 2)

/-- The query rows of the first diagonal block. -/
theorem qrows_0 : QRows x0 128 384 (fun r d => (sl.r_1 c arg3 harg3 x0) (ix2 r d)) :=
  fun r R hR d => input_at arg3 harg3 x0 _ rfl r d R hR

/-- The keys of the first diagonal block. -/
theorem krows_0 : KRows x1 (4 * (i 2).val + 3) (fun l d => (sl.r c i arg4 harg4 x1) (ix2 l d)) :=
  fun l R hR d => input_at arg4 harg4 x1 _ (off1_eq i) l d R hR

/-- The values of the first diagonal block. -/
theorem vrows_0 : KRows x2 (4 * (i 2).val + 3) (fun l d => (sl.r_4 c i arg5 harg5 x2) (ix2 l d)) :=
  fun l R hR d => input_at arg5 harg5 x2 _ (off2_eq i 0 (by omega)) l d R hR

/-- The first diagonal block as stored for the first head: stay logs. -/
theorem stored0_0 : Stored (i 2).val x0 x1 128 384 (4 * (i 2).val + 3) 0 (fun r m => (sl.v114 c i arg3 harg3 arg4 harg4 arg9 x0 x1) (ix4 0 0 r m)) := by
  have hi := tile_lt i
  refine stored_masked (by omega) (masks hi (by omega) (by omega) (word_0_a i)) (qrows_0 c arg3 harg3 x0)
    (krows_0 c i arg4 harg4 x1) 0 fun r m => ?_
  · refine (read4 arg9.view _ _ rfl r m 0 0 rfl rfl ⟨384 + r.val, by omega⟩ rfl).trans ?_
    refine (other4 arg9.view _ _ _ _ rfl m 0 0 (Or.inr (by decide)) ⟨384 + r.val, by omega⟩).trans ?_
    refine (new4 arg9.view _ _ _ _ rfl r m 0 0 rfl rfl ⟨384 + r.val, by omega⟩ rfl).trans ?_
    exact stay0_0 (BitVec.ofNat 32 (i 2).val) (sl.v22 i) (sl.r c i arg4 harg4 x1) (sl.r_1 c arg3 harg3 x0) r m

/-- The first diagonal block as stored for the first head: break logs. -/
theorem broke0_0 : Broke x0 x1 128 384 (4 * (i 2).val + 3) 0 (fun r l => (sl.v119 c i arg3 harg3 arg4 harg4 arg10 x0 x1) (ix4 0 0 r l)) := by
  have hi := tile_lt i
  refine broke_rows (by omega) (qrows_0 c arg3 harg3 x0) (krows_0 c i arg4 harg4 x1) 0 fun r l => ?_
  · refine (read4 arg10.view _ _ rfl r l 0 0 rfl rfl ⟨384 + r.val, by omega⟩ rfl).trans ?_
    refine (other4 arg10.view _ _ _ _ rfl l 0 0 (Or.inr (by decide)) ⟨384 + r.val, by omega⟩).trans ?_
    refine (new4 arg10.view _ _ _ _ rfl r l 0 0 rfl rfl ⟨384 + r.val, by omega⟩ rfl).trans ?_
    exact brk0_0 (sl.r c i arg4 harg4 x1) (sl.r_1 c arg3 harg3 x0) r l

/-- The first diagonal block as stored for the second head: stay logs. -/
theorem stored1_0 : Stored (i 2).val x0 x1 128 384 (4 * (i 2).val + 3) 1 (fun r m => (sl.v144 c i arg3 harg3 arg4 harg4 arg9 x0 x1) (ix4 0 0 r m)) := by
  have hi := tile_lt i
  refine stored_masked (by omega) (masks hi (by omega) (by omega) (word_0_a i)) (qrows_0 c arg3 harg3 x0)
    (krows_0 c i arg4 harg4 x1) 1 fun r m => ?_
  · refine (read4 arg9.view _ _ rfl r m 0 1 rfl rfl ⟨384 + r.val, by omega⟩ rfl).trans ?_
    refine (new4 arg9.view _ _ _ _ rfl r m 0 1 rfl rfl ⟨384 + r.val, by omega⟩ rfl).trans ?_
    exact stay1_0 (BitVec.ofNat 32 (i 2).val) (sl.v22 i) (sl.r c i arg4 harg4 x1) (sl.r_1 c arg3 harg3 x0) r m

/-- The first diagonal block as stored for the second head: break logs. -/
theorem broke1_0 : Broke x0 x1 128 384 (4 * (i 2).val + 3) 1 (fun r l => (sl.v149 c i arg3 harg3 arg4 harg4 arg10 x0 x1) (ix4 0 0 r l)) := by
  have hi := tile_lt i
  refine broke_rows (by omega) (qrows_0 c arg3 harg3 x0) (krows_0 c i arg4 harg4 x1) 1 fun r l => ?_
  · refine (read4 arg10.view _ _ rfl r l 0 1 rfl rfl ⟨384 + r.val, by omega⟩ rfl).trans ?_
    refine (new4 arg10.view _ _ _ _ rfl r l 0 1 rfl rfl ⟨384 + r.val, by omega⟩ rfl).trans ?_
    exact brk1_0 (sl.r c i arg4 harg4 x1) (sl.r_1 c arg3 harg3 x0) r l

/-- What is carried on after the first diagonal block, the first head being done. -/
theorem carried_mid_0 (hz : AllReal x0 x1) :
    Carried (i 2).val x0 x1 0 (4 * (i 2).val + 3) (held7 arg7 (sl.HS0_2 c i arg3 harg3 arg4 harg4 arg7 arg9 x0 x1) 0) ∧
    Carried (i 2).val x0 x1 1 (4 * (i 2).val + 4) (held7 arg7 (sl.HS0_2 c i arg3 harg3 arg4 harg4 arg7 arg9 x0 x1) 1) := by
  have hi := tile_lt i
  refine ⟨carried_step hz (n := 128) (o := 384) (by omega) (by omega) (Or.inr (by omega)) pay46_later
    (carried_start i arg7 x0 x1 0)
    (stored0_0 c i arg3 harg3 arg4 harg4 arg9 x0 x1) (C := fun r x => (sl.v117 (F := Ideal) c arg7) (ix3 0 r x))
    (fun r R hR x => read3 arg7.view _ _ r x 0 rfl R hR) (fun r R hR x => ?_) (fun R hR x => old3 arg7.view _ _ _ _ x 0 R hR),
    fun R x => (other3 arg7.view _ _ _ _ x 1 (by decide) R).trans ((carried_start i arg7 x0 x1 1) R x)⟩
  refine (new3 arg7.view _ _ _ _ r x 0 rfl R hR).trans ?_
  exact carry0_0 (k0_pay46 (F := Ideal)) (sl.v114 c i arg3 harg3 arg4 harg4 arg9 x0 x1) (sl.v117 (F := Ideal) c arg7) r x

/-- What is carried on after the first diagonal block. -/
theorem carried_0 (hz : AllReal x0 x1) :
    Carried (i 2).val x0 x1 0 (4 * (i 2).val + 3) (held7 arg7 (sl.HS0_3 c i arg3 harg3 arg4 harg4 arg7 arg9 x0 x1) 0) ∧
    Carried (i 2).val x0 x1 1 (4 * (i 2).val + 3) (held7 arg7 (sl.HS0_3 c i arg3 harg3 arg4 harg4 arg7 arg9 x0 x1) 1) := by
  have hi := tile_lt i
  have hm := carried_mid_0 c i arg3 harg3 arg4 harg4 arg7 arg9 x0 x1 hz
  refine ⟨fun R x => (other3 arg7.view _ _ _ _ x 0 (by decide) R).trans (hm.1 R x),
    carried_step hz (n := 128) (o := 384) (by omega) (by omega) (Or.inr (by omega)) pay46_later hm.2
    (stored1_0 c i arg3 harg3 arg4 harg4 arg9 x0 x1) (C := fun r x => (sl.v147 c i arg3 harg3 arg4 harg4 arg7 arg9 x0 x1) (ix3 0 r x))
    (fun r R hR x => read3 arg7.view _ _ r x 1 rfl R hR) (fun r R hR x => ?_) (fun R hR x => old3 arg7.view _ _ _ _ x 1 R hR)⟩
  refine (new3 arg7.view _ _ _ _ r x 1 rfl R hR).trans ?_
  exact carry1_0 (k0_pay46 (F := Ideal)) (sl.v144 c i arg3 harg3 arg4 harg4 arg9 x0 x1) (sl.v147 c i arg3 harg3 arg4 harg4 arg7 arg9 x0 x1) r x

/-- The running output after the first diagonal block. -/
theorem earned_0 (hz : AllReal x0 x1) : Earned (i 2).val x0 x1 x2 (4 * (i 2).val + 3) (held8 arg8 (sl.HS1_2 c i arg3 harg3 arg4 harg4 arg5 harg5 arg7 arg8 arg9 arg10 x0 x1 x2)) := by
  have hi := tile_lt i
  refine earned_masked hz (n := 128) (o := 384) (by omega) (by omega) (Or.inr (by omega)) pay46_later (earned_start i arg8 x0 x1 x2)
    (stored0_0 c i arg3 harg3 arg4 harg4 arg9 x0 x1) (stored1_0 c i arg3 harg3 arg4 harg4 arg9 x0 x1)
    (broke0_0 c i arg3 harg3 arg4 harg4 arg10 x0 x1) (broke1_0 c i arg3 harg3 arg4 harg4 arg10 x0 x1)
    (carried_start i arg7 x0 x1 0) (carried_mid_0 c i arg3 harg3 arg4 harg4 arg7 arg9 x0 x1 hz).2
    (C0 := fun r x => (sl.v117 (F := Ideal) c arg7) (ix3 0 r x)) (C1 := fun r x => (sl.v147 c i arg3 harg3 arg4 harg4 arg7 arg9 x0 x1) (ix3 0 r x))
    (fun r R hR x => read3 arg7.view _ _ r x 0 rfl R hR) (fun r R hR x => read3 arg7.view _ _ r x 1 rfl R hR)
    (vrows_0 c i arg5 harg5 x2) (masks hi (by omega) (by omega) (word_0_c i))
    (masks hi (by omega) (by omega) (word_0_c i)) (fun r R hR x => ?_) (fun R hR x => old2 arg8.view _ _ _ _ x R hR)
  refine (new2 arg8.view _ _ _ _ r x R hR).trans ?_
  refine (acc_0 (BitVec.ofNat 32 (i 2).val) (sl.v109 i) (k0_pay46 (F := Ideal)) (sl.r_4 c i arg5 harg5 x2) (sl.v114 c i arg3 harg3 arg4 harg4 arg9 x0 x1) (sl.v144 c i arg3 harg3 arg4 harg4 arg9 x0 x1) (sl.v117 (F := Ideal) c arg7) (sl.v147 c i arg3 harg3 arg4 harg4 arg7 arg9 x0 x1) (sl.v119 c i arg3 harg3 arg4 harg4 arg10 x0 x1) (sl.v149 c i arg3 harg3 arg4 harg4 arg10 x0 x1) (sl.v177 (F := Ideal) c arg8) r x).trans ?_
  exact congrArg (· + _) (read2 arg8.view _ _ rfl r x R hR)

/-- A word of the second diagonal block. -/
theorem word_1_a : Scalar.subi (sl.v109 i) 1#32 = BitVec.ofNat 32 (4 * (i 2).val + 2) := by
  have h : ∀ w : Fin 4, Scalar.subi (Scalar.subi (Scalar.subi (Scalar.muli (Scalar.addi (BitVec.ofNat 32 w.val) 1#32) 4#32) 1#32) 0#32) 1#32 = BitVec.ofNat 32 (4 * w.val + 2) := by decide
  exact h (i 2)

/-- A word of the second diagonal block. -/
theorem word_1_b : sl.v184 i = BitVec.ofNat 32 (4 * (i 2).val + 2) := by
  have h : ∀ w : Fin 4, (Scalar.subi (Scalar.subi (Scalar.subi (Scalar.muli (Scalar.addi (BitVec.ofNat 32 w.val) 1#32) 4#32) 1#32) 0#32) 1#32) = BitVec.ofNat 32 (4 * w.val + 2) := by decide
  exact h (i 2)

/-- A word of the second diagonal block. -/
theorem word_1_c : Scalar.subi (sl.v22 i) 1#32 = BitVec.ofNat 32 (4 * (i 2).val + 2) := by
  have h : ∀ w : Fin 4, Scalar.subi (Scalar.subi (Scalar.muli (Scalar.addi (BitVec.ofNat 32 w.val) 1#32) 4#32) 1#32) 1#32 = BitVec.ofNat 32 (4 * w.val + 2) := by decide
  exact h (i 2)

/-- A word of the second diagonal block. -/
theorem word_1_d : sl.v270 i = BitVec.ofNat 32 (4 * (i 2).val + 2) := by
  have h : ∀ w : Fin 4, (Scalar.subi (Scalar.subi (Scalar.muli (Scalar.addi (BitVec.ofNat 32 w.val) 1#32) 4#32) 1#32) 1#32) = BitVec.ofNat 32 (4 * w.val + 2) := by decide
  exact h (i 2)

/-- The query rows of the second diagonal block. -/
theorem qrows_1 : QRows x0 256 256 (fun r d => (sl.r_8 c arg3 harg3 x0) (ix2 r d)) :=
  fun r R hR d => input_at arg3 harg3 x0 _ rfl r d R hR

/-- The keys of the second diagonal block. -/
theorem krows_1 : KRows x1 (4 * (i 2).val + 2) (fun l d => (sl.r_7 c i arg4 harg4 x1) (ix2 l d)) :=
  fun l R hR d => input_at arg4 harg4 x1 _ (off3_eq i 0 (by omega)) l d R hR

/-- The values of the second diagonal block. -/
theorem vrows_1 : KRows x2 (4 * (i 2).val + 2) (fun l d => (sl.r_14 c i arg5 harg5 x2) (ix2 l d)) :=
  fun l R hR d => input_at arg5 harg5 x2 _ (off2_eq i 1 (by omega)) l d R hR

/-- The second diagonal block as stored for the first head: stay logs. -/
theorem stored0_1 : Stored (i 2).val x0 x1 256 256 (4 * (i 2).val + 2) 0 (fun r m => (sl.v275 c i arg3 harg3 arg4 harg4 arg9 x0 x1) (ix4 0 0 r m)) := by
  have hi := tile_lt i
  refine stored_masked (by omega) (masks hi (by omega) (by omega) (word_1_a i)) (qrows_1 c arg3 harg3 x0)
    (krows_1 c i arg4 harg4 x1) 0 fun r m => ?_
  · refine (read4 arg9.view _ _ rfl r m 1 0 rfl rfl ⟨256 + r.val, by omega⟩ rfl).trans ?_
    refine (other4 arg9.view _ _ _ _ rfl m 1 0 (Or.inr (by decide)) ⟨256 + r.val, by omega⟩).trans ?_
    refine (new4 arg9.view _ _ _ _ rfl r m 1 0 rfl rfl ⟨256 + r.val, by omega⟩ rfl).trans ?_
    exact stay0_1 (BitVec.ofNat 32 (i 2).val) (sl.v109 i) (sl.r_7 c i arg4 harg4 x1) (sl.r_8 c arg3 harg3 x0) r m

/-- The second diagonal block as stored for the first head: break logs. -/
theorem broke0_1 : Broke x0 x1 256 256 (4 * (i 2).val + 2) 0 (fun r l => (sl.v280 c i arg3 harg3 arg4 harg4 arg10 x0 x1) (ix4 0 0 r l)) := by
  have hi := tile_lt i
  refine broke_rows (by omega) (qrows_1 c arg3 harg3 x0) (krows_1 c i arg4 harg4 x1) 0 fun r l => ?_
  · refine (read4 arg10.view _ _ rfl r l 1 0 rfl rfl ⟨256 + r.val, by omega⟩ rfl).trans ?_
    refine (other4 arg10.view _ _ _ _ rfl l 1 0 (Or.inr (by decide)) ⟨256 + r.val, by omega⟩).trans ?_
    refine (new4 arg10.view _ _ _ _ rfl r l 1 0 rfl rfl ⟨256 + r.val, by omega⟩ rfl).trans ?_
    exact brk0_1 (sl.r_7 c i arg4 harg4 x1) (sl.r_8 c arg3 harg3 x0) r l

/-- The second diagonal block as stored for the second head: stay logs. -/
theorem stored1_1 : Stored (i 2).val x0 x1 256 256 (4 * (i 2).val + 2) 1 (fun r m => (sl.v305 c i arg3 harg3 arg4 harg4 arg9 x0 x1) (ix4 0 0 r m)) := by
  have hi := tile_lt i
  refine stored_masked (by omega) (masks hi (by omega) (by omega) (word_1_b i)) (qrows_1 c arg3 harg3 x0)
    (krows_1 c i arg4 harg4 x1) 1 fun r m => ?_
  · refine (read4 arg9.view _ _ rfl r m 1 1 rfl rfl ⟨256 + r.val, by omega⟩ rfl).trans ?_
    refine (new4 arg9.view _ _ _ _ rfl r m 1 1 rfl rfl ⟨256 + r.val, by omega⟩ rfl).trans ?_
    exact stay1_1 (BitVec.ofNat 32 (i 2).val) (sl.v184 i) (sl.r_7 c i arg4 harg4 x1) (sl.r_8 c arg3 harg3 x0) r m

/-- The second diagonal block as stored for the second head: break logs. -/
theorem broke1_1 : Broke x0 x1 256 256 (4 * (i 2).val + 2) 1 (fun r l => (sl.v310 c i arg3 harg3 arg4 harg4 arg10 x0 x1) (ix4 0 0 r l)) := by
  have hi := tile_lt i
  refine broke_rows (by omega) (qrows_1 c arg3 harg3 x0) (krows_1 c i arg4 harg4 x1) 1 fun r l => ?_
  · refine (read4 arg10.view _ _ rfl r l 1 1 rfl rfl ⟨256 + r.val, by omega⟩ rfl).trans ?_
    refine (new4 arg10.view _ _ _ _ rfl r l 1 1 rfl rfl ⟨256 + r.val, by omega⟩ rfl).trans ?_
    exact brk1_1 (sl.r_7 c i arg4 harg4 x1) (sl.r_8 c arg3 harg3 x0) r l

/-- What is carried on after the second diagonal block, the first head being done. -/
theorem carried_mid_1 (hz : AllReal x0 x1) :
    Carried (i 2).val x0 x1 0 (4 * (i 2).val + 2) (held7 arg7 (sl.HS0_4 c i arg3 harg3 arg4 harg4 arg7 arg9 x0 x1) 0) ∧
    Carried (i 2).val x0 x1 1 (4 * (i 2).val + 3) (held7 arg7 (sl.HS0_4 c i arg3 harg3 arg4 harg4 arg7 arg9 x0 x1) 1) := by
  have hi := tile_lt i
  refine ⟨carried_step hz (n := 256) (o := 256) (by omega) (by omega) (Or.inr (by omega)) pay46_later
    (carried_0 c i arg3 harg3 arg4 harg4 arg7 arg9 x0 x1 hz).1
    (stored0_1 c i arg3 harg3 arg4 harg4 arg9 x0 x1) (C := fun r x => (sl.v278 c i arg3 harg3 arg4 harg4 arg7 arg9 x0 x1) (ix3 0 r x))
    (fun r R hR x => read3 arg7.view _ _ r x 0 rfl R hR) (fun r R hR x => ?_) (fun R hR x => old3 arg7.view _ _ _ _ x 0 R hR),
    fun R x => (other3 arg7.view _ _ _ _ x 1 (by decide) R).trans ((carried_0 c i arg3 harg3 arg4 harg4 arg7 arg9 x0 x1 hz).2 R x)⟩
  refine (new3 arg7.view _ _ _ _ r x 0 rfl R hR).trans ?_
  exact carry0_1 (k0_pay46 (F := Ideal)) (sl.v275 c i arg3 harg3 arg4 harg4 arg9 x0 x1) (sl.v278 c i arg3 harg3 arg4 harg4 arg7 arg9 x0 x1) r x

/-- What is carried on after the second diagonal block. -/
theorem carried_1 (hz : AllReal x0 x1) :
    Carried (i 2).val x0 x1 0 (4 * (i 2).val + 2) (held7 arg7 (sl.HS0_5 c i arg3 harg3 arg4 harg4 arg7 arg9 x0 x1) 0) ∧
    Carried (i 2).val x0 x1 1 (4 * (i 2).val + 2) (held7 arg7 (sl.HS0_5 c i arg3 harg3 arg4 harg4 arg7 arg9 x0 x1) 1) := by
  have hi := tile_lt i
  have hm := carried_mid_1 c i arg3 harg3 arg4 harg4 arg7 arg9 x0 x1 hz
  refine ⟨fun R x => (other3 arg7.view _ _ _ _ x 0 (by decide) R).trans (hm.1 R x),
    carried_step hz (n := 256) (o := 256) (by omega) (by omega) (Or.inr (by omega)) pay46_later hm.2
    (stored1_1 c i arg3 harg3 arg4 harg4 arg9 x0 x1) (C := fun r x => (sl.v308 c i arg3 harg3 arg4 harg4 arg7 arg9 x0 x1) (ix3 0 r x))
    (fun r R hR x => read3 arg7.view _ _ r x 1 rfl R hR) (fun r R hR x => ?_) (fun R hR x => old3 arg7.view _ _ _ _ x 1 R hR)⟩
  refine (new3 arg7.view _ _ _ _ r x 1 rfl R hR).trans ?_
  exact carry1_1 (k0_pay46 (F := Ideal)) (sl.v305 c i arg3 harg3 arg4 harg4 arg9 x0 x1) (sl.v308 c i arg3 harg3 arg4 harg4 arg7 arg9 x0 x1) r x

/-- The running output after the second diagonal block. -/
theorem earned_1 (hz : AllReal x0 x1) : Earned (i 2).val x0 x1 x2 (4 * (i 2).val + 2) (held8 arg8 (sl.HS1_3 c i arg3 harg3 arg4 harg4 arg5 harg5 arg7 arg8 arg9 arg10 x0 x1 x2)) := by
  have hi := tile_lt i
  refine earned_masked hz (n := 256) (o := 256) (by omega) (by omega) (Or.inr (by omega)) pay46_later (earned_0 c i arg3 harg3 arg4 harg4 arg5 harg5 arg7 arg8 arg9 arg10 x0 x1 x2 hz)
    (stored0_1 c i arg3 harg3 arg4 harg4 arg9 x0 x1) (stored1_1 c i arg3 harg3 arg4 harg4 arg9 x0 x1)
    (broke0_1 c i arg3 harg3 arg4 harg4 arg10 x0 x1) (broke1_1 c i arg3 harg3 arg4 harg4 arg10 x0 x1)
    (carried_0 c i arg3 harg3 arg4 harg4 arg7 arg9 x0 x1 hz).1 (carried_mid_1 c i arg3 harg3 arg4 harg4 arg7 arg9 x0 x1 hz).2
    (C0 := fun r x => (sl.v278 c i arg3 harg3 arg4 harg4 arg7 arg9 x0 x1) (ix3 0 r x)) (C1 := fun r x => (sl.v308 c i arg3 harg3 arg4 harg4 arg7 arg9 x0 x1) (ix3 0 r x))
    (fun r R hR x => read3 arg7.view _ _ r x 0 rfl R hR) (fun r R hR x => read3 arg7.view _ _ r x 1 rfl R hR)
    (vrows_1 c i arg5 harg5 x2) (masks hi (by omega) (by omega) (word_1_c i))
    (masks hi (by omega) (by omega) (word_1_d i)) (fun r R hR x => ?_) (fun R hR x => old2 arg8.view _ _ _ _ x R hR)
  refine (new2 arg8.view _ _ _ _ r x R hR).trans ?_
  refine (acc_1 (BitVec.ofNat 32 (i 2).val) (sl.v22 i) (sl.v270 i) (k0_pay46 (F := Ideal)) (sl.r_14 c i arg5 harg5 x2) (sl.v275 c i arg3 harg3 arg4 harg4 arg9 x0 x1) (sl.v305 c i arg3 harg3 arg4 harg4 arg9 x0 x1) (sl.v278 c i arg3 harg3 arg4 harg4 arg7 arg9 x0 x1) (sl.v308 c i arg3 harg3 arg4 harg4 arg7 arg9 x0 x1) (sl.v280 c i arg3 harg3 arg4 harg4 arg10 x0 x1) (sl.v310 c i arg3 harg3 arg4 harg4 arg10 x0 x1) (sl.v338 c i arg3 harg3 arg4 harg4 arg5 harg5 arg7 arg8 arg9 arg10 x0 x1 x2) r x).trans ?_
  exact congrArg (· + _) (read2 arg8.view _ _ rfl r x R hR)

/-- A word of the third diagonal block. -/
theorem word_2_a : Scalar.subi (Scalar.subi (sl.v22 i) 1#32) 1#32 = BitVec.ofNat 32 (4 * (i 2).val + 1) := by
  have h : ∀ w : Fin 4, Scalar.subi (Scalar.subi (Scalar.subi (Scalar.muli (Scalar.addi (BitVec.ofNat 32 w.val) 1#32) 4#32) 1#32) 1#32) 1#32 = BitVec.ofNat 32 (4 * w.val + 1) := by decide
  exact h (i 2)

/-- A word of the third diagonal block. -/
theorem word_2_b : sl.v345 i = BitVec.ofNat 32 (4 * (i 2).val + 1) := by
  have h : ∀ w : Fin 4, (Scalar.subi (Scalar.subi (Scalar.subi (Scalar.muli (Scalar.addi (BitVec.ofNat 32 w.val) 1#32) 4#32) 1#32) 1#32) 1#32) = BitVec.ofNat 32 (4 * w.val + 1) := by decide
  exact h (i 2)

/-- A word of the third diagonal block. -/
theorem word_2_c : sl.v431 i = BitVec.ofNat 32 (4 * (i 2).val + 1) := by
  have h : ∀ w : Fin 4, (Scalar.subi (Scalar.subi (Scalar.muli (Scalar.addi (BitVec.ofNat 32 w.val) 1#32) 4#32) 1#32) 2#32) = BitVec.ofNat 32 (4 * w.val + 1) := by decide
  exact h (i 2)

/-- The query rows of the third diagonal block. -/
theorem qrows_2 : QRows x0 384 128 (fun r d => (sl.r_22 c arg3 harg3 x0) (ix2 r d)) :=
  fun r R hR d => input_at arg3 harg3 x0 _ rfl r d R hR

/-- The keys of the third diagonal block. -/
theorem krows_2 : KRows x1 (4 * (i 2).val + 1) (fun l d => (sl.r_21 c i arg4 harg4 x1) (ix2 l d)) :=
  fun l R hR d => input_at arg4 harg4 x1 _ (off3_eq i 1 (by omega)) l d R hR

/-- The values of the third diagonal block. -/
theorem vrows_2 : KRows x2 (4 * (i 2).val + 1) (fun l d => (sl.r_32 c i arg5 harg5 x2) (ix2 l d)) :=
  fun l R hR d => input_at arg5 harg5 x2 _ (off2_eq i 2 (by omega)) l d R hR

/-- The third diagonal block as stored for the first head: stay logs. -/
theorem stored0_2 : Stored (i 2).val x0 x1 384 128 (4 * (i 2).val + 1) 0 (fun r m => (sl.v436 c i arg3 harg3 arg4 harg4 arg9 x0 x1) (ix4 0 0 r m)) := by
  have hi := tile_lt i
  refine stored_masked (by omega) (masks hi (by omega) (by omega) (word_2_a i)) (qrows_2 c arg3 harg3 x0)
    (krows_2 c i arg4 harg4 x1) 0 fun r m => ?_
  · refine (read4 arg9.view _ _ rfl r m 0 0 rfl rfl ⟨128 + r.val, by omega⟩ rfl).trans ?_
    refine (other4 arg9.view _ _ _ _ rfl m 0 0 (Or.inr (by decide)) ⟨128 + r.val, by omega⟩).trans ?_
    refine (new4 arg9.view _ _ _ _ rfl r m 0 0 rfl rfl ⟨128 + r.val, by omega⟩ rfl).trans ?_
    exact stay0_2 (BitVec.ofNat 32 (i 2).val) (sl.v22 i) (sl.r_21 c i arg4 harg4 x1) (sl.r_22 c arg3 harg3 x0) r m

/-- The third diagonal block as stored for the first head: break logs. -/
theorem broke0_2 : Broke x0 x1 384 128 (4 * (i 2).val + 1) 0 (fun r l => (sl.v441 c i arg3 harg3 arg4 harg4 arg10 x0 x1) (ix4 0 0 r l)) := by
  have hi := tile_lt i
  refine broke_rows (by omega) (qrows_2 c arg3 harg3 x0) (krows_2 c i arg4 harg4 x1) 0 fun r l => ?_
  · refine (read4 arg10.view _ _ rfl r l 0 0 rfl rfl ⟨128 + r.val, by omega⟩ rfl).trans ?_
    refine (other4 arg10.view _ _ _ _ rfl l 0 0 (Or.inr (by decide)) ⟨128 + r.val, by omega⟩).trans ?_
    refine (new4 arg10.view _ _ _ _ rfl r l 0 0 rfl rfl ⟨128 + r.val, by omega⟩ rfl).trans ?_
    exact brk0_2 (sl.r_21 c i arg4 harg4 x1) (sl.r_22 c arg3 harg3 x0) r l

/-- The third diagonal block as stored for the second head: stay logs. -/
theorem stored1_2 : Stored (i 2).val x0 x1 384 128 (4 * (i 2).val + 1) 1 (fun r m => (sl.v466 c i arg3 harg3 arg4 harg4 arg9 x0 x1) (ix4 0 0 r m)) := by
  have hi := tile_lt i
  refine stored_masked (by omega) (masks hi (by omega) (by omega) (word_2_b i)) (qrows_2 c arg3 harg3 x0)
    (krows_2 c i arg4 harg4 x1) 1 fun r m => ?_
  · refine (read4 arg9.view _ _ rfl r m 0 1 rfl rfl ⟨128 + r.val, by omega⟩ rfl).trans ?_
    refine (new4 arg9.view _ _ _ _ rfl r m 0 1 rfl rfl ⟨128 + r.val, by omega⟩ rfl).trans ?_
    exact stay1_2 (BitVec.ofNat 32 (i 2).val) (sl.v345 i) (sl.r_21 c i arg4 harg4 x1) (sl.r_22 c arg3 harg3 x0) r m

/-- The third diagonal block as stored for the second head: break logs. -/
theorem broke1_2 : Broke x0 x1 384 128 (4 * (i 2).val + 1) 1 (fun r l => (sl.v471 c i arg3 harg3 arg4 harg4 arg10 x0 x1) (ix4 0 0 r l)) := by
  have hi := tile_lt i
  refine broke_rows (by omega) (qrows_2 c arg3 harg3 x0) (krows_2 c i arg4 harg4 x1) 1 fun r l => ?_
  · refine (read4 arg10.view _ _ rfl r l 0 1 rfl rfl ⟨128 + r.val, by omega⟩ rfl).trans ?_
    refine (new4 arg10.view _ _ _ _ rfl r l 0 1 rfl rfl ⟨128 + r.val, by omega⟩ rfl).trans ?_
    exact brk1_2 (sl.r_21 c i arg4 harg4 x1) (sl.r_22 c arg3 harg3 x0) r l

/-- What is carried on after the third diagonal block, the first head being done. -/
theorem carried_mid_2 (hz : AllReal x0 x1) :
    Carried (i 2).val x0 x1 0 (4 * (i 2).val + 1) (held7 arg7 (sl.HS0_6 c i arg3 harg3 arg4 harg4 arg7 arg9 x0 x1) 0) ∧
    Carried (i 2).val x0 x1 1 (4 * (i 2).val + 2) (held7 arg7 (sl.HS0_6 c i arg3 harg3 arg4 harg4 arg7 arg9 x0 x1) 1) := by
  have hi := tile_lt i
  refine ⟨carried_step hz (n := 384) (o := 128) (by omega) (by omega) (Or.inr (by omega)) pay46_later
    (carried_1 c i arg3 harg3 arg4 harg4 arg7 arg9 x0 x1 hz).1
    (stored0_2 c i arg3 harg3 arg4 harg4 arg9 x0 x1) (C := fun r x => (sl.v439 c i arg3 harg3 arg4 harg4 arg7 arg9 x0 x1) (ix3 0 r x))
    (fun r R hR x => read3 arg7.view _ _ r x 0 rfl R hR) (fun r R hR x => ?_) (fun R hR x => old3 arg7.view _ _ _ _ x 0 R hR),
    fun R x => (other3 arg7.view _ _ _ _ x 1 (by decide) R).trans ((carried_1 c i arg3 harg3 arg4 harg4 arg7 arg9 x0 x1 hz).2 R x)⟩
  refine (new3 arg7.view _ _ _ _ r x 0 rfl R hR).trans ?_
  exact carry0_2 (k0_pay46 (F := Ideal)) (sl.v436 c i arg3 harg3 arg4 harg4 arg9 x0 x1) (sl.v439 c i arg3 harg3 arg4 harg4 arg7 arg9 x0 x1) r x

/-- What is carried on after the third diagonal block. -/
theorem carried_2 (hz : AllReal x0 x1) :
    Carried (i 2).val x0 x1 0 (4 * (i 2).val + 1) (held7 arg7 (sl.HS0_7 c i arg3 harg3 arg4 harg4 arg7 arg9 x0 x1) 0) ∧
    Carried (i 2).val x0 x1 1 (4 * (i 2).val + 1) (held7 arg7 (sl.HS0_7 c i arg3 harg3 arg4 harg4 arg7 arg9 x0 x1) 1) := by
  have hi := tile_lt i
  have hm := carried_mid_2 c i arg3 harg3 arg4 harg4 arg7 arg9 x0 x1 hz
  refine ⟨fun R x => (other3 arg7.view _ _ _ _ x 0 (by decide) R).trans (hm.1 R x),
    carried_step hz (n := 384) (o := 128) (by omega) (by omega) (Or.inr (by omega)) pay46_later hm.2
    (stored1_2 c i arg3 harg3 arg4 harg4 arg9 x0 x1) (C := fun r x => (sl.v469 c i arg3 harg3 arg4 harg4 arg7 arg9 x0 x1) (ix3 0 r x))
    (fun r R hR x => read3 arg7.view _ _ r x 1 rfl R hR) (fun r R hR x => ?_) (fun R hR x => old3 arg7.view _ _ _ _ x 1 R hR)⟩
  refine (new3 arg7.view _ _ _ _ r x 1 rfl R hR).trans ?_
  exact carry1_2 (k0_pay46 (F := Ideal)) (sl.v466 c i arg3 harg3 arg4 harg4 arg9 x0 x1) (sl.v469 c i arg3 harg3 arg4 harg4 arg7 arg9 x0 x1) r x

/-- The running output after the third diagonal block. -/
theorem earned_2 (hz : AllReal x0 x1) : Earned (i 2).val x0 x1 x2 (4 * (i 2).val + 1) (held8 arg8 (sl.HS1_4 c i arg3 harg3 arg4 harg4 arg5 harg5 arg7 arg8 arg9 arg10 x0 x1 x2)) := by
  have hi := tile_lt i
  refine earned_masked hz (n := 384) (o := 128) (by omega) (by omega) (Or.inr (by omega)) pay46_later (earned_1 c i arg3 harg3 arg4 harg4 arg5 harg5 arg7 arg8 arg9 arg10 x0 x1 x2 hz)
    (stored0_2 c i arg3 harg3 arg4 harg4 arg9 x0 x1) (stored1_2 c i arg3 harg3 arg4 harg4 arg9 x0 x1)
    (broke0_2 c i arg3 harg3 arg4 harg4 arg10 x0 x1) (broke1_2 c i arg3 harg3 arg4 harg4 arg10 x0 x1)
    (carried_1 c i arg3 harg3 arg4 harg4 arg7 arg9 x0 x1 hz).1 (carried_mid_2 c i arg3 harg3 arg4 harg4 arg7 arg9 x0 x1 hz).2
    (C0 := fun r x => (sl.v439 c i arg3 harg3 arg4 harg4 arg7 arg9 x0 x1) (ix3 0 r x)) (C1 := fun r x => (sl.v469 c i arg3 harg3 arg4 harg4 arg7 arg9 x0 x1) (ix3 0 r x))
    (fun r R hR x => read3 arg7.view _ _ r x 0 rfl R hR) (fun r R hR x => read3 arg7.view _ _ r x 1 rfl R hR)
    (vrows_2 c i arg5 harg5 x2) (masks hi (by omega) (by omega) (word_2_c i))
    (masks hi (by omega) (by omega) (word_2_c i)) (fun r R hR x => ?_) (fun R hR x => old2 arg8.view _ _ _ _ x R hR)
  refine (new2 arg8.view _ _ _ _ r x R hR).trans ?_
  refine (acc_2 (BitVec.ofNat 32 (i 2).val) (sl.v431 i) (k0_pay46 (F := Ideal)) (sl.r_32 c i arg5 harg5 x2) (sl.v436 c i arg3 harg3 arg4 harg4 arg9 x0 x1) (sl.v466 c i arg3 harg3 arg4 harg4 arg9 x0 x1) (sl.v439 c i arg3 harg3 arg4 harg4 arg7 arg9 x0 x1) (sl.v469 c i arg3 harg3 arg4 harg4 arg7 arg9 x0 x1) (sl.v441 c i arg3 harg3 arg4 harg4 arg10 x0 x1) (sl.v471 c i arg3 harg3 arg4 harg4 arg10 x0 x1) (sl.v499 c i arg3 harg3 arg4 harg4 arg5 harg5 arg7 arg8 arg9 arg10 x0 x1 x2) r x).trans ?_
  exact congrArg (· + _) (read2 arg8.view _ _ rfl r x R hR)

/-- A word of the last diagonal block. -/
theorem word_3_a : sl.v506 i = BitVec.ofNat 32 (4 * (i 2).val + 0) := by
  have h : ∀ w : Fin 4, (Scalar.subi (Scalar.subi (Scalar.subi (Scalar.muli (Scalar.addi (BitVec.ofNat 32 w.val) 1#32) 4#32) 1#32) 2#32) 1#32) = BitVec.ofNat 32 (4 * w.val + 0) := by decide
  exact h (i 2)

/-- A word of the last diagonal block. -/
theorem word_3_c : sl.v592 i = BitVec.ofNat 32 (4 * (i 2).val + 0) := by
  have h : ∀ w : Fin 4, (Scalar.subi (Scalar.subi (Scalar.muli (Scalar.addi (BitVec.ofNat 32 w.val) 1#32) 4#32) 1#32) 3#32) = BitVec.ofNat 32 (4 * w.val + 0) := by decide
  exact h (i 2)

/-- The query rows of the last diagonal block. -/
theorem qrows_3 : QRows x0 512 0 (fun r d => (sl.r_42 c arg3 harg3 x0) (ix2 r d)) :=
  fun r R hR d => input_at arg3 harg3 x0 _ rfl r d R hR

/-- The keys of the last diagonal block. -/
theorem krows_3 : KRows x1 (4 * (i 2).val + 0) (fun l d => (sl.r_41 c i arg4 harg4 x1) (ix2 l d)) :=
  fun l R hR d => input_at arg4 harg4 x1 _ (off3_eq i 2 (by omega)) l d R hR

/-- The values of the last diagonal block. -/
theorem vrows_3 : KRows x2 (4 * (i 2).val + 0) (fun l d => (sl.r_49 c i arg5 harg5 x2) (ix2 l d)) :=
  fun l R hR d => input_at arg5 harg5 x2 _ (off2_eq i 3 (by omega)) l d R hR

/-- The last diagonal block as stored for the first head: stay logs. -/
theorem stored0_3 : Stored (i 2).val x0 x1 512 0 (4 * (i 2).val + 0) 0 (fun r m => (sl.v597 c i arg3 harg3 arg4 harg4 arg9 x0 x1) (ix4 0 0 r m)) := by
  have hi := tile_lt i
  refine stored_masked (by omega) (masks hi (by omega) (by omega) (word_3_a i)) (qrows_3 c arg3 harg3 x0)
    (krows_3 c i arg4 harg4 x1) 0 fun r m => ?_
  · refine (read4 arg9.view _ _ rfl r m 1 0 rfl rfl ⟨0 + r.val, by omega⟩ rfl).trans ?_
    refine (other4 arg9.view _ _ _ _ rfl m 1 0 (Or.inr (by decide)) ⟨0 + r.val, by omega⟩).trans ?_
    refine (new4 arg9.view _ _ _ _ rfl r m 1 0 rfl rfl ⟨0 + r.val, by omega⟩ rfl).trans ?_
    exact stay0_3 (BitVec.ofNat 32 (i 2).val) (sl.v506 i) (sl.r_41 c i arg4 harg4 x1) (sl.r_42 c arg3 harg3 x0) r m

/-- The last diagonal block as stored for the first head: break logs. -/
theorem broke0_3 : Broke x0 x1 512 0 (4 * (i 2).val + 0) 0 (fun r l => (sl.v602 c i arg3 harg3 arg4 harg4 arg10 x0 x1) (ix4 0 0 r l)) := by
  have hi := tile_lt i
  refine broke_rows (by omega) (qrows_3 c arg3 harg3 x0) (krows_3 c i arg4 harg4 x1) 0 fun r l => ?_
  · refine (read4 arg10.view _ _ rfl r l 1 0 rfl rfl ⟨0 + r.val, by omega⟩ rfl).trans ?_
    refine (other4 arg10.view _ _ _ _ rfl l 1 0 (Or.inr (by decide)) ⟨0 + r.val, by omega⟩).trans ?_
    refine (new4 arg10.view _ _ _ _ rfl r l 1 0 rfl rfl ⟨0 + r.val, by omega⟩ rfl).trans ?_
    exact brk0_3 (sl.r_41 c i arg4 harg4 x1) (sl.r_42 c arg3 harg3 x0) r l

/-- The last diagonal block as stored for the second head: stay logs. -/
theorem stored1_3 : Stored (i 2).val x0 x1 512 0 (4 * (i 2).val + 0) 1 (fun r m => (sl.v627 c i arg3 harg3 arg4 harg4 arg9 x0 x1) (ix4 0 0 r m)) := by
  have hi := tile_lt i
  refine stored_masked (by omega) (masks hi (by omega) (by omega) (word_3_a i)) (qrows_3 c arg3 harg3 x0)
    (krows_3 c i arg4 harg4 x1) 1 fun r m => ?_
  · refine (read4 arg9.view _ _ rfl r m 1 1 rfl rfl ⟨0 + r.val, by omega⟩ rfl).trans ?_
    refine (new4 arg9.view _ _ _ _ rfl r m 1 1 rfl rfl ⟨0 + r.val, by omega⟩ rfl).trans ?_
    exact stay1_3 (BitVec.ofNat 32 (i 2).val) (sl.v506 i) (sl.r_41 c i arg4 harg4 x1) (sl.r_42 c arg3 harg3 x0) r m

/-- The last diagonal block as stored for the second head: break logs. -/
theorem broke1_3 : Broke x0 x1 512 0 (4 * (i 2).val + 0) 1 (fun r l => (sl.v632 c i arg3 harg3 arg4 harg4 arg10 x0 x1) (ix4 0 0 r l)) := by
  have hi := tile_lt i
  refine broke_rows (by omega) (qrows_3 c arg3 harg3 x0) (krows_3 c i arg4 harg4 x1) 1 fun r l => ?_
  · refine (read4 arg10.view _ _ rfl r l 1 1 rfl rfl ⟨0 + r.val, by omega⟩ rfl).trans ?_
    refine (new4 arg10.view _ _ _ _ rfl r l 1 1 rfl rfl ⟨0 + r.val, by omega⟩ rfl).trans ?_
    exact brk1_3 (sl.r_41 c i arg4 harg4 x1) (sl.r_42 c arg3 harg3 x0) r l

/-- What is carried on after the last diagonal block, the first head being done. -/
theorem carried_mid_3 (hz : AllReal x0 x1) :
    Carried (i 2).val x0 x1 0 (4 * (i 2).val + 0) (held7 arg7 (sl.HS0_8 c i arg3 harg3 arg4 harg4 arg7 arg9 x0 x1) 0) ∧
    Carried (i 2).val x0 x1 1 (4 * (i 2).val + 1) (held7 arg7 (sl.HS0_8 c i arg3 harg3 arg4 harg4 arg7 arg9 x0 x1) 1) := by
  have hi := tile_lt i
  refine ⟨carried_step hz (n := 512) (o := 0) (by omega) (by omega) (Or.inl rfl) pay46_later
    (carried_2 c i arg3 harg3 arg4 harg4 arg7 arg9 x0 x1 hz).1
    (stored0_3 c i arg3 harg3 arg4 harg4 arg9 x0 x1) (C := fun r x => (sl.v600 c i arg3 harg3 arg4 harg4 arg7 arg9 x0 x1) (ix3 0 r x))
    (fun r R hR x => read3 arg7.view _ _ r x 0 rfl R hR) (fun r R hR x => ?_) (fun R hR x => old3 arg7.view _ _ _ _ x 0 R hR),
    fun R x => (other3 arg7.view _ _ _ _ x 1 (by decide) R).trans ((carried_2 c i arg3 harg3 arg4 harg4 arg7 arg9 x0 x1 hz).2 R x)⟩
  refine (new3 arg7.view _ _ _ _ r x 0 rfl R hR).trans ?_
  exact carry0_3 (k0_pay46 (F := Ideal)) (sl.v597 c i arg3 harg3 arg4 harg4 arg9 x0 x1) (sl.v600 c i arg3 harg3 arg4 harg4 arg7 arg9 x0 x1) r x

/-- What is carried on after the last diagonal block. -/
theorem carried_3 (hz : AllReal x0 x1) :
    Carried (i 2).val x0 x1 0 (4 * (i 2).val + 0) (held7 arg7 (sl.HS0_9 c i arg3 harg3 arg4 harg4 arg7 arg9 x0 x1) 0) ∧
    Carried (i 2).val x0 x1 1 (4 * (i 2).val + 0) (held7 arg7 (sl.HS0_9 c i arg3 harg3 arg4 harg4 arg7 arg9 x0 x1) 1) := by
  have hi := tile_lt i
  have hm := carried_mid_3 c i arg3 harg3 arg4 harg4 arg7 arg9 x0 x1 hz
  refine ⟨fun R x => (other3 arg7.view _ _ _ _ x 0 (by decide) R).trans (hm.1 R x),
    carried_step hz (n := 512) (o := 0) (by omega) (by omega) (Or.inl rfl) pay46_later hm.2
    (stored1_3 c i arg3 harg3 arg4 harg4 arg9 x0 x1) (C := fun r x => (sl.v630 c i arg3 harg3 arg4 harg4 arg7 arg9 x0 x1) (ix3 0 r x))
    (fun r R hR x => read3 arg7.view _ _ r x 1 rfl R hR) (fun r R hR x => ?_) (fun R hR x => old3 arg7.view _ _ _ _ x 1 R hR)⟩
  refine (new3 arg7.view _ _ _ _ r x 1 rfl R hR).trans ?_
  exact carry1_3 (k0_pay46 (F := Ideal)) (sl.v627 c i arg3 harg3 arg4 harg4 arg9 x0 x1) (sl.v630 c i arg3 harg3 arg4 harg4 arg7 arg9 x0 x1) r x

/-- The running output after the last diagonal block. -/
theorem earned_3 (hz : AllReal x0 x1) : Earned (i 2).val x0 x1 x2 (4 * (i 2).val + 0) (held8 arg8 (sl.HS1_5 c i arg3 harg3 arg4 harg4 arg5 harg5 arg7 arg8 arg9 arg10 x0 x1 x2)) := by
  have hi := tile_lt i
  refine earned_masked hz (n := 512) (o := 0) (by omega) (by omega) (Or.inl rfl) pay46_later (earned_2 c i arg3 harg3 arg4 harg4 arg5 harg5 arg7 arg8 arg9 arg10 x0 x1 x2 hz)
    (stored0_3 c i arg3 harg3 arg4 harg4 arg9 x0 x1) (stored1_3 c i arg3 harg3 arg4 harg4 arg9 x0 x1)
    (broke0_3 c i arg3 harg3 arg4 harg4 arg10 x0 x1) (broke1_3 c i arg3 harg3 arg4 harg4 arg10 x0 x1)
    (carried_2 c i arg3 harg3 arg4 harg4 arg7 arg9 x0 x1 hz).1 (carried_mid_3 c i arg3 harg3 arg4 harg4 arg7 arg9 x0 x1 hz).2
    (C0 := fun r x => (sl.v600 c i arg3 harg3 arg4 harg4 arg7 arg9 x0 x1) (ix3 0 r x)) (C1 := fun r x => (sl.v630 c i arg3 harg3 arg4 harg4 arg7 arg9 x0 x1) (ix3 0 r x))
    (fun r R hR x => read3 arg7.view _ _ r x 0 rfl R hR) (fun r R hR x => read3 arg7.view _ _ r x 1 rfl R hR)
    (vrows_3 c i arg5 harg5 x2) (masks hi (by omega) (by omega) (word_3_c i))
    (masks hi (by omega) (by omega) (word_3_c i)) (fun r R hR x => ?_) (fun R hR x => old2 arg8.view _ _ _ _ x R hR)
  refine (new2 arg8.view _ _ _ _ r x R hR).trans ?_
  refine (acc_3 (BitVec.ofNat 32 (i 2).val) (sl.v592 i) (k0_pay46 (F := Ideal)) (sl.r_49 c i arg5 harg5 x2) (sl.v597 c i arg3 harg3 arg4 harg4 arg9 x0 x1) (sl.v627 c i arg3 harg3 arg4 harg4 arg9 x0 x1) (sl.v600 c i arg3 harg3 arg4 harg4 arg7 arg9 x0 x1) (sl.v630 c i arg3 harg3 arg4 harg4 arg7 arg9 x0 x1) (sl.v602 c i arg3 harg3 arg4 harg4 arg10 x0 x1) (sl.v632 c i arg3 harg3 arg4 harg4 arg10 x0 x1) (sl.v660 c i arg3 harg3 arg4 harg4 arg5 harg5 arg7 arg8 arg9 arg10 x0 x1 x2) r x).trans ?_
  exact congrArg (· + _) (read2 arg8.view _ _ rfl r x R hR)

end Cert.Breaking
end
-- ==== Proof.StickLoop.lean ====
/-
  The blocks before the diagonal, last to first, in a loop.

  Each trip spends what the trip before (or the block treated before the loop) has stored in one of
  two slots, and stores the next block's logs in the other. After `k` trips of tile `I` everything is
  done down to block `4 I - k`; after all `4 I` trips, everything.
-/
module

public import proofs.«01_k».proof.Proof.StickDiag

@[expose] public section

set_option maxRecDepth 16384

noncomputable section
namespace Cert.Breaking
open Cert.StickIdeal Cert.StickIdeal.Gen Cert.StickIdeal.Gen.kernelRun0_A
open Idealize.ShloMosaic Idealize.ShloMosaic.TcCoe Idealize.SL.Sem

/-- The slot a trip spends. -/
def slotOf (k : ℕ) : Fin 2 := ⟨k % 2, Nat.mod_lt _ (by decide)⟩

/-- The word of that slot, as the kernel computes it. -/
def slotWord (k : ℕ) : BitVec 32 :=
  let m : BitVec 32 := Scalar.select (Scalar.cmpi .eq 2#32 0#32) 1#32 2#32
  let r : BitVec 32 := Scalar.remsi (Scalar.addi (Scf.iv 0#32 1#32 k) 4#32) m
  Scalar.select (Scalar.andi (Scalar.xori (Scalar.cmpi .slt r 0#32) (Scalar.cmpi .slt m 0#32)) (Scalar.cmpi .ne r 0#32))
    (Scalar.addi r m) r

/-- The word of the block a trip spends, as the kernel computes it. -/
def blockWord (w k : ℕ) : BitVec 32 :=
  Scalar.subi (Scalar.subi (Scalar.muli (BitVec.ofNat 32 w) 4#32) 1#32) (Scf.iv 0#32 1#32 k)

/-- The slot's word is the trip's parity. -/
theorem slotWord_eq : ∀ k : Fin 12, (Scalar.indexCast (slotWord k.val)).toNat = k.val % 2 := by decide

/-- The other slot's word is the other parity. -/
theorem slotWord_other : ∀ k : Fin 12, (Scalar.indexCast (Scalar.subi 1#32 (slotWord k.val))).toNat = 1 - k.val % 2 := by
  decide

/-- The block spent lies `k + 1` blocks before the diagonal. -/
theorem blockWord_eq : ∀ w : Fin 4, ∀ k : Fin 12, k.val < 4 * w.val →
    (Scalar.indexCast (Scalar.muli (blockWord w.val k.val) 128#32)).toNat = 128 * (4 * w.val - (k.val + 1)) := by decide

/-- The block stored is the one before it, if there is one. -/
theorem blockWord_next : ∀ w : Fin 4, ∀ k : Fin 12, k.val < 4 * w.val →
    (Scalar.indexCast (Scalar.muli (Scalar.maxsi (Scalar.subi (blockWord w.val k.val) 1#32) 0#32) 128#32)).toNat =
      128 * (4 * w.val - (k.val + 1 + 1)) := by decide

section
variable (i : grid0.Coords) (k : Fin (k0_t1_loop i).trips)

/-- The loop makes four trips for each tile before this one. -/
theorem trips_eq : (k0_t1_loop i).trips = 4 * (i 2).val := by
  have h : ∀ w : Fin 4, (Scf.Loop.trips ⟨0#32, Scalar.addi 0#32 (Scalar.muli (Scalar.divsi (Scalar.subi (Scalar.muli
      (BitVec.ofNat 32 w.val) 4#32) 0#32) 1#32) 1#32), 1#32⟩) = 4 * w.val := by decide
  exact h (i 2)

/-- The second loop, for a remainder, makes none. -/
theorem trips_rest : (k0_t2_loop i).trips = 0 := by
  have h : ∀ w : Fin 4, (Scf.Loop.trips ⟨Scalar.addi 0#32 (Scalar.muli (Scalar.divsi (Scalar.subi (Scalar.muli
      (BitVec.ofNat 32 w.val) 4#32) 0#32) 1#32) 1#32), Scalar.addi 0#32 (Scalar.subi (Scalar.muli
        (BitVec.ofNat 32 w.val) 4#32) 0#32), 1#32⟩) = 0 := by decide
  exact h (i 2)

/-- A trip's number is below four times the tile's. -/
theorem trip_lt : k.val < 4 * (i 2).val := lt_of_lt_of_eq k.isLt (trips_eq i)

/-- A trip's number is below twelve. -/
theorem trip_lt' : k.val < 12 := by
  have h := trip_lt i k
  have hi := tile_lt i
  omega

/-- Where a trip's values lie. -/
theorem off5_eq : k0_off5 i k = ![128 * (4 * (i 2).val - (k.val + 1)), 0] :=
  congrArg (fun n : ℕ => (![n, 0] : Fin 2 → ℕ)) (blockWord_eq (i 2) ⟨k.val, trip_lt' i k⟩ (trip_lt i k))

/-- Where the next block's keys lie. -/
theorem off10_eq : k0_off10 i k = ![128 * (4 * (i 2).val - (k.val + 1 + 1)), 0] :=
  congrArg (fun n : ℕ => (![n, 0] : Fin 2 → ℕ)) (blockWord_next (i 2) ⟨k.val, trip_lt' i k⟩ (trip_lt i k))

/-- Where a trip finds the first head's stay logs. -/
theorem off6_eq : k0_off6 i k = ![(k.val % 2), 0, 0, 0] :=
  congrArg (fun n : ℕ => (![n, 0, 0, 0] : Fin 4 → ℕ)) (slotWord_eq ⟨k.val, trip_lt' i k⟩)

/-- Where a trip finds the first head's break logs. -/
theorem off7_eq : k0_off7 i k = ![(k.val % 2), 0, 0, 0] :=
  congrArg (fun n : ℕ => (![n, 0, 0, 0] : Fin 4 → ℕ)) (slotWord_eq ⟨k.val, trip_lt' i k⟩)

/-- Where a trip finds the second head's stay logs. -/
theorem off8_eq : k0_off8 i k = ![(k.val % 2), 1, 0, 0] :=
  congrArg (fun n : ℕ => (![n, 1, 0, 0] : Fin 4 → ℕ)) (slotWord_eq ⟨k.val, trip_lt' i k⟩)

/-- Where a trip finds the second head's break logs. -/
theorem off9_eq : k0_off9 i k = ![(k.val % 2), 1, 0, 0] :=
  congrArg (fun n : ℕ => (![n, 1, 0, 0] : Fin 4 → ℕ)) (slotWord_eq ⟨k.val, trip_lt' i k⟩)

/-- Where a trip leaves the first head's stay logs. -/
theorem off11_eq : k0_off11 i k = ![(1 - k.val % 2), 0, 0, 0] :=
  congrArg (fun n : ℕ => (![n, 0, 0, 0] : Fin 4 → ℕ)) (slotWord_other ⟨k.val, trip_lt' i k⟩)

/-- Where a trip leaves the first head's break logs. -/
theorem off12_eq : k0_off12 i k = ![(1 - k.val % 2), 0, 0, 0] :=
  congrArg (fun n : ℕ => (![n, 0, 0, 0] : Fin 4 → ℕ)) (slotWord_other ⟨k.val, trip_lt' i k⟩)

/-- Where a trip leaves the second head's stay logs. -/
theorem off13_eq : k0_off13 i k = ![(1 - k.val % 2), 1, 0, 0] :=
  congrArg (fun n : ℕ => (![n, 1, 0, 0] : Fin 4 → ℕ)) (slotWord_other ⟨k.val, trip_lt' i k⟩)

/-- Where a trip leaves the second head's break logs. -/
theorem off14_eq : k0_off14 i k = ![(1 - k.val % 2), 1, 0, 0] :=
  congrArg (fun n : ℕ => (![n, 1, 0, 0] : Fin 4 → ℕ)) (slotWord_other ⟨k.val, trip_lt' i k⟩)

end

variable (c : Dev nD) (i : grid0.Coords) (arg3 : Memref sig .tc .vmem S512x128 .bf16) (harg3 : arg3.IsWhole)
  (arg4 : Memref sig .tc .vmem S2048x128 .bf16) (harg4 : arg4.IsWhole)
  (arg5 : Memref sig .tc .vmem S2048x128 .bf16) (harg5 : arg5.IsWhole)
  (arg6 : Memref sig .tc .vmem S512x128 .bf16) (harg6 : arg6.IsWhole)
  (arg7 : Memref sig .tc .vmem S2x512x128 .f32) (harg7 : arg7.IsWhole)
  (arg8 : Memref sig .tc .vmem S512x128 .f32) (harg8 : arg8.IsWhole)
  (arg9 : Memref sig .tc .vmem S2x2x512x256 .bf16) (harg9 : arg9.IsWhole)
  (arg10 : Memref sig .tc .vmem S2x2x512x128 .f32) (harg10 : arg10.IsWhole)
  (x0 : Vec Ideal S512x128 .bf16) (x1 x2 : Vec Ideal S2048x128 .bf16)

/-- What holds of the four scratch buffers after `k` trips of tile `I`. -/
structure Inv (I : ℕ) (k : ℕ) (f7 : BufTy.Contents (Elt Ideal) arg7.view.ty) (f8 : BufTy.Contents (Elt Ideal) arg8.view.ty)
    (f9 : BufTy.Contents (Elt Ideal) arg9.view.ty) (f10 : BufTy.Contents (Elt Ideal) arg10.view.ty) : Prop where
  carried : ∀ h : Fin 2, Carried I x0 x1 h (4 * I - k) (fun R x => arg7.view.read (Elt Ideal) f7 (ix3 h R x))
  earned : Earned I x0 x1 x2 (4 * I - k) (fun R x => arg8.view.read (Elt Ideal) f8 (ix2 R x))
  stored : k < 4 * I → ∀ h : Fin 2, Stored I x0 x1 512 0 (4 * I - (k + 1)) h
    (fun r m => arg9.view.read (Elt Ideal) f9 (ix4 (slotOf k) h r m))
  broke : k < 4 * I → ∀ h : Fin 2, Broke x0 x1 512 0 (4 * I - (k + 1)) h
    (fun r l => arg10.view.read (Elt Ideal) f10 (ix4 (slotOf k) h r l))

/-- The keys of the block before the diagonal. -/
theorem krows_4 : KRows x1 (4 * (i 2).val - (0 + 1)) (fun l d => (View.readAt (Elt Ideal) arg4.view (Rect.unit (s := S2048x128) (k0_off4 i) S128x128.size (k0_off4_inb i)).toLoadRect (harg4.unread x1)) (ix2 l d)) :=
  fun l R hR d => input_at arg4 harg4 x1 _ (off4_eq i) l d R hR

/-- The invariant holds before the first trip. -/
theorem inv_start (hz : AllReal x0 x1) : Inv arg7 arg8 arg9 arg10 x0 x1 x2 (i 2).val 0
    (arg7.view.writes (Elt Ideal) arg7.view.junk (sl.HS0_9 c i arg3 harg3 arg4 harg4 arg7 arg9 x0 x1))
    (arg8.view.writes (Elt Ideal) arg8.view.junk (sl.HS1_5 c i arg3 harg3 arg4 harg4 arg5 harg5 arg7 arg8 arg9 arg10 x0 x1 x2))
    (arg9.view.writes (Elt Ideal) arg9.view.junk (sl.HS2_10 c i arg3 harg3 arg4 harg4 x0 x1))
    (arg10.view.writes (Elt Ideal) arg10.view.junk (sl.HS3_10 c i arg3 harg3 arg4 harg4 x0 x1)) := by
  have hi := tile_lt i
  have hc := carried_3 c i arg3 harg3 arg4 harg4 arg7 arg9 x0 x1 hz
  refine ⟨Fin.forall_fin_two.mpr ⟨hc.1, hc.2⟩,
    earned_3 c i arg3 harg3 arg4 harg4 arg5 harg5 arg7 arg8 arg9 arg10 x0 x1 x2 hz,
    fun hk => Fin.forall_fin_two.mpr ⟨?_, ?_⟩, fun hk => Fin.forall_fin_two.mpr ⟨?_, ?_⟩⟩
  · refine stored_whole (by omega) (by omega) (qrows_3 c arg3 harg3 x0) (krows_4 i arg4 harg4 x1) 0 fun r m => ?_
    refine (other4 arg9.view _ _ _ _ rfl m 0 0 (Or.inr (by decide)) r).trans ?_
    refine (new4 arg9.view _ _ _ _ rfl r m 0 0 rfl rfl r (Nat.zero_add _).symm).trans ?_
    exact stay0_4 (View.readAt (Elt Ideal) arg4.view (Rect.unit (s := S2048x128) (k0_off4 i) S128x128.size (k0_off4_inb i)).toLoadRect (harg4.unread x1)) (sl.r_42 c arg3 harg3 x0) r m
  · refine stored_whole (by omega) (by omega) (qrows_3 c arg3 harg3 x0) (krows_4 i arg4 harg4 x1) 1 fun r m => ?_
    refine (new4 arg9.view _ _ _ _ rfl r m 0 1 rfl rfl r (Nat.zero_add _).symm).trans ?_
    exact stay1_4 (View.readAt (Elt Ideal) arg4.view (Rect.unit (s := S2048x128) (k0_off4 i) S128x128.size (k0_off4_inb i)).toLoadRect (harg4.unread x1)) (sl.r_42 c arg3 harg3 x0) r m
  · refine broke_rows (by omega) (qrows_3 c arg3 harg3 x0) (krows_4 i arg4 harg4 x1) 0 fun r m => ?_
    refine (other4 arg10.view _ _ _ _ rfl m 0 0 (Or.inr (by decide)) r).trans ?_
    refine (new4 arg10.view _ _ _ _ rfl r m 0 0 rfl rfl r (Nat.zero_add _).symm).trans ?_
    exact brk0_4 (View.readAt (Elt Ideal) arg4.view (Rect.unit (s := S2048x128) (k0_off4 i) S128x128.size (k0_off4_inb i)).toLoadRect (harg4.unread x1)) (sl.r_42 c arg3 harg3 x0) r m
  · refine broke_rows (by omega) (qrows_3 c arg3 harg3 x0) (krows_4 i arg4 harg4 x1) 1 fun r m => ?_
    refine (new4 arg10.view _ _ _ _ rfl r m 0 1 rfl rfl r (Nat.zero_add _).symm).trans ?_
    exact brk1_4 (View.readAt (Elt Ideal) arg4.view (Rect.unit (s := S2048x128) (k0_off4 i) S128x128.size (k0_off4_inb i)).toLoadRect (harg4.unread x1)) (sl.r_42 c arg3 harg3 x0) r m

variable (f7 : BufTy.Contents (Elt Ideal) arg7.view.ty)
  (f8 : BufTy.Contents (Elt Ideal) arg8.view.ty)
  (f9 : BufTy.Contents (Elt Ideal) arg9.view.ty) (f10 : BufTy.Contents (Elt Ideal) arg10.view.ty)

/-- One trip keeps the invariant. -/
theorem inv_trip (hz : AllReal x0 x1) (w : BitVec 32) (k : Fin (k0_t1_loop i).trips)
    (hv : Inv arg7 arg8 arg9 arg10 x0 x1 x2 (i 2).val k.val f7 f8 f9 f10) :
    Inv arg7 arg8 arg9 arg10 x0 x1 x2 (i 2).val (k.val + 1)
      (arg7.view.writes (Elt Ideal) f7 (tripL_k0_t1 Variants.none c none i arg3 harg3 arg4 harg4 arg5 harg5 arg6 harg6 arg7 harg7 arg8 harg8 arg9 harg9 arg10 harg10 (k0_pay46 (F := Ideal)) w 0#32 (harg3.unread x0) (harg4.unread x1) (harg5.unread x2) k f7 f8 f9 f10).1)
      (arg8.view.writes (Elt Ideal) f8 (tripL_k0_t1 Variants.none c none i arg3 harg3 arg4 harg4 arg5 harg5 arg6 harg6 arg7 harg7 arg8 harg8 arg9 harg9 arg10 harg10 (k0_pay46 (F := Ideal)) w 0#32 (harg3.unread x0) (harg4.unread x1) (harg5.unread x2) k f7 f8 f9 f10).2.1)
      (arg9.view.writes (Elt Ideal) f9 (tripL_k0_t1 Variants.none c none i arg3 harg3 arg4 harg4 arg5 harg5 arg6 harg6 arg7 harg7 arg8 harg8 arg9 harg9 arg10 harg10 (k0_pay46 (F := Ideal)) w 0#32 (harg3.unread x0) (harg4.unread x1) (harg5.unread x2) k f7 f8 f9 f10).2.2.1)
      (arg10.view.writes (Elt Ideal) f10 (tripL_k0_t1 Variants.none c none i arg3 harg3 arg4 harg4 arg5 harg5 arg6 harg6 arg7 harg7 arg8 harg8 arg9 harg9 arg10 harg10 (k0_pay46 (F := Ideal)) w 0#32 (harg3.unread x0) (harg4.unread x1) (harg5.unread x2) k f7 f8 f9 f10).2.2.2) := by
  unfold tripL_k0_t1 trip_k0_t1
  dsimp only
  have hi := tile_lt i
  have hk := trip_lt i k
  have eJ : 4 * (i 2).val - k.val = 4 * (i 2).val - (k.val + 1) + 1 := by omega
  have hc : ∀ h : Fin 2, Carried (i 2).val x0 x1 h (4 * (i 2).val - (k.val + 1) + 1) (fun R x => arg7.view.read (Elt Ideal) f7 (ix3 h R x)) := by
    rw [← eJ]; exact hv.carried
  have he : Earned (i 2).val x0 x1 x2 (4 * (i 2).val - (k.val + 1) + 1) (fun R x => arg8.view.read (Elt Ideal) f8 (ix2 R x)) := by
    rw [← eJ]; exact hv.earned
  have s0 : Stored (i 2).val x0 x1 512 0 (4 * (i 2).val - (k.val + 1)) 0 (fun r m => (View.readAt (Elt Ideal) arg9.view (Rect.unit (s := S2x2x512x256) (k0_off6 i k) S1x1x512x256.size (k0_off6_inb i k)).toLoadRect f9) (ix4 0 0 r m)) := fun r R hR m =>
    (read4 arg9.view f9 _ (off6_eq i k) r m (slotOf k.val) 0 rfl rfl r (Nat.zero_add _).symm).trans (hv.stored hk 0 r R hR m)
  have s1 : Stored (i 2).val x0 x1 512 0 (4 * (i 2).val - (k.val + 1)) 1 (fun r m => (View.readAt (Elt Ideal) arg9.view (Rect.unit (s := S2x2x512x256) (k0_off8 i k) S1x1x512x256.size (k0_off8_inb i k)).toLoadRect f9) (ix4 0 0 r m)) := fun r R hR m =>
    (read4 arg9.view f9 _ (off8_eq i k) r m (slotOf k.val) 1 rfl rfl r (Nat.zero_add _).symm).trans (hv.stored hk 1 r R hR m)
  have b0 : Broke x0 x1 512 0 (4 * (i 2).val - (k.val + 1)) 0 (fun r m => (View.readAt (Elt Ideal) arg10.view (Rect.unit (s := S2x2x512x128) (k0_off7 i k) S1x1x512x128.size (k0_off7_inb i k)).toLoadRect f10) (ix4 0 0 r m)) := fun r R hR m =>
    (read4 arg10.view f10 _ (off7_eq i k) r m (slotOf k.val) 0 rfl rfl r (Nat.zero_add _).symm).trans (hv.broke hk 0 r R hR m)
  have b1 : Broke x0 x1 512 0 (4 * (i 2).val - (k.val + 1)) 1 (fun r m => (View.readAt (Elt Ideal) arg10.view (Rect.unit (s := S2x2x512x128) (k0_off9 i k) S1x1x512x128.size (k0_off9_inb i k)).toLoadRect f10) (ix4 0 0 r m)) := fun r R hR m =>
    (read4 arg10.view f10 _ (off9_eq i k) r m (slotOf k.val) 1 rfl rfl r (Nat.zero_add _).symm).trans (hv.broke hk 1 r R hR m)
  have vr : KRows x2 (4 * (i 2).val - (k.val + 1)) (fun l d => (View.readAt (Elt Ideal) arg5.view (Rect.unit (s := S2048x128) (k0_off5 i k) S128x128.size (k0_off5_inb i k)).toLoadRect (harg5.unread x2)) (ix2 l d)) :=
    fun l R hR d => input_at arg5 harg5 x2 _ (off5_eq i k) l d R hR
  have kr : KRows x1 (4 * (i 2).val - (k.val + 1 + 1)) (fun l d => (View.readAt (Elt Ideal) arg4.view (Rect.unit (s := S2048x128) (k0_off10 i k) S128x128.size (k0_off10_inb i k)).toLoadRect (harg4.unread x1)) (ix2 l d)) :=
    fun l R hR d => input_at arg4 harg4 x1 _ (off10_eq i k) l d R hR
  have hp : (slotOf (k.val + 1)).val = 1 - k.val % 2 := by
    show (k.val + 1) % 2 = 1 - k.val % 2
    omega
  refine ⟨Fin.forall_fin_two.mpr ⟨?_, ?_⟩, ?_, fun hk' => Fin.forall_fin_two.mpr ⟨?_, ?_⟩,
    fun hk' => Fin.forall_fin_two.mpr ⟨?_, ?_⟩⟩
  · refine carried_step hz (n := 512) (o := 0) (by omega) (by omega) (Or.inl rfl) pay46_later (hc 0) s0
      (C := fun r x => (View.readAt (Elt Ideal) arg7.view (Rect.unit (s := S2x512x128) ![0, 0, 0] S1x512x128.size inb_S2x512x128_S1x512x128_0_0_0).toLoadRect f7) (ix3 0 r x)) (fun r R hR x => read3 arg7.view f7 _ r x 0 rfl R hR)
      (fun r R hR x => ?_) (fun R hR x => absurd hR (Nat.not_lt_zero _))
    refine (other3 arg7.view _ _ _ _ x 0 (by decide) R).trans ?_
    refine (new3 arg7.view _ _ _ _ r x 0 rfl R hR).trans ?_
    exact carry0_5 (k0_pay46 (F := Ideal)) (View.readAt (Elt Ideal) arg9.view (Rect.unit (s := S2x2x512x256) (k0_off6 i k) S1x1x512x256.size (k0_off6_inb i k)).toLoadRect f9) (View.readAt (Elt Ideal) arg7.view (Rect.unit (s := S2x512x128) ![0, 0, 0] S1x512x128.size inb_S2x512x128_S1x512x128_0_0_0).toLoadRect f7) r x
  · refine carried_step hz (n := 512) (o := 0) (by omega) (by omega) (Or.inl rfl) pay46_later (hc 1) s1
      (C := fun r x => (View.readAt (Elt Ideal) arg7.view (Rect.unit (s := S2x512x128) ![1, 0, 0] S1x512x128.size inb_S2x512x128_S1x512x128_1_0_0).toLoadRect f7) (ix3 0 r x)) (fun r R hR x => read3 arg7.view f7 _ r x 1 rfl R hR)
      (fun r R hR x => ?_) (fun R hR x => absurd hR (Nat.not_lt_zero _))
    refine (new3 arg7.view _ _ _ _ r x 1 rfl R hR).trans ?_
    exact carry1_5 (k0_pay46 (F := Ideal)) (View.readAt (Elt Ideal) arg9.view (Rect.unit (s := S2x2x512x256) (k0_off8 i k) S1x1x512x256.size (k0_off8_inb i k)).toLoadRect f9) (View.readAt (Elt Ideal) arg7.view (Rect.unit (s := S2x512x128) ![1, 0, 0] S1x512x128.size inb_S2x512x128_S1x512x128_1_0_0).toLoadRect f7) r x
  · refine earned_whole hz (by omega) (by omega) pay46_later he s0 s1 b0 b1
      (C0 := fun r x => (View.readAt (Elt Ideal) arg7.view (Rect.unit (s := S2x512x128) ![0, 0, 0] S1x512x128.size inb_S2x512x128_S1x512x128_0_0_0).toLoadRect f7) (ix3 0 r x)) (C1 := fun r x => (View.readAt (Elt Ideal) arg7.view (Rect.unit (s := S2x512x128) ![1, 0, 0] S1x512x128.size inb_S2x512x128_S1x512x128_1_0_0).toLoadRect f7) (ix3 0 r x))
      (fun R x => (read3 arg7.view f7 _ R x 0 rfl R (Nat.zero_add _).symm).trans (hc 0 R x))
      (fun R x => (read3 arg7.view f7 _ R x 1 rfl R (Nat.zero_add _).symm).trans (hc 1 R x)) vr (fun R x => ?_)
    refine (new2 arg8.view _ _ _ _ R x R (Nat.zero_add _).symm).trans ?_
    refine (acc_5 (k0_pay46 (F := Ideal)) (View.readAt (Elt Ideal) arg5.view (Rect.unit (s := S2048x128) (k0_off5 i k) S128x128.size (k0_off5_inb i k)).toLoadRect (harg5.unread x2)) (View.readAt (Elt Ideal) arg9.view (Rect.unit (s := S2x2x512x256) (k0_off6 i k) S1x1x512x256.size (k0_off6_inb i k)).toLoadRect f9) (View.readAt (Elt Ideal) arg9.view (Rect.unit (s := S2x2x512x256) (k0_off8 i k) S1x1x512x256.size (k0_off8_inb i k)).toLoadRect f9) (View.readAt (Elt Ideal) arg7.view (Rect.unit (s := S2x512x128) ![0, 0, 0] S1x512x128.size inb_S2x512x128_S1x512x128_0_0_0).toLoadRect f7) (View.readAt (Elt Ideal) arg7.view (Rect.unit (s := S2x512x128) ![1, 0, 0] S1x512x128.size inb_S2x512x128_S1x512x128_1_0_0).toLoadRect f7) (View.readAt (Elt Ideal) arg10.view (Rect.unit (s := S2x2x512x128) (k0_off7 i k) S1x1x512x128.size (k0_off7_inb i k)).toLoadRect f10) (View.readAt (Elt Ideal) arg10.view (Rect.unit (s := S2x2x512x128) (k0_off9 i k) S1x1x512x128.size (k0_off9_inb i k)).toLoadRect f10) (View.readAt (Elt Ideal) arg8.view (Rect.unit (s := S512x128) ![0, 0] S512x128.size inb_S512x128_S512x128_0_0).toLoadRect f8) R x).trans ?_
    exact congrArg (· + _) (read2 arg8.view f8 _ rfl R x R (Nat.zero_add _).symm)
  · refine stored_whole (by omega) (by omega) (qrows_3 c arg3 harg3 x0) kr 0 fun r m => ?_
    refine (other4 arg9.view _ _ _ _ (off13_eq i k) m _ 0 (Or.inr (by decide)) r).trans ?_
    refine (new4 arg9.view _ _ _ _ (off11_eq i k) r m _ 0 hp rfl r (Nat.zero_add _).symm).trans ?_
    exact stay0_5 (View.readAt (Elt Ideal) arg4.view (Rect.unit (s := S2048x128) (k0_off10 i k) S128x128.size (k0_off10_inb i k)).toLoadRect (harg4.unread x1)) (sl.r_42 c arg3 harg3 x0) r m
  · refine stored_whole (by omega) (by omega) (qrows_3 c arg3 harg3 x0) kr 1 fun r m => ?_
    refine (new4 arg9.view _ _ _ _ (off13_eq i k) r m _ 1 hp rfl r (Nat.zero_add _).symm).trans ?_
    exact stay1_5 (View.readAt (Elt Ideal) arg4.view (Rect.unit (s := S2048x128) (k0_off10 i k) S128x128.size (k0_off10_inb i k)).toLoadRect (harg4.unread x1)) (sl.r_42 c arg3 harg3 x0) r m
  · refine broke_rows (by omega) (qrows_3 c arg3 harg3 x0) kr 0 fun r m => ?_
    refine (other4 arg10.view _ _ _ _ (off14_eq i k) m _ 0 (Or.inr (by decide)) r).trans ?_
    refine (new4 arg10.view _ _ _ _ (off12_eq i k) r m _ 0 hp rfl r (Nat.zero_add _).symm).trans ?_
    exact brk0_5 (View.readAt (Elt Ideal) arg4.view (Rect.unit (s := S2048x128) (k0_off10 i k) S128x128.size (k0_off10_inb i k)).toLoadRect (harg4.unread x1)) (sl.r_42 c arg3 harg3 x0) r m
  · refine broke_rows (by omega) (qrows_3 c arg3 harg3 x0) kr 1 fun r m => ?_
    refine (new4 arg10.view _ _ _ _ (off14_eq i k) r m _ 1 hp rfl r (Nat.zero_add _).symm).trans ?_
    exact brk1_5 (View.readAt (Elt Ideal) arg4.view (Rect.unit (s := S2048x128) (k0_off10 i k) S128x128.size (k0_off10_inb i k)).toLoadRect (harg4.unread x1)) (sl.r_42 c arg3 harg3 x0) r m

/-- So do all trips together. -/
theorem inv_loop (hz : AllReal x0 x1) (w : BitVec 32) (hv : Inv arg7 arg8 arg9 arg10 x0 x1 x2 (i 2).val 0 f7 f8 f9 f10) :
    ∀ k : ℕ, k ≤ (k0_t1_loop i).trips → Inv arg7 arg8 arg9 arg10 x0 x1 x2 (i 2).val k
      (arg7.view.writes (Elt Ideal) f7 (pb_k0_t1 Variants.none c none i arg3 harg3 arg4 harg4 arg5 harg5 arg6 harg6 arg7 harg7 arg8 harg8 arg9 harg9 arg10 harg10 (k0_pay46 (F := Ideal)) w 0#32 (harg3.unread x0) (harg4.unread x1) (harg5.unread x2) f7 f8 f9 f10 k).1)
      (arg8.view.writes (Elt Ideal) f8 (pb_k0_t1 Variants.none c none i arg3 harg3 arg4 harg4 arg5 harg5 arg6 harg6 arg7 harg7 arg8 harg8 arg9 harg9 arg10 harg10 (k0_pay46 (F := Ideal)) w 0#32 (harg3.unread x0) (harg4.unread x1) (harg5.unread x2) f7 f8 f9 f10 k).2.1)
      (arg9.view.writes (Elt Ideal) f9 (pb_k0_t1 Variants.none c none i arg3 harg3 arg4 harg4 arg5 harg5 arg6 harg6 arg7 harg7 arg8 harg8 arg9 harg9 arg10 harg10 (k0_pay46 (F := Ideal)) w 0#32 (harg3.unread x0) (harg4.unread x1) (harg5.unread x2) f7 f8 f9 f10 k).2.2.1)
      (arg10.view.writes (Elt Ideal) f10 (pb_k0_t1 Variants.none c none i arg3 harg3 arg4 harg4 arg5 harg5 arg6 harg6 arg7 harg7 arg8 harg8 arg9 harg9 arg10 harg10 (k0_pay46 (F := Ideal)) w 0#32 (harg3.unread x0) (harg4.unread x1) (harg5.unread x2) f7 f8 f9 f10 k).2.2.2) := by
  intro k
  induction k with
  | zero => intro _; exact hv
  | succ k ih =>
    intro hk
    have e := pb_k0_t1_succ Variants.none c none i arg3 harg3 arg4 harg4 arg5 harg5 arg6 harg6 arg7 harg7 arg8 harg8 arg9 harg9 arg10 harg10 (k0_pay46 (F := Ideal)) w 0#32 (harg3.unread x0) (harg4.unread x1) (harg5.unread x2) f7 f8 f9 f10 ⟨k, hk⟩
    have t := inv_trip c i arg3 harg3 arg4 harg4 arg5 harg5 arg6 harg6 arg7 harg7 arg8 harg8 arg9 harg9 arg10 harg10 x0 x1 x2
      _ _ _ _ hz w ⟨k, hk⟩ (ih (by omega))
    simp only [← View.writes_append] at t
    exact e ▸ t

/-- The tile's output at a cell: the whole sum over the keys, for the lane's head. -/
theorem tile_at (W : View sig .tc .vmem S512x128 .bf16) (hz : AllReal x0 x1) (R : Fin 512) (x : Fin 128) :
    W.read (Elt Ideal) (W.writes (Elt Ideal) W.junk (kernelRun0_A (F := Ideal) c i arg3 harg3 arg4 harg4 arg5 harg5 arg6 harg6 arg7 harg7 arg8 harg8
      arg9 harg9 arg10 harg10 x0 x1 x2).1) (ix2 R x) =
      halves x (out (512 * (i 2).val + R.val) (zl x0 x1 0 R) (vl x2 x) 0) (out (512 * (i 2).val + R.val) (zl x0 x1 1 R) (vl x2 x) 0) := by
  unfold kernelRun0_A
  dsimp only
  refine (new2 W _ _ _ _ R x R (Nat.zero_add _).symm).trans ?_
  have e : ∀ v : Vec Ideal S512x128 .f32, k0_pay9 v (ix2 R x) = v (ix2 R x) := fun v => by pointwise [k0_pay9]
  rw [e]
  unfold sl.v734
  refine (read2 arg8.view _ _ rfl R x R (Nat.zero_add _).symm).trans ?_
  have h0 : Scf.trips (k0_t2_loop i).lb (k0_t2_loop i).ub (k0_t2_loop i).st = 0 := trips_rest i
  rw [h0]
  have h := (inv_loop c i arg3 harg3 arg4 harg4 arg5 harg5 arg6 harg6 arg7 harg7 arg8 harg8 arg9 harg9 arg10 harg10 x0 x1 x2
    _ _ _ _ hz (sl.v23 i) (inv_start c i arg3 harg3 arg4 harg4 arg5 harg5 arg7 arg8 arg9 arg10 x0 x1 x2 hz)
    (k0_t1_loop i).trips le_rfl).earned R x
  rw [← View.writes_append] at h
  have e0 : 128 * (4 * (i 2).val - (k0_t1_loop i).trips) = 0 := by rw [trips_eq]; omega
  rw [e0] at h
  exact h

end Cert.Breaking
end
-- ==== Proof.StickKernel.lean ====
/-
  The array that the attention kernel leaves, over its arguments.

  A grid point stands for 512 query rows of one sequence and 128 lanes, which are two heads. The
  tile it writes is the attention at those rows and lanes, so the result array is the attention at
  every row and lane.
-/
module

public import proofs.«01_k».proof.Proof.Gen.StickIdeal.Value
public import proofs.«01_k».proof.Proof.StickLoop
public import Idealize.ShloMosaic.Lib.Pipeline.ValueKit
public import Idealize.ShloMosaic.Lib.Claim

@[expose] public section

set_option maxRecDepth 16384

noncomputable section

namespace Cert.Breaking
open Cert.StickIdeal Cert.StickIdeal.Gen Idealize.ShloMosaic Idealize.ShloMosaic.TcCoe Idealize.SL.Sem
open Idealize.ShloMosaic.Pipeline (Dat)

/-- The logit of row `R` against key `k` of the row's sequence, in head `h`. -/
def logitAt (Q K : FVec Ideal S32768x512 .bf16) (R : Fin 32768) (h : Fin 8) (k : ℕ) : EReal :=
  if hk : k < 2048 then ∑ d : Fin 64, (Q (ix2 R ⟨64 * h.val + d.val, by omega⟩) *
    K (ix2 ⟨2048 * (R.val / 2048) + k, by omega⟩ ⟨64 * h.val + d.val, by omega⟩) : EReal) else 0

/-- Lane `j` of the value of key `k` of row `R`'s sequence. -/
def valueAt (V : FVec Ideal S32768x512 .bf16) (R : Fin 32768) (j : Fin 512) (k : ℕ) : EReal :=
  if hk : k < 2048 then V (ix2 ⟨2048 * (R.val / 2048) + k, by omega⟩ j) else 0

/-- The attention at row `R` and lane `j`. -/
def attnAt (Q K V : FVec Ideal S32768x512 .bf16) (R : Fin 32768) (j : Fin 512) : EReal :=
  out (R.val % 2048) (logitAt Q K R ⟨j.val / 64, by omega⟩) (valueAt V R j) 0

/-- The elements of an array are real numbers. -/
def Finite (A : FVec Ideal S32768x512 .bf16) : Prop := ∀ i, ∃ x : ℝ, A i = (x : EReal)

/-- A sum of products of real numbers is a real number. -/
theorem sum_real (f g : Fin 64 → EReal) (hf : ∀ d, ∃ x : ℝ, f d = x) (hg : ∀ d, ∃ x : ℝ, g d = x) : ∃ x : ℝ, ∑ d, f d * g d = x := by
  generalize (Finset.univ : Finset (Fin 64)) = s
  induction s using Finset.induction_on with
  | empty => exact ⟨0, by simp⟩
  | insert a s ha ih =>
    obtain ⟨y, hy⟩ := ih
    obtain ⟨u, hu⟩ := hf a
    obtain ⟨w, hw⟩ := hg a
    exact ⟨u * w + y, by rw [Finset.sum_insert ha, hy, hu, hw, EReal.coe_add, EReal.coe_mul]⟩

/-- With the queries and keys real the logits are real. -/
theorem logitAt_real (Q K : FVec Ideal S32768x512 .bf16) (hQ : Finite Q) (hK : Finite K) (R : Fin 32768) (h : Fin 8) (k : ℕ) :
    ∃ x : ℝ, logitAt Q K R h k = x := by
  unfold logitAt
  split
  · exact sum_real _ _ (fun d => hQ _) (fun d => hK _)
  · exact ⟨0, rfl⟩

/-- A sum over 128 lanes is the sum over the first 64 plus the sum over the last 64. -/
theorem sum_lanes (f : Fin 128 → EReal) :
    ∑ d, f d = (∑ d : Fin 64, f ⟨d.val, by omega⟩) + ∑ d : Fin 64, f ⟨64 + d.val, by omega⟩ :=
  Fin.sum_univ_add (a := 64) (b := 64) f

/-- The first head's logit reads the first 64 lanes. -/
theorem logit0_eq (q k : Fin 128 → EReal) : logit0 q k = ∑ d : Fin 64, q ⟨d.val, by omega⟩ * k ⟨d.val, by omega⟩ := by
  unfold logit0
  rw [sum_lanes, show (∑ d : Fin 64, halves ⟨64 + d.val, by omega⟩ (q ⟨64 + d.val, by omega⟩) 0 * k ⟨64 + d.val, by omega⟩) = 0 from
    Finset.sum_eq_zero fun d _ => by rw [halves_eq, if_neg (by simp only; omega), zero_mul], add_zero]
  exact Finset.sum_congr rfl fun d _ => by rw [halves_eq, if_pos d.isLt]

/-- The second head's logit reads the last 64 lanes. -/
theorem logit1_eq (q k : Fin 128 → EReal) : logit1 q k = ∑ d : Fin 64, q ⟨64 + d.val, by omega⟩ * k ⟨64 + d.val, by omega⟩ := by
  unfold logit1
  rw [sum_lanes, show (∑ d : Fin 64, halves ⟨d.val, by omega⟩ 0 (q ⟨d.val, by omega⟩) * k ⟨d.val, by omega⟩) = 0 from
    Finset.sum_eq_zero fun d _ => by rw [halves_eq, if_pos d.isLt, zero_mul], zero_add]
  exact Finset.sum_congr rfl fun d _ => by rw [halves_eq, if_neg (by simp only; omega)]

variable (m : (ℓ : Loc nD τ sig) → Buf (Elt Ideal) ℓ)

/-- The block indices of the windows at each point, and the tile's number in its sequence. -/
theorem idx : ∀ t : Fin cfg0.N, win0_0.index t = ![4 * (t.val / 16) + t.val % 4, t.val / 4 % 4] ∧ win0_1.index t = ![t.val / 16, t.val / 4 % 4]
    ∧ win0_2.index t = ![t.val / 16, t.val / 4 % 4] ∧ win0_3.index t = ![4 * (t.val / 16) + t.val % 4, t.val / 4 % 4]
    ∧ ((grid0.coords t) 2).val = t.val % 4 ∧ t.val < 256 :=
  (by decide +kernel : ∀ t : Fin grid0.N, _)

/-- The query block of a point. -/
theorem q_block (c : Dev nD) (t : Fin cfg0.N) (r : Fin 512) (x : Fin 128) (R : Fin 32768) (j : Fin 512)
    (hR : R.val = 512 * (4 * (t.val / 16) + t.val % 4) + r.val) (hj : j.val = 128 * (t.val / 4 % 4) + x.val) :
    iblk m c 0 t (ix2 r x) = (m ((c : Thread nD τ).loc main_arg0) : FVec Ideal S32768x512 .bf16) (ix2 R j) := by
  blk_ext [iblk, V, idx t, hR, hj]

/-- The key block of a point. -/
theorem k_block (c : Dev nD) (t : Fin cfg0.N) (r : Fin 2048) (x : Fin 128) (R : Fin 32768) (j : Fin 512)
    (hR : R.val = 2048 * (t.val / 16) + r.val) (hj : j.val = 128 * (t.val / 4 % 4) + x.val) :
    iblk m c 1 t (ix2 r x) = (m ((c : Thread nD τ).loc main_arg1) : FVec Ideal S32768x512 .bf16) (ix2 R j) := by
  blk_ext [iblk, V, idx t, hR, hj]

/-- The value block of a point. -/
theorem v_block (c : Dev nD) (t : Fin cfg0.N) (r : Fin 2048) (x : Fin 128) (R : Fin 32768) (j : Fin 512)
    (hR : R.val = 2048 * (t.val / 16) + r.val) (hj : j.val = 128 * (t.val / 4 % 4) + x.val) :
    iblk m c 2 t (ix2 r x) = (m ((c : Thread nD τ).loc main_arg2) : FVec Ideal S32768x512 .bf16) (ix2 R j) := by
  blk_ext [iblk, V, idx t, hR, hj]

/-- The logits of a point's first head. -/
theorem zl_first (c : Dev nD) (t : Fin cfg0.N) (r : Fin 512) (R : Fin 32768) (h : Fin 8)
    (hR : R.val = 512 * (4 * (t.val / 16) + t.val % 4) + r.val) (hh : h.val = 2 * (t.val / 4 % 4)) :
    zl (iblk m c 0 t) (iblk m c 1 t) 0 r = logitAt (m ((c : Thread nD τ).loc main_arg0)) (m ((c : Thread nD τ).loc main_arg1)) R h := by
  funext k
  unfold zl logitAt
  by_cases hk : k < 2048
  · rw [dif_pos hk, dif_pos hk]
    refine (logit0_eq _ _).trans (Finset.sum_congr rfl fun d _ => ?_)
    rw [q_block m c t r ⟨d.val, by omega⟩ R ⟨64 * h.val + d.val, by omega⟩ hR (by simp only; omega),
      k_block m c t ⟨k, hk⟩ ⟨d.val, by omega⟩ ⟨2048 * (R.val / 2048) + k, by omega⟩ ⟨64 * h.val + d.val, by omega⟩ (by simp only; omega) (by simp only; omega)]
  · rw [dif_neg hk, dif_neg hk]

/-- The logits of a point's second head. -/
theorem zl_second (c : Dev nD) (t : Fin cfg0.N) (r : Fin 512) (R : Fin 32768) (h : Fin 8)
    (hR : R.val = 512 * (4 * (t.val / 16) + t.val % 4) + r.val) (hh : h.val = 2 * (t.val / 4 % 4) + 1) :
    zl (iblk m c 0 t) (iblk m c 1 t) 1 r = logitAt (m ((c : Thread nD τ).loc main_arg0)) (m ((c : Thread nD τ).loc main_arg1)) R h := by
  funext k
  unfold zl logitAt
  by_cases hk : k < 2048
  · rw [dif_pos hk, dif_pos hk]
    refine (logit1_eq _ _).trans (Finset.sum_congr rfl fun d _ => ?_)
    rw [q_block m c t r ⟨64 + d.val, by omega⟩ R ⟨64 * h.val + d.val, by omega⟩ hR (by simp only; omega),
      k_block m c t ⟨k, hk⟩ ⟨64 + d.val, by omega⟩ ⟨2048 * (R.val / 2048) + k, by omega⟩ ⟨64 * h.val + d.val, by omega⟩ (by simp only; omega) (by simp only; omega)]
  · rw [dif_neg hk, dif_neg hk]

/-- The values of a point. -/
theorem vl_eq (c : Dev nD) (t : Fin cfg0.N) (r : Fin 512) (x : Fin 128) (R : Fin 32768) (j : Fin 512)
    (hR : R.val = 512 * (4 * (t.val / 16) + t.val % 4) + r.val) (hj : j.val = 128 * (t.val / 4 % 4) + x.val) :
    vl (iblk m c 2 t) x = valueAt (m ((c : Thread nD τ).loc main_arg2)) R j := by
  funext k
  unfold vl valueAt
  by_cases hk : k < 2048
  · rw [dif_pos hk, dif_pos hk]
    exact v_block m c t ⟨k, hk⟩ x ⟨2048 * (R.val / 2048) + k, by omega⟩ j (by simp only; omega) hj
  · rw [dif_neg hk, dif_neg hk]

/-- The logits of a point are real. -/
theorem point_real (c : Dev nD) (hQ : Finite (m ((c : Thread nD τ).loc main_arg0))) (hK : Finite (m ((c : Thread nD τ).loc main_arg1)))
    (t : Fin cfg0.N) : AllReal (iblk m c 0 t) (iblk m c 1 t) := by
  have ht : t.val < 256 := (idx t).2.2.2.2.2
  intro h r k
  have hr : 512 * (4 * (t.val / 16) + t.val % 4) + r.val < 32768 := by omega
  match h with
  | 0 =>
    rw [zl_first m c t r ⟨_, hr⟩ ⟨2 * (t.val / 4 % 4), by omega⟩ rfl rfl]
    exact logitAt_real _ _ hQ hK _ _ k
  | 1 =>
    rw [zl_second m c t r ⟨_, hr⟩ ⟨2 * (t.val / 4 % 4) + 1, by omega⟩ rfl rfl]
    exact logitAt_real _ _ hQ hK _ _ k

/-- A point's tile is the attention at the rows and lanes that it stands at. -/
theorem point (c : Dev nD) (hQ : Finite (m ((c : Thread nD τ).loc main_arg0))) (hK : Finite (m ((c : Thread nD τ).loc main_arg1)))
    (t : Fin cfg0.N) (r : Fin 512) (x : Fin 128) (R : Fin 32768) (j : Fin 512)
    (hR : R.val = 512 * (4 * (t.val / 16) + t.val % 4) + r.val) (hj : j.val = 128 * (t.val / 4 % 4) + x.val) :
    (dats m 0 c).after 3 t (ix2 r x) = attnAt (m ((c : Thread nD τ).loc main_arg0)) (m ((c : Thread nD τ).loc main_arg1)) (m ((c : Thread nD τ).loc main_arg2)) R j := by
  have ht : t.val < 256 := (idx t).2.2.2.2.2
  have hI : ((grid0.coords t) 2).val = t.val % 4 := (idx t).2.2.2.2.1
  rw [after0_3]
  unfold outsAt0 out0_A_3
  refine (tile_at c (grid0.coords t) _ _ _ _ _ _ _ _ _ _ _ _ _ _ _ _ (iblk m c 0 t) (iblk m c 1 t) (iblk m c 2 t) VO0_3 (point_real m c hQ hK t) r x).trans ?_
  rw [halves_eq, vl_eq m c t r x R j hR hj, hI, show 512 * (t.val % 4) + r.val = R.val % 2048 by omega]
  unfold attnAt
  by_cases hx : x.val < 64
  · rw [if_pos hx, zl_first m c t r R ⟨j.val / 64, by omega⟩ hR (by simp only; omega)]
  · rw [if_neg hx, zl_second m c t r R ⟨j.val / 64, by omega⟩ hR (by simp only; omega)]

/-- The result array after the run is the attention over the arguments. -/
theorem final (c : Dev nD) (hQ : Finite (m ((c : Thread nD τ).loc main_arg0))) (hK : Finite (m ((c : Thread nD τ).loc main_arg1))) :
    (dats m 0 c).arrAt 3 cfg0.N = fun i : S32768x512.Idx => attnAt (m ((c : Thread nD τ).loc main_arg0)) (m ((c : Thread nD τ).loc main_arg1))
      (m ((c : Thread nD τ).loc main_arg2)) (i 0) (i 1) := by
  refine (dats m 0 c).arrAt_eq_of_covers 3 _ (by decide +kernel) fun t _ y => ?_
  blk_simp
  idx_vars y
  refine point m c hQ hK t y0 y1 ((((cfg0.win 3).blk t).view.emb (ix2 y0 y1)) 0) ((((cfg0.win 3).blk t).view.emb (ix2 y0 y1)) 1) ?_ ?_
  · blk_simp [idx t]
    omega
  · blk_simp [idx t]
    omega

end Cert.Breaking
end
-- ==== Proof.StickReference.lean ====
/-
  The attention's reference, read at an index.

  The reference writes the whole 2048 by 2048 matrix of every head: the logits, their stay logs
  where the key comes before the query, those added up from each key on, the weights, and the
  weights times the values. With all logits real it is, at one query row and lane, the sum `out`
  from the first key on.
-/
module

public import proofs.«01_k».proof.Proof.Gen.StickRefIdeal.Run
public import proofs.«01_k».proof.Proof.StickMath

@[expose] public section

set_option maxRecDepth 16384

noncomputable section

namespace Cert.Breaking.Ref
open Cert.StickRefIdeal Cert.StickRefIdeal.Gen Cert.StickRefIdeal.Value Idealize.ShloMosaic Idealize.ShloMosaic.TcCoe Idealize.SL.Sem
open Cert.Breaking (st suf term out stay brk log_real stay_real st_real select_prop)

/-- The heads of an argument, apart. -/
def refHeads (A : FVec Ideal S32768x512 .bf16) : FVec Ideal S16x8x2048x64 .f32 :=
  transpose S16x8x2048x64 [0, 2, 1, 3] (shapeCast _ (extf .f32 A bitsLt_bf16_f32) shapeCasts_S32768x512_S16x2048x8x64) transposes_S16x2048x8x64_S16x8x2048x64_0_2_1_3

/-- The logits. -/
def refLogits (Q K : FVec Ideal S16x8x2048x64 .f32) : FVec Ideal S16x8x2048x2048 .f32 :=
  Host.dotGeneral dot_S16x8x2048x64_S16x8x2048x64_S16x8x2048x2048_3_3_2_2_01_01 none Q K

/-- Which keys come before which query. -/
def refMask : IVec S16x8x2048x2048 1 :=
  broadcastInDim S16x8x2048x2048 ![2, 3] bcast_S2048x2048_S16x8x2048x2048_2_3 (cmpi .slt (broadcastInDim S2048x2048 ![0, 1] bcast_S1x2048_S2048x2048_0_1 (broadcastInDim S1x2048 ![1] bcast_S2048_S1x2048_1 (iotaInDim S2048 32 0))) (broadcastInDim S2048x2048 ![0, 1] bcast_S2048x1_S2048x2048_0_1 (broadcastInDim S2048x1 ![0] bcast_S2048_S2048x1_0 (iotaInDim S2048 32 0))))

/-- The log of the logistic function. -/
def refLogSig (z : FVec Ideal S16x8x2048x2048 .f32) : FVec Ideal S16x8x2048x2048 .f32 :=
  Host.negf (select (cmpf .une (subf (Host.negf z) (broadcastInDim S16x8x2048x2048 ![] bcast_S_S16x8x2048x2048 (constant S_ .f32 0x00000000#32))) (subf (Host.negf z) (broadcastInDim S16x8x2048x2048 ![] bcast_S_S16x8x2048x2048 (constant S_ .f32 0x00000000#32)))) (addf (Host.negf z) (broadcastInDim S16x8x2048x2048 ![] bcast_S_S16x8x2048x2048 (constant S_ .f32 0x00000000#32))) (addf (maximumf (Host.negf z) (broadcastInDim S16x8x2048x2048 ![] bcast_S_S16x8x2048x2048 (constant S_ .f32 0x00000000#32))) (Host.log1p (Host.exp (Host.negf (Host.absf (subf (Host.negf z) (broadcastInDim S16x8x2048x2048 ![] bcast_S_S16x8x2048x2048 (constant S_ .f32 0x00000000#32)))))))))

/-- The stay logs of the keys before the query, zero elsewhere. -/
def refStay (z : FVec Ideal S16x8x2048x2048 .f32) : FVec Ideal S16x8x2048x2048 .f32 :=
  select refMask (refLogSig (Host.negf z)) (broadcastInDim S16x8x2048x2048 ![] bcast_S_S16x8x2048x2048 (id (constant S_ .f32 0x00000000#32)))

/-- A row added up from each key on. -/
def refFrom (s : FVec Ideal S16x8x2048x2048 .f32) : FVec Ideal S16x8x2048x2048 .f32 :=
  Host.reduceWindowAdd ![1, 1, 1, 2048] ![1, 1, 1, 1] ![0, 0, 0, 0] ![0, 0, 0, 2047] s (broadcastInDim S_ ![] bcast_S_S_ (constant S_ .f32 0x00000000#32)) reduceWindows_S16x8x2048x2048_S16x8x2048x2048_w1s1p0_0_w1s1p0_0_w1s1p0_0_w2048s1p0_2047 h_S_

/-- The weights. -/
def refWeights (z : FVec Ideal S16x8x2048x2048 .f32) : FVec Ideal S16x8x2048x2048 .f32 :=
  select refMask (Host.exp (addf (refLogSig z) (subf (refFrom (refStay z)) (refStay z)))) (broadcastInDim S16x8x2048x2048 ![] bcast_S_S16x8x2048x2048 (id (constant S_ .f32 0x00000000#32)))

/-- The weights times the values, the heads together again. -/
def refMixed (a : FVec Ideal S16x8x2048x2048 .f32) (V : FVec Ideal S16x8x2048x64 .f32) : FVec Ideal S32768x512 .bf16 :=
  truncf .bf16 (shapeCast _ (transpose S16x2048x8x64 [0, 2, 1, 3] (Host.dotGeneral dot_S16x8x2048x2048_S16x8x2048x64_S16x8x2048x64_3_2_2_3_01_01 none a V) transposes_S16x8x2048x64_S16x2048x8x64_0_2_1_3) shapeCasts_S16x2048x8x64_S32768x512) bitsLt_bf16_f32

/-- The result's term is the stages'. -/
theorem res_eq (m : (ℓ : Loc nD τ sig) → Buf (Elt Ideal) ℓ) (c : Dev nD) :
    res_main_v28 m c = refMixed (refWeights (refLogits (refHeads (m ((c.tc : Thread nD τ).loc main_arg0))) (refHeads (m ((c.tc : Thread nD τ).loc main_arg1)))))
      (refHeads (m ((c.tc : Thread nD τ).loc main_arg2))) := rfl

/-- A head's row of an argument. -/
theorem refHeads_at (A : FVec Ideal S32768x512 .bf16) (b : Fin 16) (h : Fin 8) (r : Fin 2048) (d : Fin 64) :
    refHeads A (ix4 b h r d) = A (ix2 ⟨2048 * b.val + r.val, by omega⟩ ⟨64 * h.val + d.val, by omega⟩) := by
  have e : ∀ B : FVec Ideal S16x2048x8x64 .f32, transpose S16x8x2048x64 [0, 2, 1, 3] B transposes_S16x2048x8x64_S16x8x2048x64_0_2_1_3 (ix4 b h r d) = B (ix4 b r h d) := fun B => by pointwise
  unfold refHeads
  rw [e]
  refine (shapeCast_apply _ _ _ (ix2 ⟨2048 * b.val + r.val, by omega⟩ ⟨64 * h.val + d.val, by omega⟩) ?_).trans ?_
  · rw [Shape.rowMajor_val_two, Shape.rowMajor_val_four]
    show (2048 * b.val + r.val) * 512 + (64 * h.val + d.val) = ((b.val * 2048 + r.val) * 8 + h.val) * 64 + d.val
    omega
  · pointwise

/-- The logits at an index. -/
theorem refLogits_at (Q K : FVec Ideal S16x8x2048x64 .f32) (b : Fin 16) (h : Fin 8) (r k : Fin 2048) :
    refLogits Q K (ix4 b h r k) = ∑ d : Fin 64, (Q (ix4 b h r d) * K (ix4 b h k d) : EReal) := by
  pointwise [refLogits]

/-- The mask at an index. -/
theorem refMask_at (b : Fin 16) (h : Fin 8) (r k : Fin 2048) (x y : EReal) :
    (Scalar.select (refMask (ix4 b h r k)) x y : EReal) = if k.val < r.val then x else y := by
  have e : refMask (ix4 b h r k) = IntOp.cmpi CmpIPredicate.slt (BitVec.ofNat 32 k.val) (BitVec.ofNat 32 r.val) := by
    pointwise [refMask]
  rw [e]
  exact select_prop _ _ (WordCmp.cmpi_slt_ofNat_eq_one_iff (by omega) (by omega)) _ _

/-- The mixed result at an index. -/
theorem refMixed_at (a : FVec Ideal S16x8x2048x2048 .f32) (V : FVec Ideal S16x8x2048x64 .f32) (b : Fin 16) (h : Fin 8) (r : Fin 2048) (d : Fin 64) :
    refMixed a V (ix2 ⟨2048 * b.val + r.val, by omega⟩ ⟨64 * h.val + d.val, by omega⟩) = ∑ k : Fin 2048, (a (ix4 b h r k) * V (ix4 b h k d) : EReal) := by
  have e0 : ∀ B : FVec Ideal S32768x512 .f32, (truncf .bf16 B bitsLt_bf16_f32) (ix2 ⟨2048 * b.val + r.val, by omega⟩ ⟨64 * h.val + d.val, by omega⟩) =
      B (ix2 ⟨2048 * b.val + r.val, by omega⟩ ⟨64 * h.val + d.val, by omega⟩) := fun B => by pointwise
  unfold refMixed
  rw [e0]
  refine (shapeCast_apply _ _ _ (ix4 b r h d) ?_).trans ?_
  · rw [Shape.rowMajor_val_two, Shape.rowMajor_val_four]
    show ((b.val * 2048 + r.val) * 8 + h.val) * 64 + d.val = (2048 * b.val + r.val) * 512 + (64 * h.val + d.val)
    omega
  · pointwise

/-- Adding up a list from the left. -/
theorem fold_sum {n : ℕ} (g : Fin n → EReal) (v : EReal) :
    (List.finRange n).foldl (fun r m => r + g m) v = v + ∑ m, g m := by
  rw [Fin.sum_univ_def]
  generalize List.finRange n = l
  induction l generalizing v with
  | nil => simp
  | cons a l ih => rw [List.foldl_cons, ih, List.map_cons, List.sum_cons, add_assoc]

/-- The window's positions are the numbers below 2048. -/
def positions : Fin 2048 ≃ (⟨4, ![1, 1, 1, 2048]⟩ : Shape).Idx where
  toFun w := ix4 0 0 0 w
  invFun i := i 3
  left_inv _ := rfl
  right_inv i := by
    funext a
    fin_cases a
    · exact Subsingleton.elim (α := Fin 1) _ _
    · exact Subsingleton.elim (α := Fin 1) _ _
    · exact Subsingleton.elim (α := Fin 1) _ _
    · rfl

/-- A row added up from a key on. -/
theorem refFrom_at (s : FVec Ideal S16x8x2048x2048 .f32) (b : Fin 16) (h : Fin 8) (r k : Fin 2048) (g : ℕ → EReal)
    (hg : ∀ k : Fin 2048, s (ix4 b h r k) = g k.val) :
    refFrom s (ix4 b h r k) = ∑ k' ∈ Finset.Ico k.val 2048, g k' := by
  have e0 : (broadcastInDim S_ ![] bcast_S_S_ (constant (F := Ideal) S_ .f32 0x00000000#32)) (Shape.Idx.first h_S_) = (0 : EReal) := by
    pointwise
  unfold refFrom Host.reduceWindowAdd
  rw [e0, Ideal.hostReduceWindowAdd_def]
  unfold Ideal.hostReduceWindowAdd Host.reduceWindow
  dsimp only
  rw [fold_sum, zero_add]
  refine (Finset.sum_congr rfl fun m _ => (?_ : _ = (fun i : (⟨4, ![1, 1, 1, 2048]⟩ : Shape).Idx =>
    if k.val + (i 3).val < 2048 then g (k.val + (i 3).val) else 0) ((Shape.rowMajor (⟨4, ![1, 1, 1, 2048]⟩ : Shape)).symm m))).trans ?_
  · let i := (Shape.rowMajor (⟨4, ![1, 1, 1, 2048]⟩ : Shape)).symm m
    have i0 : (i 0).val = 0 := Nat.lt_one_iff.mp (i 0).isLt
    have i1 : (i 1).val = 0 := Nat.lt_one_iff.mp (i 1).isLt
    have i2 : (i 2).val = 0 := Nat.lt_one_iff.mp (i 2).isLt
    by_cases hw : k.val + (i 3).val < 2048
    · refine (dif_pos fun a => ?_).trans (((congrArg s (funext fun a => Fin.ext ?_)).trans (hg ⟨k.val + (i 3).val, hw⟩)).trans (if_pos hw).symm)
      · fin_cases a
        · show 0 ≤ b.val * 1 + (i 0).val ∧ b.val * 1 + (i 0).val - 0 < 16
          omega
        · show 0 ≤ h.val * 1 + (i 1).val ∧ h.val * 1 + (i 1).val - 0 < 8
          omega
        · show 0 ≤ r.val * 1 + (i 2).val ∧ r.val * 1 + (i 2).val - 0 < 2048
          omega
        · show 0 ≤ k.val * 1 + (i 3).val ∧ k.val * 1 + (i 3).val - 0 < 2048
          omega
      · fin_cases a
        · show b.val * 1 + (i 0).val - 0 = b.val
          omega
        · show h.val * 1 + (i 1).val - 0 = h.val
          omega
        · show r.val * 1 + (i 2).val - 0 = r.val
          omega
        · show k.val * 1 + (i 3).val - 0 = k.val + (i 3).val
          omega
    · refine (dif_neg fun hin => ?_).trans (if_neg hw).symm
      have h3 : k.val * 1 + (i 3).val - 0 < 2048 := (hin 3).2
      omega
  refine (Equiv.sum_comp (Shape.rowMajor (⟨4, ![1, 1, 1, 2048]⟩ : Shape)).symm (fun i : (⟨4, ![1, 1, 1, 2048]⟩ : Shape).Idx =>
    if k.val + (i 3).val < 2048 then g (k.val + (i 3).val) else 0)).trans ?_
  rw [← Equiv.sum_comp positions]
  show (∑ w : Fin 2048, if k.val + w.val < 2048 then g (k.val + w.val) else 0) = _
  rw [Finset.sum_Ico_eq_sum_range,
    Fin.sum_univ_eq_sum_range (fun w => if k.val + w < 2048 then g (k.val + w) else 0) 2048]
  refine (Finset.sum_subset (Finset.range_mono (by omega)) fun w _ hw => ?_).symm.trans (Finset.sum_congr rfl fun w hw => ?_)
  · exact if_neg (by rw [Finset.mem_range] at hw; omega)
  · exact if_pos (by rw [Finset.mem_range] at hw; omega)

/-- The log of the logistic function, as the reference writes it, at a real number. -/
theorem logSig_real (x : ℝ) : -(max (-(x : EReal)) 0 + Ideal.log (1 + Ideal.exp (-(max (-(x : EReal)) (-(-(x : EReal))))))) = brk (x : EReal) := by
  have h0 : (0 : EReal) - (x : EReal) = ((-x : ℝ) : EReal) := by rw [zero_sub]; norm_cast
  have h1 : min (x : EReal) ((-x : ℝ) : EReal) = ((min x (-x) : ℝ) : EReal) := by norm_cast
  have h2 : min (x : EReal) 0 = ((min x 0 : ℝ) : EReal) := by norm_cast
  have h3 : -(max (-(x : EReal)) (-(-(x : EReal)))) = ((min x (-x) : ℝ) : EReal) := by
    have : -max (-x) (-(-x)) = min x (-x) := by rw [neg_neg, ← min_neg_neg, neg_neg]
    rw [← this]; norm_cast
  have h4 : max (-(x : EReal)) 0 = ((max (-x) 0 : ℝ) : EReal) := by norm_cast
  obtain ⟨y, hy⟩ := log_real (min x (-x))
  unfold brk
  rw [h0, h1, h3, hy, h2, h4]
  have h5 : min x 0 - y = -(max (-x) 0 + y) := by
    have : min x 0 = -max (-x) 0 := by rw [← neg_zero, ← min_neg_neg, neg_neg, neg_neg, neg_zero]
    rw [this]; ring
  rw [← EReal.coe_sub, h5]
  norm_cast

/-- The log of the logistic function at an index. -/
theorem refLogSig_at (z : FVec Ideal S16x8x2048x2048 .f32) (b : Fin 16) (h : Fin 8) (r k : Fin 2048) (x : ℝ)
    (hx : z (ix4 b h r k) = (x : EReal)) : refLogSig z (ix4 b h r k) = brk (x : EReal) := by
  pointwise [refLogSig]
  simp only [hx, ne_eq, not_true_eq_false, if_false, zero_sub, sub_zero, Ideal.absf_def, Ideal.log1p]
  exact logSig_real x

/-- The log of the logistic function of minus a logit is the logit's stay log. -/
theorem brk_neg (x : ℝ) : brk ((-x : ℝ) : EReal) = stay (x : EReal) := by
  have h0 : (0 : EReal) - (x : EReal) = ((-x : ℝ) : EReal) := by rw [zero_sub]; norm_cast
  have h1 : (0 : EReal) - ((-x : ℝ) : EReal) = (x : EReal) := by rw [zero_sub]; norm_cast; rw [neg_neg]
  unfold brk stay
  rw [h0, h1, min_comm ((-x : ℝ) : EReal) (x : EReal)]

/-- The reference's stay logs. -/
theorem refStay_at (z : FVec Ideal S16x8x2048x2048 .f32) (b : Fin 16) (h : Fin 8) (r : Fin 2048) (zN : ℕ → EReal)
    (hN : ∀ k : Fin 2048, z (ix4 b h r k) = zN k.val) (hz : ∀ k, ∃ x : ℝ, zN k = x) (k : Fin 2048) :
    refStay z (ix4 b h r k) = st r.val zN k.val := by
  obtain ⟨x, hx⟩ := hz k.val
  have e1 : Host.negf z (ix4 b h r k) = ((-x : ℝ) : EReal) := by
    have : Host.negf z (ix4 b h r k) = -(z (ix4 b h r k) : EReal) := by pointwise
    rw [this, hN, hx]
    norm_cast
  have e2 : (broadcastInDim S16x8x2048x2048 ![] bcast_S_S16x8x2048x2048 (id (constant (F := Ideal) S_ .f32 0x00000000#32))) (ix4 b h r k) = (0 : EReal) := by
    rw [id]
    pointwise
  have e3 : refStay z (ix4 b h r k) = Scalar.select (refMask (ix4 b h r k)) (refLogSig (Host.negf z) (ix4 b h r k))
      ((broadcastInDim S16x8x2048x2048 ![] bcast_S_S16x8x2048x2048 (id (constant (F := Ideal) S_ .f32 0x00000000#32))) (ix4 b h r k)) := rfl
  rw [e3, refMask_at, refLogSig_at _ b h r k _ e1, e2, brk_neg, ← hx]
  rfl

/-- The stay logs from a key on are the key's own and those after it. -/
theorem suf_first (R : ℕ) (z : ℕ → EReal) (k : ℕ) (hk : k < 2048) : suf R z k = st R z k + suf R z (k + 1) :=
  Finset.sum_eq_sum_Ico_succ_bot hk _

/-- The stay logs from a key on add up to a real number. -/
theorem suf_real (R : ℕ) (z : ℕ → EReal) (hz : ∀ k, ∃ x : ℝ, z k = x) (k : ℕ) : ∃ y : ℝ, suf R z k = y := by
  unfold suf
  generalize Finset.Ico k 2048 = s
  induction s using Finset.induction_on with
  | empty => exact ⟨0, by simp⟩
  | insert a s ha ih =>
    obtain ⟨y, hy⟩ := ih
    obtain ⟨w, hw⟩ := st_real R z hz a
    exact ⟨w + y, by rw [Finset.sum_insert ha, hy, hw, EReal.coe_add]⟩

/-- What is left of a real sum when one of its two terms is taken away again. -/
theorem add_sub_first (x y : ℝ) : ((x : EReal) + y) - x = y := by
  rw [← EReal.coe_add, ← EReal.coe_sub, add_sub_cancel_left]

/-- The reference's weights. -/
theorem refWeights_at (z : FVec Ideal S16x8x2048x2048 .f32) (b : Fin 16) (h : Fin 8) (r : Fin 2048) (zN : ℕ → EReal)
    (hN : ∀ k : Fin 2048, z (ix4 b h r k) = zN k.val) (hz : ∀ k, ∃ x : ℝ, zN k = x) (k : Fin 2048) :
    refWeights z (ix4 b h r k) = if k.val < r.val then Ideal.exp (brk (zN k.val) + suf r.val zN (k.val + 1)) else 0 := by
  obtain ⟨x, hx⟩ := hz k.val
  obtain ⟨y, hy⟩ := suf_real r.val zN hz (k.val + 1)
  obtain ⟨w, hw⟩ := st_real r.val zN hz k.val
  have e1 : refFrom (refStay z) (ix4 b h r k) = suf r.val zN k.val :=
    refFrom_at _ b h r k (st r.val zN) fun k' => refStay_at z b h r zN hN hz k'
  have e2 : (broadcastInDim S16x8x2048x2048 ![] bcast_S_S16x8x2048x2048 (id (constant (F := Ideal) S_ .f32 0x00000000#32))) (ix4 b h r k) = (0 : EReal) := by
    rw [id]
    pointwise
  have e3 : refWeights z (ix4 b h r k) = Scalar.select (refMask (ix4 b h r k))
      (Host.exp (addf (refLogSig z) (subf (refFrom (refStay z)) (refStay z))) (ix4 b h r k))
      ((broadcastInDim S16x8x2048x2048 ![] bcast_S_S16x8x2048x2048 (id (constant (F := Ideal) S_ .f32 0x00000000#32))) (ix4 b h r k)) := rfl
  have e4 : ∀ A B C : FVec Ideal S16x8x2048x2048 .f32, Host.exp (addf A (subf B C)) (ix4 b h r k) =
      Ideal.exp ((A (ix4 b h r k) : EReal) + ((B (ix4 b h r k) : EReal) - (C (ix4 b h r k) : EReal))) := fun A B C => by pointwise
  rw [e3, refMask_at, e4, e1, e2, refStay_at z b h r zN hN hz k, refLogSig_at z b h r k x ((hN k).trans hx), suf_first _ _ _ k.isLt,
    hy, hw, add_sub_first, hx]

/-- The reference's result at a query row and a lane of a head: the sum of the weighted values. -/
theorem ref_at (m : (ℓ : Loc nD τ sig) → Buf (Elt Ideal) ℓ) (c : Dev nD) (Q K V : FVec Ideal S32768x512 .bf16)
    (hQ : m ((c.tc : Thread nD τ).loc main_arg0) = Q) (hK : m ((c.tc : Thread nD τ).loc main_arg1) = K)
    (hV : m ((c.tc : Thread nD τ).loc main_arg2) = V)
    (b : Fin 16) (h : Fin 8) (r : Fin 2048) (d : Fin 64) (zN vN : ℕ → EReal)
    (hN : ∀ k : Fin 2048, (∑ l : Fin 64, (Q (ix2 ⟨2048 * b.val + r.val, by omega⟩ ⟨64 * h.val + l.val, by omega⟩) *
      K (ix2 ⟨2048 * b.val + k.val, by omega⟩ ⟨64 * h.val + l.val, by omega⟩) : EReal)) = zN k.val)
    (hv : ∀ k : Fin 2048, V (ix2 ⟨2048 * b.val + k.val, by omega⟩ ⟨64 * h.val + d.val, by omega⟩) = vN k.val)
    (hz : ∀ k, ∃ x : ℝ, zN k = x) :
    res_main_v28 m c (ix2 ⟨2048 * b.val + r.val, by omega⟩ ⟨64 * h.val + d.val, by omega⟩) = out r.val zN vN 0 := by
  have hl : ∀ k : Fin 2048, refLogits (refHeads Q) (refHeads K) (ix4 b h r k) = zN k.val := fun k => by
    rw [refLogits_at, ← hN k]
    exact Finset.sum_congr rfl fun l _ => by rw [refHeads_at, refHeads_at]
  rw [res_eq, hQ, hK, hV]
  refine (refMixed_at _ _ b h r d).trans ?_
  refine Eq.trans ?_ ((Fin.sum_univ_eq_sum_range (term r.val zN vN) 2048).trans (congrArg (fun s => ∑ k ∈ s, term r.val zN vN k) (Finset.range_eq_Ico 2048)))
  refine Finset.sum_congr rfl fun k _ => ?_
  rw [refWeights_at _ b h r zN hl hz k, refHeads_at, hv]
  unfold term
  split
  · rfl
  · exact zero_mul _

end Cert.Breaking.Ref
end
-- ==== Proof.StickClaim.lean ====
module

public import proofs.«01_k».proof.Defs
public import proofs.«01_k».proof.Proof.StickKernel
public import proofs.«01_k».proof.Proof.StickReference
public import Idealize.ShloMosaic.Lib.ReduceAll
public import Idealize.ShloMosaic.Lib.Claim

@[expose] public section

set_option maxRecDepth 16384
set_option maxHeartbeats 4000000

noncomputable section

/- The claims about the stick-breaking attention. -/
namespace Cert.Breaking

open Idealize.ShloMosaic Idealize.ShloMosaic.TcCoe Idealize.SL.Sem

/-- The reference runs and leaves its arguments; it has no semaphore. -/
theorem frameRef : Cert.quiescent_StickRefIdeal (hStickRefIdeal := Cert.StickRefIdeal.Gen.facts) := fun m g _ =>
  (θ_run _ _ _).mono (fun r h => ⟨fun c => (h c).2, sem_eq_zero_of_no_sems (by decide) r.2⟩) (Cert.StickRefIdeal.Value.run m g)

/-- The facts that the precondition's function states. -/
theorem preFacts : Cert.Pre_finite_qk.Facts where
  bitsLt_bf16_f32 := by decide
  bcast_S_S32768x512 := by decide
  reducesTo_S32768x512_S_d0_1 := by decide
  h_S_ := by decide

/-- An extended real whose difference with itself is zero is a real number. -/
theorem real_of_sub_self (x : EReal) (h : x - x = 0) : ∃ y : ℝ, x = y := by
  induction x with
  | bot => exact absurd h (by simp)
  | top => exact absurd h (by simp)
  | coe y => exact ⟨y, rfl⟩

section
open Cert.Pre_finite_qk

/-- An array whose differences with itself all compare equal to zero has real elements. -/
theorem finite_of_all [Facts] (A : FVec Ideal S32768x512 .bf16) (j : S_.Idx)
    (h : Host.reduce IntOp.andi (cmpf .oeq (subf (extf .f32 A Facts.bitsLt_bf16_f32) (extf .f32 A Facts.bitsLt_bf16_f32))
      (broadcastInDim S32768x512 ![] Facts.bcast_S_S32768x512 (constant S_ .f32 0x00000000#32))) (constantI S_ 1 1#1) Facts.reducesTo_S32768x512_S_d0_1 Facts.h_S_ j = 1#1) :
    Finite A := fun i => by
  have e := Host.reduce_andi_all _ _ _ _ j h i
  refine real_of_sub_self (A i) ?_
  have e1 : ∀ B : FVec Ideal S32768x512 .f32, (cmpf .oeq (subf B B) (broadcastInDim S32768x512 ![] Facts.bcast_S_S32768x512 (constant S_ .f32 0x00000000#32))) i
      = FloatOps.cmpf (F := Ideal) .oeq ((B i : EReal) - (B i : EReal) : EReal) (0 : EReal) := fun B => by
    obtain ⟨R, j, rfl⟩ : ∃ (R : Fin 32768) (j : Fin 512), i = ix2 R j := ⟨i 0, i 1, by funext a; match a with | ⟨0, _⟩ => rfl | ⟨1, _⟩ => rfl⟩
    pointwise
  rw [e1] at e
  by_contra hne
  have e2 : Ideal.cmp .oeq ((A i : EReal) - (A i : EReal)) 0 = 1#1 := e
  simp [Ideal.cmp, hne] at e2

/-- Under the precondition the queries and the keys are real numbers. -/
theorem finite_of_pre [Facts] (Q K V : FVec Ideal S32768x512 .bf16) (h : fn (F := Ideal) Q K V = fun _ => 1#1) : Finite Q ∧ Finite K := by
  have e := IntOp.andi_eq_one.1 (congrFun h ix0)
  exact ⟨finite_of_all Q ix0 e.1, finite_of_all K ix0 e.2⟩
end

/-- The reference's result is the attention at every row and lane, its queries and keys being real. -/
theorem ref_attn (m' : (ℓ : Loc Cert.StickRefIdeal.nD Cert.StickRefIdeal.τ Cert.StickRefIdeal.sig) → Buf (Elt Ideal) ℓ) (c : Dev Cert.StickRefIdeal.nD)
    (Q K V : FVec Ideal Cert.StickRefIdeal.S32768x512 .bf16)
    (h0 : m' ((c.tc : Thread Cert.StickRefIdeal.nD Cert.StickRefIdeal.τ).loc Cert.StickRefIdeal.main_arg0) = Q)
    (h1 : m' ((c.tc : Thread Cert.StickRefIdeal.nD Cert.StickRefIdeal.τ).loc Cert.StickRefIdeal.main_arg1) = K)
    (h2 : m' ((c.tc : Thread Cert.StickRefIdeal.nD Cert.StickRefIdeal.τ).loc Cert.StickRefIdeal.main_arg2) = V)
    (hQ : Finite Q) (hK : Finite K) (R : Fin 32768) (j : Fin 512) :
    Cert.StickRefIdeal.Value.res_main_v28 m' c (ix2 R j) = attnAt Q K V R j := by
  have eR : R = ⟨2048 * (⟨R.val / 2048, by omega⟩ : Fin 16).val + (⟨R.val % 2048, by omega⟩ : Fin 2048).val, by simp only; omega⟩ := Fin.ext (by simp only; omega)
  have ej : j = ⟨64 * (⟨j.val / 64, by omega⟩ : Fin 8).val + (⟨j.val % 64, by omega⟩ : Fin 64).val, by simp only; omega⟩ := Fin.ext (by simp only; omega)
  have key := Ref.ref_at m' c Q K V h0 h1 h2 ⟨R.val / 2048, by omega⟩ ⟨j.val / 64, by omega⟩ ⟨R.val % 2048, by omega⟩ ⟨j.val % 64, by omega⟩
    (logitAt Q K R ⟨j.val / 64, by omega⟩) (valueAt V R j) (fun k => ?_) (fun k => ?_) (logitAt_real Q K hQ hK R _)
  · rw [← eR, ← ej] at key
    exact key
  · rw [← eR]
    unfold logitAt
    rw [dif_pos k.isLt]
  · rw [← ej]
    unfold valueAt
    rw [dif_pos k.isLt]

/-- The kernel and the reference end with equal results when the queries and the keys are finite. -/
theorem algebraic : Cert.algebraic_StickIdeal_StickRefIdeal_pre_finite_qk (hStickIdeal := Cert.StickIdeal.Gen.facts) (hStickRefIdeal := Cert.StickRefIdeal.Gen.facts)
    (hPre_finite_qk := preFacts) := by
  pair_intro
  · run_from Cert.StickIdeal.Gen.run_main m g
  · run_from Cert.StickRefIdeal.Value.run m' g'
    obtain ⟨h0, h1, h2⟩ := hagree c
    obtain ⟨hQ, hK⟩ := @finite_of_pre preFacts _ _ _ (hpre c)
    refine Eq.trans ?_ (final m c hQ hK).symm
    funext i
    obtain ⟨R, j, rfl⟩ : ∃ (R : Fin 32768) (j : Fin 512), i = ix2 R j := ⟨i 0, i 1, by funext a; match a with | ⟨0, _⟩ => rfl | ⟨1, _⟩ => rfl⟩
    exact ref_attn m' c _ _ _ h0 h1 h2 hQ hK R j

end Cert.Breaking

end
-- ==== Proof.AbInCell.lean ====
module

public import proofs.«01_k».proof.Proof.Gen.AbInIdeal.Value
public import proofs.«01_k».proof.Proof.SguCell
public import Idealize.ShloMosaic.Lib.Pipeline.ValueKit

@[expose] public section

set_option maxRecDepth 16384

noncomputable section

/- The values that one grid point of the mixing layer's input projection computes, as formulas over the arguments. -/
namespace Cert.InProj
open Cert.AbInIdeal Cert.AbInIdeal.Gen Idealize.ShloMosaic Idealize.ShloMosaic.TcCoe Idealize.SL.Sem
open Cert.Gating (hRow rms)

/-- One entry of the projection of a normalised row. -/
def dense (X G : Fin 1024 → EReal) (W : Fin 1024 → Fin 3088 → EReal) (n : Fin 3088) : EReal :=
  ∑ k, hRow X G k * W k n

/-- The log decay from the gate's pre-activation: the log of the logistic function over sixteen. -/
def logDecay (p : EReal) : EReal :=
  (0 - (max (0 - p) 0 + Ideal.log (1 + Ideal.exp (0 - max (0 - p) (-(0 - p)))))) * Ideal.ofBits FTy.f32 1031798784#32

/-- One entry of the log decay: sixteen columns of the projection through the second weights, plus the bias. -/
def decayAt (X G : Fin 1024 → EReal) (W : Fin 1024 → Fin 3088 → EReal) (W2 : Fin 16 → Fin 256 → EReal) (b : Fin 256 → EReal) (l : Fin 256) : EReal :=
  logDecay ((∑ i : Fin 16, dense X G W ⟨3072 + i.val, by omega⟩ * W2 i l) + b l)

/-- The kernel's normalised row. -/
theorem pay2_at (x0 : Vec Ideal S512x1024 .f32) (x1 : Vec Ideal S1x1024 .f32) (r : Fin 512) (k : Fin 1024) :
    k0_pay2 (F := Ideal) x0 x1 (ix2 r k) = hRow (fun k => x0 (ix2 r k)) (fun k => x1 (ix2 0 k)) k := by
  pointwise [k0_pay2, hRow, rms]

/-- The columns of a projection loaded from column `o` of the weights. -/
abbrev ColsAt {n : ℕ} (o : ℕ) (w : FVec Ideal ⟨2, ![1024, n]⟩ .bf16) (W : Fin 1024 → Fin 3088 → EReal) : Prop :=
  ∀ (k : Fin 1024) (l : Fin n) (h : o + l.val < 3088), w (ix2 k l) = W k ⟨o + l.val, h⟩

section
variable (x0 : Vec Ideal S512x1024 .f32) (x1 : Vec Ideal S1x1024 .f32) (W : Fin 1024 → Fin 3088 → EReal) (r : Fin 512)

/-- The attention's queries, scaled. -/
theorem pay3_at (w : Vec Ideal S1024x512 .bf16) (hw : ColsAt 0 w W) (l : Fin 512) :
    k0_pay3 (F := Ideal) x0 x1 w (ix2 r l)
      = dense (fun k => x0 (ix2 r k)) (fun k => x1 (ix2 0 k)) W ⟨l.val, by omega⟩ * Ideal.ofBits FTy.f32 1040187392#32 := by
  pointwise [k0_pay3]
  simp only [pay2_at, hw _ l (by omega), dense, Nat.zero_add]

/-- The attention's keys. -/
theorem pay4_at (w : Vec Ideal S1024x512 .bf16) (hw : ColsAt 512 w W) (l : Fin 512) :
    k0_pay4 (F := Ideal) x0 x1 w (ix2 r l) = dense (fun k => x0 (ix2 r k)) (fun k => x1 (ix2 0 k)) W ⟨512 + l.val, by omega⟩ := by
  pointwise [k0_pay4]
  simp only [pay2_at, hw _ l (by omega), dense]

/-- The attention's values. -/
theorem pay5_at (w : Vec Ideal S1024x512 .bf16) (hw : ColsAt 1024 w W) (l : Fin 512) :
    k0_pay5 (F := Ideal) x0 x1 w (ix2 r l) = dense (fun k => x0 (ix2 r k)) (fun k => x1 (ix2 0 k)) W ⟨1024 + l.val, by omega⟩ := by
  pointwise [k0_pay5]
  simp only [pay2_at, hw _ l (by omega), dense]

/-- The recurrence's queries. -/
theorem pay6_at (w : Vec Ideal S1024x256 .bf16) (hw : ColsAt 1536 w W) (l : Fin 256) :
    k0_pay6 (F := Ideal) (k0_pay2 x0 x1) w (ix2 r l) = dense (fun k => x0 (ix2 r k)) (fun k => x1 (ix2 0 k)) W ⟨1536 + l.val, by omega⟩ := by
  pointwise [k0_pay6]
  simp only [pay2_at, hw _ l (by omega), dense]

/-- The recurrence's keys. -/
theorem pay7_at (w : Vec Ideal S1024x256 .bf16) (hw : ColsAt 1792 w W) (l : Fin 256) :
    k0_pay7 (F := Ideal) (k0_pay2 x0 x1) w (ix2 r l) = dense (fun k => x0 (ix2 r k)) (fun k => x1 (ix2 0 k)) W ⟨1792 + l.val, by omega⟩ := by
  pointwise [k0_pay7]
  simp only [pay2_at, hw _ l (by omega), dense]

/-- The recurrence's values. -/
theorem pay8_at (w : Vec Ideal S1024x512 .bf16) (hw : ColsAt 2048 w W) (l : Fin 512) :
    k0_pay8 (F := Ideal) (k0_pay2 x0 x1) w (ix2 r l) = dense (fun k => x0 (ix2 r k)) (fun k => x1 (ix2 0 k)) W ⟨2048 + l.val, by omega⟩ := by
  pointwise [k0_pay8]
  simp only [pay2_at, hw _ l (by omega), dense]

/-- The recurrence's output gates. -/
theorem pay9_at (w : Vec Ideal S1024x512 .bf16) (hw : ColsAt 2560 w W) (l : Fin 512) :
    k0_pay9 (F := Ideal) (k0_pay2 x0 x1) w (ix2 r l) = dense (fun k => x0 (ix2 r k)) (fun k => x1 (ix2 0 k)) W ⟨2560 + l.val, by omega⟩ := by
  pointwise [k0_pay9]
  simp only [pay2_at, hw _ l (by omega), dense]

/-- A sum over 128 whose terms vanish from the sixteenth on. -/
theorem sum_first (f : Fin 128 → EReal) (h : ∀ i : Fin 112, f ⟨16 + i.val, by omega⟩ = 0) : ∑ i, f i = ∑ i : Fin 16, f ⟨i.val, by omega⟩ := by
  refine (Fin.sum_univ_add (a := 16) (b := 112) f).trans ?_
  refine (congrArg _ (Finset.sum_eq_zero fun i _ => h i)).trans ?_
  exact add_zero _

/-- The log decay: the padded columns meet zero rows of the second weights. -/
theorem pay1_at (w : Vec Ideal S1024x128 .bf16) (w2 : Vec Ideal S128x256 .bf16) (b : Vec Ideal S1x256 .f32) (W2 : Fin 16 → Fin 256 → EReal)
    (hw : ∀ (k : Fin 1024) (i : Fin 16), w (ix2 k ⟨i.val, by omega⟩) = W k ⟨3072 + i.val, by omega⟩)
    (h2 : ∀ (i : Fin 16) l, w2 (ix2 ⟨i.val, by omega⟩ l) = W2 i l) (h0 : ∀ (i : Fin 112) l, w2 (ix2 ⟨16 + i.val, by omega⟩ l) = (0 : EReal)) (l : Fin 256) :
    k0_pay1 (F := Ideal) (k0_pay10 (k0_pay2 x0 x1) w w2 b) (ix2 r l)
      = decayAt (fun k => x0 (ix2 r k)) (fun k => x1 (ix2 0 k)) W W2 (fun l => b (ix2 0 l)) l := by
  have hp : k0_pay10 (F := Ideal) (k0_pay2 x0 x1) w w2 b (ix2 r l)
      = (∑ i : Fin 16, dense (fun k => x0 (ix2 r k)) (fun k => x1 (ix2 0 k)) W ⟨3072 + i.val, by omega⟩ * W2 i l) + (b (ix2 0 l) : EReal) := by
    pointwise [k0_pay10]
    rw [sum_first]
    · simp only [pay2_at, hw, h2, dense]
    · intro i
      rw [h0]
      exact mul_zero _
  pointwise [k0_pay1]
  rw [hp]
  unfold decayAt logDecay
  simp only [Ideal.ofBits_zero_f32, Ideal.ofBits_one_f32, Ideal.absf_def]
end

end Cert.InProj
end
-- ==== Proof.AbInKernel.lean ====
module

public import proofs.«01_k».proof.Proof.AbInCell

@[expose] public section

set_option maxRecDepth 16384

noncomputable section

/- The arrays that the mixing layer's input projection leaves, over its arguments. -/
namespace Cert.InProj
open Cert.AbInIdeal Cert.AbInIdeal.Gen Idealize.ShloMosaic Idealize.ShloMosaic.TcCoe Idealize.SL.Sem
open Idealize.ShloMosaic.Pipeline (Dat)
open Cert.Gating (hRow rms)

/-- A projection's entry at row `R` and column `n`, over the arguments. -/
def denseAt (A0 : FVec Ideal S32768x1024 .f32) (A1 : FVec Ideal S1024 .f32) (A2 : FVec Ideal S1024x3088 .f32) (R : Fin 32768) (n : Fin 3088) : EReal :=
  dense (fun k => A0 (ix2 R k)) (fun k => A1 (ix1 k)) (fun k j => A2 (ix2 k j)) n

/-- An entry of the projection's block of columns that begins at column `o`. -/
def colAt (o : ℕ) {n : ℕ} (ho : o + n ≤ 3088) (A0 : FVec Ideal S32768x1024 .f32) (A1 : FVec Ideal S1024 .f32) (A2 : FVec Ideal S1024x3088 .f32) (R : Fin 32768) (l : Fin n) : EReal :=
  denseAt A0 A1 A2 R ⟨o + l.val, by omega⟩

/-- An entry of the attention's queries, which leave scaled. -/
def queryAt (A0 : FVec Ideal S32768x1024 .f32) (A1 : FVec Ideal S1024 .f32) (A2 : FVec Ideal S1024x3088 .f32) (R : Fin 32768) (l : Fin 512) : EReal :=
  denseAt A0 A1 A2 R ⟨l.val, by omega⟩ * Ideal.ofBits FTy.f32 1040187392#32

/-- The log decay at row `R` and column `l`, over the arguments. -/
def logAt (A0 : FVec Ideal S32768x1024 .f32) (A1 : FVec Ideal S1024 .f32) (A2 : FVec Ideal S1024x3088 .f32) (A3 : FVec Ideal S16x256 .f32) (A4 : FVec Ideal S256 .f32)
    (R : Fin 32768) (l : Fin 256) : EReal :=
  decayAt (fun k => A0 (ix2 R k)) (fun k => A1 (ix1 k)) (fun k j => A2 (ix2 k j)) (fun i l => A3 (ix2 i l)) (fun l => A4 (ix1 l)) l

variable (m : (ℓ : Loc nD τ sig) → Buf (Elt Ideal) ℓ)

/-- The block indices of the input windows at each point: the rows' window moves with the point, the weights stay. -/
theorem idxIn : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ t.val < 64 :=
  (by decide +kernel : ∀ t : Fin grid0.N, _)

/-- The block indices of the output windows at each point: all move with the point. -/
theorem idxOut : ∀ t : Fin cfg0.N, win0_6.index t = ![t.val, 0] ∧ win0_7.index t = ![t.val, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] :=
  (by decide +kernel : ∀ t : Fin grid0.N, _)

/-- The stream's block at a point is the stream's rows that the point stands at. -/
theorem b0 (c : Dev nD) (t : Fin cfg0.N) (r : Fin 512) (k : Fin 1024) (R : Fin 32768) (hR : R.val = 512 * t.val + r.val) :
    iblk m c 0 t (ix2 r k) = (m ((c : Thread nD τ).loc main_arg0) : FVec Ideal S32768x1024 .f32) (ix2 R k) := by
  blk_ext [iblk, V, idxIn t, hR]

/-- The gain's block. -/
theorem b1 (c : Dev nD) (t : Fin cfg0.N) (k : Fin 1024) :
    iblk m c 1 t (ix2 0 k) = (m ((c : Thread nD τ).loc main_arg1) : FVec Ideal S1024 .f32) (ix1 k) := by
  blk_simp [iblk]
  simp only [V, hostOps0, hostOps0_1, hostOps0_2, hostOps0_3, hostOps0_4, List.flatten_cons, List.flatten_nil, List.cons_append, List.nil_append]
  after_results_simp
  pointwise
  blk_ext [idxIn t]

/-- The weights' block: the first 3072 columns. -/
theorem b2 (c : Dev nD) (t : Fin cfg0.N) (k : Fin 1024) (j : Fin 3072) :
    iblk m c 2 t (ix2 k j) = (m ((c : Thread nD τ).loc main_arg2) : FVec Ideal S1024x3088 .f32) (ix2 k ⟨j.val, by omega⟩) := by
  blk_simp [iblk]
  simp only [V, hostOps0, hostOps0_1, hostOps0_2, hostOps0_3, hostOps0_4, List.flatten_cons, List.flatten_nil, List.cons_append, List.nil_append]
  after_results_simp
  pointwise
  blk_ext [idxIn t]

/-- The integer zero as a number. -/
theorem sitofp_zero : (FloatOps.sitofp (F := Ideal) FTy.f32 0#32 : EReal) = 0 := by
  show (((0#32 : BitVec 32).toInt : ℝ) : EReal) = 0
  simp

/-- The gate's columns of the weights, padded to 128 columns. -/
def padCols (A2 : FVec Ideal S1024x3088 .f32) : FVec Ideal S1024x128 .bf16 :=
  truncf (F := Ideal) .bf16 (pad S1024x128 ![0, 0] ![0, 112] ![0, 0] (extractStridedSlice S1024x16 ![0, 3072] A2 slices_S1024x3088_S1024x16_0_3072)
    (sitofp FTy.f32 (constantI S_ 32 0#32)) pads_S1024x16_S1024x128_000_01120 h_S_) bitsLt_bf16_f32

/-- The second weights, padded to 128 rows. -/
def padRows (A3 : FVec Ideal S16x256 .f32) : FVec Ideal S128x256 .bf16 :=
  truncf (F := Ideal) .bf16 (pad S128x256 ![0, 0] ![112, 0] ![0, 0] A3
    (sitofp FTy.f32 (constantI S_ 32 0#32)) pads_S16x256_S128x256_01120_000 h_S_) bitsLt_bf16_f32

/-- The padded columns' first sixteen. -/
theorem padCols_at (A2 : FVec Ideal S1024x3088 .f32) (k : Fin 1024) (i : Fin 16) :
    padCols A2 (ix2 k ⟨i.val, by omega⟩) = A2 (ix2 k ⟨3072 + i.val, by omega⟩) := by
  pointwise [padCols]

/-- The padded rows' first sixteen. -/
theorem padRows_at (A3 : FVec Ideal S16x256 .f32) (i : Fin 16) (l : Fin 256) :
    padRows A3 (ix2 ⟨i.val, by omega⟩ l) = A3 (ix2 i l) := by
  pointwise [padRows]

/-- The padded rows vanish from the sixteenth on. -/
theorem padRows_zero (A3 : FVec Ideal S16x256 .f32) (i : Fin 112) (l : Fin 256) :
    padRows A3 (ix2 ⟨16 + i.val, by omega⟩ l) = (0 : EReal) := by
  pointwise [padRows]
  exact Cert.InProj.sitofp_zero

/-- The padded columns are what the call's window reads. -/
theorem entry_v4 (c : Dev nD) : V m c main_v4 = padCols (m ((c : Thread nD τ).loc main_arg2)) := by
  simp only [V, hostOps0, hostOps0_1, hostOps0_2, hostOps0_3, hostOps0_4, List.flatten_cons, List.flatten_nil, List.cons_append, List.nil_append]
  after_results_simp
  rfl

/-- The padded rows are what the call's window reads. -/
theorem entry_v6 (c : Dev nD) : V m c main_v6 = padRows (m ((c : Thread nD τ).loc main_arg3)) := by
  simp only [V, hostOps0, hostOps0_1, hostOps0_2, hostOps0_3, hostOps0_4, List.flatten_cons, List.flatten_nil, List.cons_append, List.nil_append]
  after_results_simp
  rfl

/-- The gate's columns of the weights. -/
theorem b3 (c : Dev nD) (t : Fin cfg0.N) (k : Fin 1024) (i : Fin 16) :
    iblk m c 3 t (ix2 k ⟨i.val, by omega⟩) = (m ((c : Thread nD τ).loc main_arg2) : FVec Ideal S1024x3088 .f32) (ix2 k ⟨3072 + i.val, by omega⟩) := by
  refine Eq.trans (b := padCols (m ((c : Thread nD τ).loc main_arg2)) (ix2 k ⟨i.val, by omega⟩)) ?_ (padCols_at _ _ _)
  blk_simp [iblk]
  rw [entry_v4]
  blk_ext [idxIn t]

/-- The second weights in their first sixteen rows. -/
theorem b4 (c : Dev nD) (t : Fin cfg0.N) (i : Fin 16) (l : Fin 256) :
    iblk m c 4 t (ix2 ⟨i.val, by omega⟩ l) = (m ((c : Thread nD τ).loc main_arg3) : FVec Ideal S16x256 .f32) (ix2 i l) := by
  refine Eq.trans (b := padRows (m ((c : Thread nD τ).loc main_arg3)) (ix2 ⟨i.val, by omega⟩ l)) ?_ (padRows_at _ _ _)
  blk_simp [iblk]
  rw [entry_v6]
  blk_ext [idxIn t]

/-- The second weights' padded rows are zero. -/
theorem b4pad (c : Dev nD) (t : Fin cfg0.N) (i : Fin 112) (l : Fin 256) :
    iblk m c 4 t (ix2 ⟨16 + i.val, by omega⟩ l) = (0 : EReal) := by
  refine Eq.trans (b := padRows (m ((c : Thread nD τ).loc main_arg3)) (ix2 ⟨16 + i.val, by omega⟩ l)) ?_ (padRows_zero _ _ _)
  blk_simp [iblk]
  rw [entry_v6]
  blk_ext [idxIn t]

/-- The gate's bias. -/
theorem b5 (c : Dev nD) (t : Fin cfg0.N) (l : Fin 256) :
    iblk m c 5 t (ix2 0 l) = (m ((c : Thread nD τ).loc main_arg4) : FVec Ideal S256 .f32) (ix1 l) := by
  blk_simp [iblk]
  simp only [V, hostOps0, hostOps0_1, hostOps0_2, hostOps0_3, hostOps0_4, List.flatten_cons, List.flatten_nil, List.cons_append, List.nil_append]
  after_results_simp
  pointwise
  blk_ext [idxIn t]

/-- A load of the weights' block from column `o` on. -/
theorem cols (c : Dev nD) (t : Fin cfg0.N) {n : ℕ} (o : ℕ) (h : ∀ k, ![0, o] k + ![1024, n] k ≤ S1024x3072.size k) :
    ColsAt (n := n) o (View.ld (iblk m c 2 t) (Rect.unit (s := S1024x3072) ![0, o] ![1024, n] h)) (fun k j => (m ((c : Thread nD τ).loc main_arg2) : FVec Ideal S1024x3088 .f32) (ix2 k j)) := by
  intro k l hl
  have h1 : o + n ≤ 3072 := h 1
  refine (View.ld_unit_apply_of (iblk m c 2 t) ![0, o] ![1024, n] h (ix2 k l) (ix2 k (⟨o + l.val, by omega⟩ : Fin 3072)) fun | ⟨0, _⟩ => by simp [ix2] | ⟨1, _⟩ => by simp [ix2]).trans ?_
  exact b2 m c t k _

/-- The queries' block at a point. -/
theorem point6 (c : Dev nD) (t : Fin cfg0.N) (r : Fin 512) (l : Fin 512) (R : Fin 32768) (hR : R.val = 512 * t.val + r.val) :
    (dats m 0 c).after 6 t (ix2 r l) = queryAt (m ((c : Thread nD τ).loc main_arg0)) (m ((c : Thread nD τ).loc main_arg1)) (m ((c : Thread nD τ).loc main_arg2)) R l := by
  rw [after0_6]
  frame_out
  rw [pay3_at _ _ _ _ _ (cols m c t 0 _)]
  unfold queryAt denseAt dense
  simp only [b0 m c t r _ R hR, b1]

/-- The keys' block at a point. -/
theorem point7 (c : Dev nD) (t : Fin cfg0.N) (r : Fin 512) (l : Fin 512) (R : Fin 32768) (hR : R.val = 512 * t.val + r.val) :
    (dats m 0 c).after 7 t (ix2 r l) = colAt 512 (n := 512) (by omega) (m ((c : Thread nD τ).loc main_arg0)) (m ((c : Thread nD τ).loc main_arg1)) (m ((c : Thread nD τ).loc main_arg2)) R l := by
  rw [after0_7]
  frame_out
  rw [pay4_at _ _ _ _ _ (cols m c t 512 _)]
  unfold colAt denseAt dense
  simp only [b0 m c t r _ R hR, b1]

/-- The values' block at a point. -/
theorem point8 (c : Dev nD) (t : Fin cfg0.N) (r : Fin 512) (l : Fin 512) (R : Fin 32768) (hR : R.val = 512 * t.val + r.val) :
    (dats m 0 c).after 8 t (ix2 r l) = colAt 1024 (n := 512) (by omega) (m ((c : Thread nD τ).loc main_arg0)) (m ((c : Thread nD τ).loc main_arg1)) (m ((c : Thread nD τ).loc main_arg2)) R l := by
  rw [after0_8]
  frame_out
  rw [pay5_at _ _ _ _ _ (cols m c t 1024 _)]
  unfold colAt denseAt dense
  simp only [b0 m c t r _ R hR, b1]

/-- The recurrence's queries' block at a point. -/
theorem point9 (c : Dev nD) (t : Fin cfg0.N) (r : Fin 512) (l : Fin 256) (R : Fin 32768) (hR : R.val = 512 * t.val + r.val) :
    (dats m 0 c).after 9 t (ix2 r l) = colAt 1536 (n := 256) (by omega) (m ((c : Thread nD τ).loc main_arg0)) (m ((c : Thread nD τ).loc main_arg1)) (m ((c : Thread nD τ).loc main_arg2)) R l := by
  rw [after0_9]
  frame_out
  unfold k0_pay11
  frame_out
  rw [pay6_at _ _ _ _ _ (cols m c t 1536 _)]
  unfold colAt denseAt dense
  simp only [b0 m c t r _ R hR, b1]

/-- The recurrence's keys' block at a point. -/
theorem point10 (c : Dev nD) (t : Fin cfg0.N) (r : Fin 512) (l : Fin 256) (R : Fin 32768) (hR : R.val = 512 * t.val + r.val) :
    (dats m 0 c).after 10 t (ix2 r l) = colAt 1792 (n := 256) (by omega) (m ((c : Thread nD τ).loc main_arg0)) (m ((c : Thread nD τ).loc main_arg1)) (m ((c : Thread nD τ).loc main_arg2)) R l := by
  rw [after0_10]
  frame_out
  unfold k0_pay11
  frame_out
  rw [pay7_at _ _ _ _ _ (cols m c t 1792 _)]
  unfold colAt denseAt dense
  simp only [b0 m c t r _ R hR, b1]

/-- The recurrence's values' block at a point. -/
theorem point11 (c : Dev nD) (t : Fin cfg0.N) (r : Fin 512) (l : Fin 512) (R : Fin 32768) (hR : R.val = 512 * t.val + r.val) :
    (dats m 0 c).after 11 t (ix2 r l) = colAt 2048 (n := 512) (by omega) (m ((c : Thread nD τ).loc main_arg0)) (m ((c : Thread nD τ).loc main_arg1)) (m ((c : Thread nD τ).loc main_arg2)) R l := by
  rw [after0_11]
  frame_out
  unfold k0_pay11
  frame_out
  rw [pay8_at _ _ _ _ _ (cols m c t 2048 _)]
  unfold colAt denseAt dense
  simp only [b0 m c t r _ R hR, b1]

/-- The recurrence's output gates' block at a point. -/
theorem point12 (c : Dev nD) (t : Fin cfg0.N) (r : Fin 512) (l : Fin 512) (R : Fin 32768) (hR : R.val = 512 * t.val + r.val) :
    (dats m 0 c).after 12 t (ix2 r l) = colAt 2560 (n := 512) (by omega) (m ((c : Thread nD τ).loc main_arg0)) (m ((c : Thread nD τ).loc main_arg1)) (m ((c : Thread nD τ).loc main_arg2)) R l := by
  rw [after0_12]
  frame_out
  unfold k0_pay11
  frame_out
  rw [pay9_at _ _ _ _ _ (cols m c t 2560 _)]
  unfold colAt denseAt dense
  simp only [b0 m c t r _ R hR, b1]

/-- The log decay's block at a point. -/
theorem point13 (c : Dev nD) (t : Fin cfg0.N) (r : Fin 512) (l : Fin 256) (R : Fin 32768) (hR : R.val = 512 * t.val + r.val) :
    (dats m 0 c).after 13 t (ix2 r l) = logAt (m ((c : Thread nD τ).loc main_arg0)) (m ((c : Thread nD τ).loc main_arg1)) (m ((c : Thread nD τ).loc main_arg2)) (m ((c : Thread nD τ).loc main_arg3)) (m ((c : Thread nD τ).loc main_arg4)) R l := by
  rw [after0_13]
  frame_out
  unfold k0_pay11
  frame_out
  rw [pay1_at _ _ (fun k j => (m ((c : Thread nD τ).loc main_arg2) : FVec Ideal S1024x3088 .f32) (ix2 k j)) _ _ _ _ _ (b3 m c t) (b4 m c t) (b4pad m c t)]
  unfold logAt decayAt dense
  simp only [b0 m c t r _ R hR, b1, b5]

/-- The queries after the run. -/
theorem final6 (c : Dev nD) : (dats m 0 c).arrAt 6 cfg0.N = fun i : S32768x512.Idx =>
    queryAt (m ((c : Thread nD τ).loc main_arg0)) (m ((c : Thread nD τ).loc main_arg1)) (m ((c : Thread nD τ).loc main_arg2)) (i 0) (i 1) := by
  refine (dats m 0 c).arrAt_eq_of_covers 6 _ (by decide +kernel) fun t _ y => ?_
  blk_simp
  idx_vars y
  refine (point6 m c t y0 y1 ((((cfg0.win 6).blk t).view.emb (ix2 y0 y1)) 0) ?_).trans ?_
  · blk_simp [idxOut t]
    omega
  · have e : y1 = ((((cfg0.win 6).blk t).view.emb (ix2 y0 y1)) 1 : Fin 512) := Fin.ext (by blk_simp [idxOut t])
    exact congrArg _ e

/-- The keys after the run. -/
theorem final7 (c : Dev nD) : (dats m 0 c).arrAt 7 cfg0.N = fun i : S32768x512.Idx =>
    colAt 512 (n := 512) (by omega) (m ((c : Thread nD τ).loc main_arg0)) (m ((c : Thread nD τ).loc main_arg1)) (m ((c : Thread nD τ).loc main_arg2)) (i 0) (i 1) := by
  refine (dats m 0 c).arrAt_eq_of_covers 7 _ (by decide +kernel) fun t _ y => ?_
  blk_simp
  idx_vars y
  refine (point7 m c t y0 y1 ((((cfg0.win 7).blk t).view.emb (ix2 y0 y1)) 0) ?_).trans ?_
  · blk_simp [idxOut t]
    omega
  · have e : y1 = ((((cfg0.win 7).blk t).view.emb (ix2 y0 y1)) 1 : Fin 512) := Fin.ext (by blk_simp [idxOut t])
    exact congrArg _ e

/-- The values after the run. -/
theorem final8 (c : Dev nD) : (dats m 0 c).arrAt 8 cfg0.N = fun i : S32768x512.Idx =>
    colAt 1024 (n := 512) (by omega) (m ((c : Thread nD τ).loc main_arg0)) (m ((c : Thread nD τ).loc main_arg1)) (m ((c : Thread nD τ).loc main_arg2)) (i 0) (i 1) := by
  refine (dats m 0 c).arrAt_eq_of_covers 8 _ (by decide +kernel) fun t _ y => ?_
  blk_simp
  idx_vars y
  refine (point8 m c t y0 y1 ((((cfg0.win 8).blk t).view.emb (ix2 y0 y1)) 0) ?_).trans ?_
  · blk_simp [idxOut t]
    omega
  · have e : y1 = ((((cfg0.win 8).blk t).view.emb (ix2 y0 y1)) 1 : Fin 512) := Fin.ext (by blk_simp [idxOut t])
    exact congrArg _ e

/-- The recurrence's queries after the run. -/
theorem final9 (c : Dev nD) : (dats m 0 c).arrAt 9 cfg0.N = fun i : S32768x256.Idx =>
    colAt 1536 (n := 256) (by omega) (m ((c : Thread nD τ).loc main_arg0)) (m ((c : Thread nD τ).loc main_arg1)) (m ((c : Thread nD τ).loc main_arg2)) (i 0) (i 1) := by
  refine (dats m 0 c).arrAt_eq_of_covers 9 _ (by decide +kernel) fun t _ y => ?_
  blk_simp
  idx_vars y
  refine (point9 m c t y0 y1 ((((cfg0.win 9).blk t).view.emb (ix2 y0 y1)) 0) ?_).trans ?_
  · blk_simp [idxOut t]
    omega
  · have e : y1 = ((((cfg0.win 9).blk t).view.emb (ix2 y0 y1)) 1 : Fin 256) := Fin.ext (by blk_simp [idxOut t])
    exact congrArg _ e

/-- The recurrence's keys after the run. -/
theorem final10 (c : Dev nD) : (dats m 0 c).arrAt 10 cfg0.N = fun i : S32768x256.Idx =>
    colAt 1792 (n := 256) (by omega) (m ((c : Thread nD τ).loc main_arg0)) (m ((c : Thread nD τ).loc main_arg1)) (m ((c : Thread nD τ).loc main_arg2)) (i 0) (i 1) := by
  refine (dats m 0 c).arrAt_eq_of_covers 10 _ (by decide +kernel) fun t _ y => ?_
  blk_simp
  idx_vars y
  refine (point10 m c t y0 y1 ((((cfg0.win 10).blk t).view.emb (ix2 y0 y1)) 0) ?_).trans ?_
  · blk_simp [idxOut t]
    omega
  · have e : y1 = ((((cfg0.win 10).blk t).view.emb (ix2 y0 y1)) 1 : Fin 256) := Fin.ext (by blk_simp [idxOut t])
    exact congrArg _ e

/-- The recurrence's values after the run. -/
theorem final11 (c : Dev nD) : (dats m 0 c).arrAt 11 cfg0.N = fun i : S32768x512.Idx =>
    colAt 2048 (n := 512) (by omega) (m ((c : Thread nD τ).loc main_arg0)) (m ((c : Thread nD τ).loc main_arg1)) (m ((c : Thread nD τ).loc main_arg2)) (i 0) (i 1) := by
  refine (dats m 0 c).arrAt_eq_of_covers 11 _ (by decide +kernel) fun t _ y => ?_
  blk_simp
  idx_vars y
  refine (point11 m c t y0 y1 ((((cfg0.win 11).blk t).view.emb (ix2 y0 y1)) 0) ?_).trans ?_
  · blk_simp [idxOut t]
    omega
  · have e : y1 = ((((cfg0.win 11).blk t).view.emb (ix2 y0 y1)) 1 : Fin 512) := Fin.ext (by blk_simp [idxOut t])
    exact congrArg _ e

/-- The recurrence's output gates after the run. -/
theorem final12 (c : Dev nD) : (dats m 0 c).arrAt 12 cfg0.N = fun i : S32768x512.Idx =>
    colAt 2560 (n := 512) (by omega) (m ((c : Thread nD τ).loc main_arg0)) (m ((c : Thread nD τ).loc main_arg1)) (m ((c : Thread nD τ).loc main_arg2)) (i 0) (i 1) := by
  refine (dats m 0 c).arrAt_eq_of_covers 12 _ (by decide +kernel) fun t _ y => ?_
  blk_simp
  idx_vars y
  refine (point12 m c t y0 y1 ((((cfg0.win 12).blk t).view.emb (ix2 y0 y1)) 0) ?_).trans ?_
  · blk_simp [idxOut t]
    omega
  · have e : y1 = ((((cfg0.win 12).blk t).view.emb (ix2 y0 y1)) 1 : Fin 512) := Fin.ext (by blk_simp [idxOut t])
    exact congrArg _ e

/-- The log decay after the run. -/
theorem final13 (c : Dev nD) : (dats m 0 c).arrAt 13 cfg0.N = fun i : S32768x256.Idx =>
    logAt (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 13 _ (by decide +kernel) fun t _ y => ?_
  blk_simp
  idx_vars y
  refine (point13 m c t y0 y1 ((((cfg0.win 13).blk t).view.emb (ix2 y0 y1)) 0) ?_).trans ?_
  · blk_simp [idxOut t]
    omega
  · have e : y1 = ((((cfg0.win 13).blk t).view.emb (ix2 y0 y1)) 1 : Fin 256) := Fin.ext (by blk_simp [idxOut t])
    exact congrArg _ e

end Cert.InProj
end
-- ==== Proof.AbInReference.lean ====
module

public import proofs.«01_k».proof.Proof.Gen.AbInRefIdeal.Run
public import proofs.«01_k».proof.Proof.AbInKernel

@[expose] public section

set_option maxRecDepth 16384

noncomputable section

/- The results of the input projection's reference, read at an index. -/
namespace Cert.InProj
open Cert.AbInRefIdeal Cert.AbInRefIdeal.Gen Cert.AbInRefIdeal.Value Idealize.ShloMosaic Idealize.ShloMosaic.TcCoe Idealize.SL.Sem
open Cert.Gating (hRow rms)

/-- The reference's normalised input. -/
def refHid (A0 : FVec Ideal S32768x1024 .f32) (A1 : FVec Ideal S1024 .f32) : FVec Ideal S32768x1024 .f32 :=
  (mulf (mulf A0 (broadcastInDim S32768x1024 ![0, 1] bcast_S32768x1_S32768x1024_0_1 (Host.rsqrt (addf (Host.divf (broadcastInDim S32768x1 ![0] bcast_S32768_S32768x1_0 (Host.reduceAdd (mulf A0 A0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 A1)))

/-- The reference's projection. -/
def refDense (A0 : FVec Ideal S32768x1024 .f32) (A1 : FVec Ideal S1024 .f32) (A2 : FVec Ideal S1024x3088 .f32) : FVec Ideal S32768x3088 .f32 :=
  Host.dotGeneral dot_S32768x1024_S1024x3088_S32768x3088_1_0_0_1_n_n none (refHid A0 A1) A2

/-- The reference's pre-activation of the gate. -/
def refPre (P : FVec Ideal S32768x3088 .f32) (A3 : FVec Ideal S16x256 .f32) (A4 : FVec Ideal S256 .f32) : FVec Ideal S32768x256 .f32 :=
  (addf (Host.dotGeneral dot_S32768x16_S16x256_S32768x256_1_0_0_1_n_n none (extractStridedSlice S32768x16 ![0, 3072] P slices_S32768x3088_S32768x16_0_3072) A3) (broadcastInDim S32768x256 ![0, 1] bcast_S1x256_S32768x256_0_1 (broadcastInDim S1x256 ![1] bcast_S256_S1x256_1 A4)))

/-- The reference's log decay from the pre-activation. -/
def refLog (p : FVec Ideal S32768x256 .f32) : FVec Ideal S32768x256 .f32 :=
  Host.divf (Host.negf (select (cmpf .une (subf (Host.negf p) (broadcastInDim S32768x256 ![] bcast_S_S32768x256 (constant S_ .f32 0x00000000#32))) (subf (Host.negf p) (broadcastInDim S32768x256 ![] bcast_S_S32768x256 (constant S_ .f32 0x00000000#32)))) (addf (Host.negf p) (broadcastInDim S32768x256 ![] bcast_S_S32768x256 (constant S_ .f32 0x00000000#32))) (addf (maximumf (Host.negf p) (broadcastInDim S32768x256 ![] bcast_S_S32768x256 (constant S_ .f32 0x00000000#32))) (Host.log1p (Host.exp (Host.negf (Host.absf (subf (Host.negf p) (broadcastInDim S32768x256 ![] bcast_S_S32768x256 (constant S_ .f32 0x00000000#32)))))))))) (broadcastInDim S32768x256 ![] bcast_S_S32768x256 (constant S_ .f32 0x41800000#32))

/-- The reference's normalised input at an index. -/
theorem refHid_at (A0 : FVec Ideal S32768x1024 .f32) (A1 : FVec Ideal S1024 .f32) (R : Fin 32768) (k : Fin 1024) :
    refHid A0 A1 (ix2 R k) = hRow (fun k => A0 (ix2 R k)) (fun k => A1 (ix1 k)) k := by
  pointwise [refHid, hRow, rms]

/-- The reference's projection at an index. -/
theorem refDense_at (A0 : FVec Ideal S32768x1024 .f32) (A1 : FVec Ideal S1024 .f32) (A2 : FVec Ideal S1024x3088 .f32) (R : Fin 32768) (n : Fin 3088) :
    refDense A0 A1 A2 (ix2 R n) = denseAt A0 A1 A2 R n := by
  pointwise [refDense]
  simp only [refHid_at, denseAt, dense]

/-- The reference's pre-activation at an index. -/
theorem refPre_at (P : FVec Ideal S32768x3088 .f32) (A3 : FVec Ideal S16x256 .f32) (A4 : FVec Ideal S256 .f32) (R : Fin 32768) (l : Fin 256) :
    refPre P A3 A4 (ix2 R l) = (∑ i : Fin 16, (P (ix2 R ⟨3072 + i.val, by omega⟩) * A3 (ix2 i l) : EReal)) + (A4 (ix1 l) : EReal) := by
  pointwise [refPre]

/-- The word of sixteen. -/
theorem word_sixteen : Ideal.ofBits FTy.f32 1098907648#32 = ((16 : ℝ) : EReal) := by
  simp [Ideal.ofBits, Ideal.ieee, -EReal.coe_mul]
  norm_num

/-- The word of a sixteenth. -/
theorem word_sixteenth : Ideal.ofBits FTy.f32 1031798784#32 = ((1 / 16 : ℝ) : EReal) := by
  simp [Ideal.ofBits, Ideal.ieee, -EReal.coe_mul]
  norm_num

/-- The reference's log decay at an index is the kernel's formula. -/
theorem refLog_at (p : FVec Ideal S32768x256 .f32) (R : Fin 32768) (l : Fin 256) : refLog p (ix2 R l) = logDecay (p (ix2 R l)) := by
  pointwise [refLog]
  rw [word_sixteen, Ideal.div_coe (by norm_num)]
  unfold logDecay
  simp only [word_sixteenth, ne_eq, not_true_eq_false, if_false, zero_sub, Ideal.absf_def, Ideal.log1p]

/-- The reference's log decay over the arguments. -/
theorem refLogAt (A0 : FVec Ideal S32768x1024 .f32) (A1 : FVec Ideal S1024 .f32) (A2 : FVec Ideal S1024x3088 .f32) (A3 : FVec Ideal S16x256 .f32) (A4 : FVec Ideal S256 .f32) (R : Fin 32768) (l : Fin 256) :
    refLog (refPre (refDense A0 A1 A2) A3 A4) (ix2 R l) = logAt A0 A1 A2 A3 A4 R l := by
  rw [refLog_at, refPre_at]
  simp only [refDense_at, logAt, decayAt, denseAt]

/-- The log decay's term is the stages'. -/
theorem res_eq (m : (ℓ : Loc nD τ sig) → Buf (Elt Ideal) ℓ) (c : Dev nD) :
    res_main_v28 m c = refLog (refPre (refDense (m ((c.tc : Thread nD τ).loc main_arg0)) (m ((c.tc : Thread nD τ).loc main_arg1)) (m ((c.tc : Thread nD τ).loc main_arg2)))
      (m ((c.tc : Thread nD τ).loc main_arg3)) (m ((c.tc : Thread nD τ).loc main_arg4))) := rfl

end Cert.InProj
end
-- ==== Proof.AbInClaim.lean ====
module

public import proofs.«01_k».proof.Defs
public import proofs.«01_k».proof.Proof.AbInReference
public import Idealize.ShloMosaic.Lib.Claim

@[expose] public section

set_option maxRecDepth 16384
set_option maxHeartbeats 4000000

noncomputable section

/- The claims about the mixing layer's input projection. -/
namespace Cert.InProj

open Idealize.ShloMosaic Idealize.ShloMosaic.TcCoe Idealize.SL.Sem

/-- The reference runs and leaves its arguments; it has no semaphore. -/
theorem frameRef : Cert.quiescent_AbInRefIdeal (hAbInRefIdeal := Cert.AbInRefIdeal.Gen.facts) := fun m g _ =>
  (θ_run _ _ _).mono (fun r h => ⟨fun c => (h c).2.2.2.2.2.2.2.2, sem_eq_zero_of_no_sems (by decide) r.2⟩) (Cert.AbInRefIdeal.Value.run m g)

section
open Cert.AbInRefIdeal Cert.AbInRefIdeal.Gen

/-- The reference's block of columns from column `o`, at an index. -/
theorem slice_at {n : ℕ} (o : ℕ) (ho : o + n ≤ 3088) (h : S32768x3088.Slices ![0, o] ⟨2, ![32768, n]⟩)
    (A0 : FVec Ideal S32768x1024 .f32) (A1 : FVec Ideal S1024 .f32) (A2 : FVec Ideal S1024x3088 .f32) (R : Fin 32768) (l : Fin n) :
    extractStridedSlice ⟨2, ![32768, n]⟩ ![0, o] (refDense A0 A1 A2) h (ix2 R l) = colAt o ho A0 A1 A2 R l := by
  pointwise
  rw [refDense_at]
  rfl

/-- The reference's narrowed block of columns from column `o`, at an index. -/
theorem cut_at {n : ℕ} (o : ℕ) (ho : o + n ≤ 3088) (h : S32768x3088.Slices ![0, o] ⟨2, ![32768, n]⟩)
    (A0 : FVec Ideal S32768x1024 .f32) (A1 : FVec Ideal S1024 .f32) (A2 : FVec Ideal S1024x3088 .f32) (R : Fin 32768) (l : Fin n) :
    truncf .bf16 (extractStridedSlice ⟨2, ![32768, n]⟩ ![0, o] (refDense A0 A1 A2) h) bitsLt_bf16_f32 (ix2 R l) = colAt o ho A0 A1 A2 R l :=
  slice_at o ho h A0 A1 A2 R l

/-- The reference's scaled queries at an index. -/
theorem query_at (A0 : FVec Ideal S32768x1024 .f32) (A1 : FVec Ideal S1024 .f32) (A2 : FVec Ideal S1024x3088 .f32) (R : Fin 32768) (l : Fin 512) :
    truncf .bf16 (mulf (extractStridedSlice S32768x512 ![0, 0] (refDense A0 A1 A2) slices_S32768x3088_S32768x512_0_0)
      (broadcastInDim S32768x512 ![] bcast_S_S32768x512 (constant S_ .f32 0x3E000000#32))) bitsLt_bf16_f32 (ix2 R l) = queryAt A0 A1 A2 R l := by
  pointwise
  rw [refDense_at]
  rfl
end

/-- Two arrays of two axes that agree at every pair of indices are equal. -/
theorem ext2 {a b : ℕ} {φ : FTy} (f : FVec Ideal ⟨2, ![a, b]⟩ φ) (g : Fin a → Fin b → EReal) (h : ∀ r l, f (ix2 r l) = g r l) :
    f = fun i => g (i 0) (i 1) := by
  funext i
  obtain ⟨r, l, rfl⟩ : ∃ (r : Fin a) (l : Fin b), i = ix2 r l := ⟨i 0, i 1, by funext a; match a with | ⟨0, _⟩ => rfl | ⟨1, _⟩ => rfl⟩
  exact h r l

/-- The kernel and the reference end with equal results. -/
theorem algebraic : Cert.algebraic_AbInIdeal_AbInRefIdeal (hAbInIdeal := Cert.AbInIdeal.Gen.facts) (hAbInRefIdeal := Cert.AbInRefIdeal.Gen.facts) := by
  intro m g m' g' _ hagree
  refine ⟨fun c => (Cert.AbInIdeal.Gen.dats m 0 c).arrAt 6 Cert.AbInIdeal.cfg0.N, fun c => (Cert.AbInIdeal.Gen.dats m 0 c).arrAt 7 Cert.AbInIdeal.cfg0.N, fun c => (Cert.AbInIdeal.Gen.dats m 0 c).arrAt 8 Cert.AbInIdeal.cfg0.N, fun c => (Cert.AbInIdeal.Gen.dats m 0 c).arrAt 9 Cert.AbInIdeal.cfg0.N, fun c => (Cert.AbInIdeal.Gen.dats m 0 c).arrAt 10 Cert.AbInIdeal.cfg0.N, fun c => (Cert.AbInIdeal.Gen.dats m 0 c).arrAt 11 Cert.AbInIdeal.cfg0.N, fun c => (Cert.AbInIdeal.Gen.dats m 0 c).arrAt 12 Cert.AbInIdeal.cfg0.N, fun c => (Cert.AbInIdeal.Gen.dats m 0 c).arrAt 13 Cert.AbInIdeal.cfg0.N, ?_, ?_⟩
  · run_from Cert.AbInIdeal.Gen.run_main m g
    all_goals
      simp only [Cert.AbInIdeal.Gen.hostOps0, Cert.AbInIdeal.Gen.hostOps0_1, Cert.AbInIdeal.Gen.hostOps0_2, Cert.AbInIdeal.Gen.hostOps0_3,
        Cert.AbInIdeal.Gen.hostOps0_4, List.flatten_cons, List.flatten_nil, List.cons_append, List.nil_append, List.append_nil]
      after_results_simp
  · refine (θ_run _ _ _).mono (fun r hr => ?_) (Cert.AbInRefIdeal.Value.run m' g')
    intro c
    obtain ⟨h0, h1, h2, h3, h4⟩ := hagree c
    obtain ⟨e0, e1, e2, e3, e4, e5, e6, e7, e8⟩ := hr c
    refine ⟨e0.trans ?_, e1.trans ?_, e2.trans ?_, e3.trans ?_, e4.trans ?_, e5.trans ?_, e6.trans ?_, e7.trans ?_, ?_⟩
    · exact (ext2 _ _ (query_at _ _ _)).trans (by rw [h0, h1, h2]; exact (final6 m c).symm)
    · exact (ext2 _ _ (cut_at 512 (by omega) _ _ _ _)).trans (by rw [h0, h1, h2]; exact (final7 m c).symm)
    · exact (ext2 _ _ (cut_at 1024 (by omega) _ _ _ _)).trans (by rw [h0, h1, h2]; exact (final8 m c).symm)
    · exact (ext2 _ _ (slice_at 1536 (by omega) _ _ _ _)).trans (by rw [h0, h1, h2]; exact (final9 m c).symm)
    · exact (ext2 _ _ (slice_at 1792 (by omega) _ _ _ _)).trans (by rw [h0, h1, h2]; exact (final10 m c).symm)
    · exact (ext2 _ _ (cut_at 2048 (by omega) _ _ _ _)).trans (by rw [h0, h1, h2]; exact (final11 m c).symm)
    · exact (ext2 _ _ (slice_at 2560 (by omega) _ _ _ _)).trans (by rw [h0, h1, h2]; exact (final12 m c).symm)
    · exact (res_eq m' c).trans ((ext2 _ _ (refLogAt _ _ _ _ _)).trans (by rw [h0, h1, h2, h3, h4]; exact (final13 m c).symm))
    · exact e8

end Cert.InProj

end
-- ==== Proof.AbOutKernel.lean ====
module

public import proofs.«01_k».proof.Proof.Gen.AbOutIdeal.Value
public import Idealize.ShloMosaic.Lib.Pipeline.ValueKit
public import Idealize.ShloMosaic.Lib.Pointwise

@[expose] public section

set_option maxRecDepth 16384

noncomputable section

/- The array that the mixing layer's output projection leaves, over its arguments. -/
namespace Cert.OutProj
open Cert.AbOutIdeal Cert.AbOutIdeal.Gen Idealize.ShloMosaic Idealize.ShloMosaic.TcCoe Idealize.SL.Sem
open Idealize.ShloMosaic.Pipeline (Dat)

/-- One entry of the output projection with its residual: the stream's row plus the two heads' rows, each through its half of the weights. -/
def outAt (X : Fin 1024 → EReal) (A B : Fin 512 → EReal) (W : Fin 1024 → Fin 1024 → EReal) (j : Fin 1024) : EReal :=
  X j + ((∑ k : Fin 512, A k * W ⟨k.val, by omega⟩ j) + ∑ k : Fin 512, B k * W ⟨512 + k.val, by omega⟩ j)

/-- What one grid point stores, at an index, over the blocks that it loads. -/
theorem pay_at (x0 : Vec Ideal S512x1024 .f32) (x1 : Vec Ideal S512x512 .bf16) (x3 : Vec Ideal S512x1024 .bf16) (x2 : Vec Ideal S512x512 .bf16) (x4 : Vec Ideal S512x1024 .bf16)
    (W : Fin 1024 → Fin 1024 → EReal) (h3 : ∀ (k : Fin 512) j, x3 (ix2 k j) = W ⟨k.val, by omega⟩ j) (h4 : ∀ (k : Fin 512) j, x4 (ix2 k j) = W ⟨512 + k.val, by omega⟩ j)
    (r : Fin 512) (j : Fin 1024) :
    k0_pay1 (F := Ideal) x0 x1 x3 x2 x4 (ix2 r j)
      = outAt (fun j => x0 (ix2 r j)) (fun k => x1 (ix2 r k)) (fun k => x2 (ix2 r k)) W j := by
  pointwise [k0_pay1]
  simp only [h3, h4, outAt]
  exact add_assoc _ _ _

variable (m : (ℓ : Loc nD τ sig) → Buf (Elt Ideal) ℓ)

/-- The block indices of the windows at each point: the rows' windows move with the point, the weights stay. -/
theorem idx : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![t.val, 0] ∧ t.val < 64 :=
  (by decide +kernel : ∀ t : Fin grid0.N, _)

/-- The stream's block at a point is the stream's rows that the point stands at. -/
theorem b0 (c : Dev nD) (t : Fin cfg0.N) (r : Fin 512) (k : Fin 1024) (R : Fin 32768) (hR : R.val = 512 * t.val + r.val) :
    iblk m c 0 t (ix2 r k) = (m ((c : Thread nD τ).loc main_arg0) : FVec Ideal S32768x1024 .f32) (ix2 R k) := by
  blk_ext [iblk, V, idx t, hR]

/-- The first heads' block at a point is their rows that the point stands at. -/
theorem b1 (c : Dev nD) (t : Fin cfg0.N) (r k : Fin 512) (R : Fin 32768) (hR : R.val = 512 * t.val + r.val) :
    iblk m c 1 t (ix2 r k) = (m ((c : Thread nD τ).loc main_arg1) : FVec Ideal S32768x512 .bf16) (ix2 R k) := by
  blk_ext [iblk, V, idx t, hR]

/-- The second heads' block at a point is their rows that the point stands at. -/
theorem b2 (c : Dev nD) (t : Fin cfg0.N) (r k : Fin 512) (R : Fin 32768) (hR : R.val = 512 * t.val + r.val) :
    iblk m c 2 t (ix2 r k) = (m ((c : Thread nD τ).loc main_arg2) : FVec Ideal S32768x512 .bf16) (ix2 R k) := by
  blk_ext [iblk, V, idx t, hR]

/-- The upper half of the weights. -/
theorem b3 (c : Dev nD) (t : Fin cfg0.N) (k : Fin 512) (j : Fin 1024) :
    iblk m c 3 t (ix2 k j) = (m ((c : Thread nD τ).loc main_arg3) : FVec Ideal S1024x1024 .f32) (ix2 ⟨k.val, by omega⟩ j) := by
  blk_simp [iblk]
  entry_read
  pointwise
  blk_ext [idx t]

/-- The lower half of the weights. -/
theorem b4 (c : Dev nD) (t : Fin cfg0.N) (k : Fin 512) (j : Fin 1024) :
    iblk m c 4 t (ix2 k j) = (m ((c : Thread nD τ).loc main_arg3) : FVec Ideal S1024x1024 .f32) (ix2 ⟨512 + k.val, by omega⟩ j) := by
  blk_simp [iblk]
  entry_read
  pointwise
  blk_ext [idx t]

/-- The result's entry at row `R` and column `j`, over the arguments. -/
def at_ (A0 : FVec Ideal S32768x1024 .f32) (A1 A2 : FVec Ideal S32768x512 .bf16) (A3 : FVec Ideal S1024x1024 .f32) (R : Fin 32768) (j : Fin 1024) : EReal :=
  outAt (fun j => A0 (ix2 R j)) (fun k => A1 (ix2 R k)) (fun k => A2 (ix2 R k)) (fun k j => A3 (ix2 k j)) j

/-- A point's output block against the arguments. -/
theorem point (c : Dev nD) (t : Fin cfg0.N) (r : Fin 512) (j : Fin 1024) (R : Fin 32768) (hR : R.val = 512 * t.val + r.val) :
    (dats m 0 c).after 5 t (ix2 r j)
      = at_ (m ((c : Thread nD τ).loc main_arg0)) (m ((c : Thread nD τ).loc main_arg1)) (m ((c : Thread nD τ).loc main_arg2)) (m ((c : Thread nD τ).loc main_arg3)) R j := by
  rw [after0_5]
  frame_out
  rw [pay_at _ _ _ _ _ (fun k j => (m ((c : Thread nD τ).loc main_arg3) : FVec Ideal S1024x1024 .f32) (ix2 k j)) (fun k j => b3 m c t k j) (fun k j => b4 m c t k j)]
  unfold at_ outAt
  simp only [b0 m c t r _ R hR, b1 m c t r _ R hR, b2 m c t r _ R hR]

/-- The result array after the run is the projection over the arguments. -/
theorem final (c : Dev nD) : (dats m 0 c).arrAt 5 cfg0.N
    = fun i : S32768x1024.Idx => at_ (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 5 _ (by decide +kernel) fun t _ y => ?_
  blk_simp
  idx_vars y
  refine (point m c t y0 y1 ((((cfg0.win 5).blk t).view.emb (ix2 y0 y1)) 0) ?_).trans ?_
  · blk_simp [idx t]
    omega
  · have e : y1 = ((((cfg0.win 5).blk t).view.emb (ix2 y0 y1)) 1 : Fin 1024) := Fin.ext (by blk_simp [idx t])
    exact congrArg _ e

end Cert.OutProj
end
-- ==== Proof.AbOutClaim.lean ====
module

public import proofs.«01_k».proof.Defs
public import proofs.«01_k».proof.Proof.AbOutKernel
public import proofs.«01_k».proof.Proof.Gen.AbOutRefIdeal.Run
public import Idealize.ShloMosaic.Lib.Claim

@[expose] public section

set_option maxRecDepth 16384

noncomputable section

/- The claims about the mixing layer's output projection. -/
namespace Cert.OutProj

open Idealize.ShloMosaic Idealize.ShloMosaic.TcCoe Idealize.SL.Sem

/-- The reference runs and leaves its arguments; it has no semaphore. -/
theorem frameRef : Cert.quiescent_AbOutRefIdeal (hAbOutRefIdeal := Cert.AbOutRefIdeal.Gen.facts) := fun m g _ =>
  (θ_run _ _ _).mono (fun r h => ⟨fun c => (h c).2, sem_eq_zero_of_no_sems (by decide) r.2⟩) (Cert.AbOutRefIdeal.Value.run m g)

section
open Cert.AbOutRefIdeal Cert.AbOutRefIdeal.Gen

/-- The reference's mixed rows: the two heads' rows side by side. -/
def refMixed (A1 A2 : FVec Ideal S32768x512 .bf16) : FVec Ideal S32768x1024 .f32 :=
  concatenate S32768x1024 1 [⟨S32768x512, (extf .f32 A1 bitsLt_bf16_f32)⟩, ⟨S32768x512, (extf .f32 A2 bitsLt_bf16_f32)⟩] concatenates_S32768x512_S32768x512_S32768x1024_d1

/-- The left half of the mixed rows. -/
theorem refMixed_left (A1 A2 : FVec Ideal S32768x512 .bf16) (R : Fin 32768) (k : Fin 512) :
    refMixed A1 A2 (ix2 R ⟨k.val, by omega⟩) = A1 (ix2 R k) := by
  pointwise [refMixed]

/-- The right half of the mixed rows. -/
theorem refMixed_right (A1 A2 : FVec Ideal S32768x512 .bf16) (R : Fin 32768) (k : Fin 512) :
    refMixed A1 A2 (ix2 R ⟨512 + k.val, by omega⟩) = A2 (ix2 R k) := by
  pointwise [refMixed]

/-- A sum over the mixed width is the sum over its left half plus the sum over its right half. -/
theorem sum_halves (f : Fin 1024 → EReal) :
    ∑ k, f k = (∑ k : Fin 512, f ⟨k.val, by omega⟩) + ∑ k : Fin 512, f ⟨512 + k.val, by omega⟩ :=
  Fin.sum_univ_add (a := 512) (b := 512) f

/-- The reference's term at an index. -/
theorem ref_at (A0 : FVec Ideal S32768x1024 .f32) (A1 A2 : FVec Ideal S32768x512 .bf16) (A3 : FVec Ideal S1024x1024 .f32) (R : Fin 32768) (j : Fin 1024) :
    addf A0 (Host.dotGeneral dot_S32768x1024_S1024x1024_S32768x1024_1_0_0_1_n_n none (refMixed A1 A2) A3) (ix2 R j) = at_ A0 A1 A2 A3 R j := by
  refine Eq.trans (b := (A0 (ix2 R j) : EReal) + ∑ k : Fin 1024, (refMixed A1 A2 (ix2 R k) * A3 (ix2 k j) : EReal)) (by pointwise) ?_
  rw [sum_halves]
  simp only [refMixed_left, refMixed_right, at_, outAt]
end

/-- The kernel and the reference end with equal results. -/
theorem algebraic : Cert.algebraic_AbOutIdeal_AbOutRefIdeal (hAbOutIdeal := Cert.AbOutIdeal.Gen.facts) (hAbOutRefIdeal := Cert.AbOutRefIdeal.Gen.facts) := by
  pair_intro
  · run_from Cert.AbOutIdeal.Gen.run_main m g
  · run_from Cert.AbOutRefIdeal.Value.run m' g'
    obtain ⟨h0, h1, h2, h3⟩ := hagree c
    refine Eq.trans ?_ (final m c).symm
    funext i
    obtain ⟨R, j, rfl⟩ : ∃ (R : Fin 32768) (j : Fin 1024), i = ix2 R j := ⟨i 0, i 1, by funext a; match a with | ⟨0, _⟩ => rfl | ⟨1, _⟩ => rfl⟩
    exact (ref_at _ _ _ _ R j).trans (by rw [h1, h2]; rfl)

end Cert.OutProj

end
-- ==== Proof.GlaCell.lean ====
/-
  Gated linear attention over chunks of 64 rows, one column at a time, and the formulas of the
  kernel's blocks in its terms.

  A chunk carries, per key column, the logs `l` of the decays, the keys `k` and the queries `q`, and
  per value column the values `v`. The state of a key column and a value column is one number.
-/
module

public import proofs.«01_k».proof.Proof.Gen.GlaIdeal.Skeleton
public import Idealize.ShloMosaic.Lib.Pointwise

@[expose] public section

set_option maxRecDepth 16384

noncomputable section
namespace Cert.Decay
open Cert.GlaIdeal Cert.GlaIdeal.Gen
open Idealize.ShloMosaic Idealize.ShloMosaic.TcCoe Idealize.SL.Sem

/-- The log of the decay from the chunk's start up to and with row `r`. -/
def cum (l : Fin 64 → EReal) (r : Fin 64) : EReal := ∑ s : Fin 64, if s ≤ r then l s else 0

/-- The scaled query of row `r`, with the decay up to it. -/
def qin (q l : Fin 64 → EReal) (r : Fin 64) : EReal := q r * Ideal.ofBits .f32 0x3E000000#32 * Ideal.exp (cum l r)

/-- The key of row `s`, with the decay up to it taken off. -/
def kin (k l : Fin 64 → EReal) (s : Fin 64) : EReal := k s * Ideal.exp (0 - cum l s)

/-- The score of row `r` against row `s` of the same chunk, over a head's 64 key columns. -/
def score (q k l : Fin 64 → Fin 64 → EReal) (r s : Fin 64) : EReal :=
  if s ≤ r then ∑ d : Fin 64, qin (q d) (l d) r * kin (k d) (l d) s else 0

/-- The attention's row `r` in one value column: what the chunk gives and what the state `S` gives. -/
def outp (q k l : Fin 64 → Fin 64 → EReal) (v S : Fin 64 → EReal) (r : Fin 64) : EReal :=
  (∑ s, score q k l r s * v s) + ∑ d, qin (q d) (l d) r * S d

/-- The state after the chunk, from the state `S` before it. -/
def next (l k v : Fin 64 → EReal) (S : EReal) : EReal :=
  Ideal.exp (cum l 63) * S + ∑ s, k s * Ideal.exp (cum l 63 - cum l s) * v s

/-- The state before chunk `n`, from the chunks' columns. -/
def stateAt (L K V : ℕ → Fin 64 → EReal) : ℕ → EReal
  | 0 => 0
  | n + 1 => next (L n) (K n) (V n) (stateAt L K V n)

/-- A head's output row `o`, normalised, scaled by the gain `w` and gated by `g`, at column `e`. -/
def gated (o : Fin 128 → EReal) (w g : EReal) (e : Fin 128) : EReal :=
  o e * Ideal.rsqrt (Ideal.div (∑ x, o x * o x) (Ideal.ofBits .f32 0x43000000#32) + Ideal.ofBits .f32 0x358637BD#32) * w
    * (g * Ideal.div 1 (1 + Ideal.exp (-g)))

/-- A sum over 128 columns is the sum over the first 64 plus the sum over the last 64. -/
theorem sum_cols (f : Fin 128 → EReal) :
    ∑ d, f d = (∑ d : Fin 64, f ⟨d.val, by omega⟩) + ∑ d : Fin 64, f ⟨64 + d.val, by omega⟩ :=
  Fin.sum_univ_add (a := 64) (b := 64) f

/-- The causal mask at a cell. -/
theorem mask_at (r x : Fin 64) (a b : EReal) :
    Scalar.select (IntOp.cmpi CmpIPredicate.sle (BitVec.ofNat 32 ↑x) (BitVec.ofNat 32 ↑r)) a b = if x ≤ r then a else b := by
  have h : IntOp.cmpi CmpIPredicate.sle (BitVec.ofNat 32 ↑x) (BitVec.ofNat 32 ↑r) = if x ≤ r then 1#1 else 0#1 := by
    revert r x; decide +kernel
  rw [h]; by_cases hx : x ≤ r <;> simp [hx, Scalar.select]

/-- The first head's columns at a cell. -/
theorem half_at (x : Fin 128) (a b : EReal) :
    Scalar.select (IntOp.cmpi CmpIPredicate.slt (BitVec.ofNat 32 ↑x) 64#32) a b = if x.val < 64 then a else b := by
  have h : IntOp.cmpi CmpIPredicate.slt (BitVec.ofNat 32 ↑x) 64#32 = if x.val < 64 then 1#1 else 0#1 := by
    revert x; decide +kernel
  rw [h]; by_cases hx : x.val < 64 <;> simp [hx, Scalar.select]

/-- The decays' logs added up. -/
theorem pay9_at (l : Vec Ideal S64x128 .f32) (r : Fin 64) (x : Fin 128) :
    k0_pay9 (F := Ideal) k0_pay2 l (ix2 r x) = cum (fun s => l (ix2 s x)) r := by
  pointwise [k0_pay9, k0_pay2, k0_pay1, cum]
  simp only [mask_at, ite_mul, one_mul, zero_mul]

/-- The queries with their decays. -/
theorem pay12_at (l q : Vec Ideal S64x128 .f32) (r : Fin 64) (x : Fin 128) :
    k0_pay12 (F := Ideal) k0_pay2 l q (ix2 r x) = qin (fun s => q (ix2 s x)) (fun s => l (ix2 s x)) r := by
  pointwise [k0_pay12, qin]
  rw [pay9_at]

/-- The keys with the decays to the chunk's end. -/
theorem pay11_at (l k : Vec Ideal S64x128 .f32) (s : Fin 64) (x : Fin 128) :
    k0_pay11 (F := Ideal) k0_pay2 l k (ix2 s x) = k (ix2 s x) * Ideal.exp (cum (fun s => l (ix2 s x)) 63 - cum (fun s => l (ix2 s x)) s) := by
  pointwise [k0_pay11, k0_pay10]
  rw [pay9_at, pay9_at]

/-- The chunk's own part of the output, first head. -/
theorem own0_at (l q k : Vec Ideal S64x128 .f32) (v : Vec Ideal S64x256 .bf16) (r : Fin 64) (e : Fin 128) :
    k0_pay13 (F := Ideal) k0_pay1 k0_pay2 k0_pay3 l q k v (ix2 r ⟨e.val, by omega⟩) =
      ∑ s, score (fun d s => q (ix2 s ⟨d.val, by omega⟩)) (fun d s => k (ix2 s ⟨d.val, by omega⟩)) (fun d s => l (ix2 s ⟨d.val, by omega⟩)) r s
        * v (ix2 s ⟨e.val, by omega⟩) := by
  pointwise [k0_pay13, k0_pay1, k0_pay3]
  simp only [pay9_at, pay12_at, mask_at, half_at, score, kin]
  refine Finset.sum_congr rfl fun s _ => ?_
  rw [ite_mul, zero_mul, sum_cols]
  simp only [show ∀ d : Fin 64, d.val < 64 from fun d => d.isLt, show ∀ d : Fin 64, ¬ 64 + d.val < 64 from fun d => by omega,
    if_true, if_false, Finset.sum_const_zero, add_zero]

/-- The chunk's own part of the output, second head. -/
theorem own1_at (l q k : Vec Ideal S64x128 .f32) (v : Vec Ideal S64x256 .bf16) (r : Fin 64) (e : Fin 128) :
    k0_pay13 (F := Ideal) k0_pay1 k0_pay2 k0_pay3 l q k v (ix2 r ⟨128 + e.val, by omega⟩) =
      ∑ s, score (fun d s => q (ix2 s ⟨64 + d.val, by omega⟩)) (fun d s => k (ix2 s ⟨64 + d.val, by omega⟩)) (fun d s => l (ix2 s ⟨64 + d.val, by omega⟩)) r s
        * v (ix2 s ⟨128 + e.val, by omega⟩) := by
  pointwise [k0_pay13, k0_pay1, k0_pay3]
  simp only [pay9_at, pay12_at, mask_at, half_at, score, kin]
  refine Finset.sum_congr rfl fun s _ => ?_
  rw [ite_mul, zero_mul, sum_cols]
  simp only [show ∀ d : Fin 64, d.val < 64 from fun d => d.isLt, show ∀ d : Fin 64, ¬ 64 + d.val < 64 from fun d => by omega,
    if_true, if_false, Finset.sum_const_zero, zero_add, zero_mul]

/-- Whether state row `y` and key column `x` belong to the same head, at a cell. -/
theorem same_at (y : Fin 256) (x : Fin 128) (a b : EReal) :
    Scalar.select (k0_pay4 (ix2 y x)) a b = if y.val / 128 = x.val / 64 then a else b := by
  have h : k0_pay4 (ix2 y x) = if y.val / 128 = x.val / 64 then 1#1 else 0#1 := by
    pointwise [k0_pay4]
    revert y x; decide +kernel
  rw [h]; by_cases hx : y.val / 128 = x.val / 64 <;> simp [hx, Scalar.select]

/-- A pair's state holds the two heads' states in two of its four quarters, and zeros in the others. -/
def Holds (T : FVec Ideal S256x128 .f32) (S : Fin 128 → Fin 128 → EReal) : Prop :=
  ∀ (y : Fin 256) (x : Fin 128), T (ix2 y x) = if y.val / 128 = x.val / 64 then S x ⟨y.val % 128, by omega⟩ else 0

/-- The zero state. -/
theorem holds_zero : Holds (k0_pay5 (F := Ideal)) fun _ _ => 0 := fun y x => by
  rw [ite_self]; pointwise [k0_pay5]

/-- A trip takes the pair's state to the next one. -/
theorem holds_next (T : FVec Ideal S256x128 .f32) (S : Fin 128 → Fin 128 → EReal) (h : Holds T S)
    (l k : Vec Ideal S64x128 .f32) (v : Vec Ideal S64x256 .bf16) :
    Holds (k0_pay15 (F := Ideal) k0_pay4 T (k0_pay10 k0_pay2 l) (k0_pay11 k0_pay2 l k) v) fun x e =>
      next (fun s => l (ix2 s x)) (fun s => k (ix2 s x)) (fun s => v (ix2 s ⟨128 * (x.val / 64) + e.val, by omega⟩)) (S x e) := fun y x => by
  pointwise [k0_pay15, k0_pay10]
  simp only [same_at, pay9_at, pay11_at, h y x]
  by_cases hx : y.val / 128 = x.val / 64
  · simp only [if_pos hx, next]
    rw [mul_comm]
    refine congrArg _ (Finset.sum_congr rfl fun s _ => ?_)
    rw [mul_comm]
    refine congrArg _ (congrArg v (congrArg (ix2 s) (Fin.ext ?_)))
    show y.val = 128 * (x.val / 64) + y.val % 128
    omega
  · simp only [if_neg hx, zero_mul, add_zero]

/-- The kernel's gate, and the head's norm before it, at the first head's columns. -/
theorem gate0_at (o : FVec Ideal S64x256 .f32) (w : Vec Ideal S1x256 .f32) (g : Vec Ideal S64x256 .f32) (r : Fin 64) (e : Fin 128) :
    k0_pay8 (F := Ideal) o w g (ix2 r ⟨e.val, by omega⟩) =
      gated (fun e => o (ix2 r ⟨e.val, by omega⟩)) (w (ix2 0 ⟨e.val, by omega⟩)) (g (ix2 r ⟨e.val, by omega⟩)) e := by
  pointwise [k0_pay8, gated]
  rfl

/-- The same at the second head's columns. -/
theorem gate1_at (o : FVec Ideal S64x256 .f32) (w : Vec Ideal S1x256 .f32) (g : Vec Ideal S64x256 .f32) (r : Fin 64) (e : Fin 128) :
    k0_pay8 (F := Ideal) o w g (ix2 r ⟨128 + e.val, by omega⟩) =
      gated (fun e => o (ix2 r ⟨128 + e.val, by omega⟩)) (w (ix2 0 ⟨128 + e.val, by omega⟩)) (g (ix2 r ⟨128 + e.val, by omega⟩)) e := by
  pointwise [k0_pay8, gated]
  rfl

/-- The first pair's store is the gate of its output, like the second pair's. -/
theorem store0_eq (T : FVec Ideal S256x128 .f32) (l q k : Vec Ideal S64x128 .f32) (v : Vec Ideal S64x256 .bf16) (w : Vec Ideal S1x256 .f32) (g : Vec Ideal S64x256 .f32) :
    k0_pay16 (F := Ideal) (k0_pay12 k0_pay2 l q) (k0_pay13 k0_pay1 k0_pay2 k0_pay3 l q k v) (k0_pay14 T) w g =
      k0_pay8 (k0_pay19 k0_pay1 k0_pay2 k0_pay3 T l q k v) w g := rfl

/-- The second pair's next state is made like the first pair's. -/
theorem state1_eq (T : FVec Ideal S256x128 .f32) (l k : Vec Ideal S64x128 .f32) (v : Vec Ideal S64x256 .bf16) :
    k0_pay7 (F := Ideal) T (k0_pay20 k0_pay2 l k v) (k0_pay21 k0_pay2 l) =
      k0_pay15 k0_pay4 T (k0_pay10 k0_pay2 l) (k0_pay11 k0_pay2 l k) v := rfl

/-- A pair's output is the chunk's own part and the state's. -/
theorem out_split (T : FVec Ideal S256x128 .f32) (l q k : Vec Ideal S64x128 .f32) (v : Vec Ideal S64x256 .bf16) (r : Fin 64) (y : Fin 256) :
    k0_pay19 (F := Ideal) k0_pay1 k0_pay2 k0_pay3 T l q k v (ix2 r y) =
      k0_pay13 (F := Ideal) k0_pay1 k0_pay2 k0_pay3 l q k v (ix2 r y) + ∑ x, k0_pay12 (F := Ideal) k0_pay2 l q (ix2 r x) * T (ix2 y x) := by
  have e : k0_pay19 (F := Ideal) k0_pay1 k0_pay2 k0_pay3 T l q k v = addf (k0_pay13 (F := Ideal) k0_pay1 k0_pay2 k0_pay3 l q k v)
    (matmul dot_S64x128_S256x128_S64x256_1_1_0_0_n_n none (k0_pay12 (F := Ideal) k0_pay2 l q) (k0_pay14 T) (constant S64x256 .f32 0x00000000#32)) := rfl
  rw [e]
  pointwise [k0_pay14]

/-- A pair's output at the first head's columns. -/
theorem out0_at (T : FVec Ideal S256x128 .f32) (S : Fin 128 → Fin 128 → EReal) (h : Holds T S)
    (l q k : Vec Ideal S64x128 .f32) (v : Vec Ideal S64x256 .bf16) (r : Fin 64) (e : Fin 128) :
    k0_pay19 (F := Ideal) k0_pay1 k0_pay2 k0_pay3 T l q k v (ix2 r ⟨e.val, by omega⟩) =
      outp (fun d s => q (ix2 s ⟨d.val, by omega⟩)) (fun d s => k (ix2 s ⟨d.val, by omega⟩)) (fun d s => l (ix2 s ⟨d.val, by omega⟩))
        (fun s => v (ix2 s ⟨e.val, by omega⟩)) (fun d => S ⟨d.val, by omega⟩ e) r := by
  rw [out_split, own0_at, outp, sum_cols]
  refine congrArg _ ?_
  rw [Finset.sum_eq_zero (f := fun d : Fin 64 => k0_pay12 (F := Ideal) k0_pay2 l q (ix2 r ⟨64 + d.val, by omega⟩) * T (ix2 ⟨e.val, by omega⟩ ⟨64 + d.val, by omega⟩))
    fun d _ => by rw [h, if_neg (by simp only; omega), mul_zero], add_zero]
  refine Finset.sum_congr rfl fun d _ => ?_
  rw [pay12_at, h, if_pos (by simp only; omega)]
  refine congrArg _ (congrArg (S _) (Fin.ext ?_))
  show e.val % 128 = e.val
  omega

/-- A pair's output at the second head's columns. -/
theorem out1_at (T : FVec Ideal S256x128 .f32) (S : Fin 128 → Fin 128 → EReal) (h : Holds T S)
    (l q k : Vec Ideal S64x128 .f32) (v : Vec Ideal S64x256 .bf16) (r : Fin 64) (e : Fin 128) :
    k0_pay19 (F := Ideal) k0_pay1 k0_pay2 k0_pay3 T l q k v (ix2 r ⟨128 + e.val, by omega⟩) =
      outp (fun d s => q (ix2 s ⟨64 + d.val, by omega⟩)) (fun d s => k (ix2 s ⟨64 + d.val, by omega⟩)) (fun d s => l (ix2 s ⟨64 + d.val, by omega⟩))
        (fun s => v (ix2 s ⟨128 + e.val, by omega⟩)) (fun d => S ⟨64 + d.val, by omega⟩ e) r := by
  rw [out_split, own1_at, outp, sum_cols]
  refine congrArg _ ?_
  rw [Finset.sum_eq_zero (f := fun d : Fin 64 => k0_pay12 (F := Ideal) k0_pay2 l q (ix2 r ⟨d.val, by omega⟩) * T (ix2 ⟨128 + e.val, by omega⟩ ⟨d.val, by omega⟩))
    fun d _ => by rw [h, if_neg (by simp only; omega), mul_zero], zero_add]
  refine Finset.sum_congr rfl fun d _ => ?_
  rw [pay12_at, h, if_pos (by simp only; omega)]
  refine congrArg _ (congrArg (S _) (Fin.ext ?_))
  show (128 + e.val) % 128 = e.val
  omega

end Cert.Decay
end
-- ==== Proof.GlaLoop.lean ====
/-
  The kernel's loop over the chunks of one sequence.

  Before trip `n` the two carried matrices hold the four heads' states after the first `n` chunks, and
  the output block holds the rows of these chunks. A trip reads the chunk's rows out of the blocks.
-/
module

public import proofs.«01_k».proof.Proof.Gen.GlaIdeal.Frame
public import proofs.«01_k».proof.Proof.GlaCell
public import Idealize.ShloMosaic.Lib.WritesUnit

@[expose] public section

set_option maxRecDepth 16384

noncomputable section
namespace Cert.Decay
open Cert.GlaIdeal Cert.GlaIdeal.Gen
open Idealize.ShloMosaic Idealize.ShloMosaic.TcCoe Idealize.SL.Sem

/-- An array's columns: for a column and a chunk, the chunk's 64 entries. -/
abbrev Cols := ℕ → ℕ → Fin 64 → EReal

/-- Row `r` of chunk `n` of a head's output, in the head's value column `e`. -/
def headAt (Q K L V : Cols) (h n : ℕ) (r : Fin 64) (e : Fin 128) : EReal :=
  outp (fun d => Q (64 * h + d.val) n) (fun d => K (64 * h + d.val) n) (fun d => L (64 * h + d.val) n) (V (128 * h + e.val) n)
    (fun d => stateAt (L (64 * h + d.val)) (K (64 * h + d.val)) (V (128 * h + e.val)) n) r

/-- The states of a pair of heads before chunk `n`, per key column and value column. -/
def pairState (K L V : Cols) (P n : ℕ) (x e : Fin 128) : EReal :=
  stateAt (L (128 * P + x.val)) (K (128 * P + x.val)) (V (256 * P + (128 * (x.val / 64) + e.val))) n

/-- One trip takes a pair's state from one chunk to the next. -/
theorem holds_step (K L V : Cols) (P n : ℕ) (T : FVec Ideal S256x128 .f32) (h : Holds T (pairState K L V P n))
    (l k : Vec Ideal S64x128 .f32) (v : Vec Ideal S64x256 .bf16)
    (hl : ∀ (s : Fin 64) (x : Fin 128), l (ix2 s x) = L (128 * P + x.val) n s) (hk : ∀ (s : Fin 64) (x : Fin 128), k (ix2 s x) = K (128 * P + x.val) n s)
    (hv : ∀ (s : Fin 64) (y : Fin 256), v (ix2 s y) = V (256 * P + y.val) n s) :
    Holds (k0_pay15 (F := Ideal) k0_pay4 T (k0_pay10 k0_pay2 l) (k0_pay11 k0_pay2 l k) v) (pairState K L V P (n + 1)) := by
  have t := holds_next T _ h l k v
  simp only [hl, hk, hv] at t
  exact t

/-- What a trip stores for a pair of heads, at a row and column. -/
theorem store_at (Q K L V : Cols) (P n : ℕ) (T : FVec Ideal S256x128 .f32) (hT : Holds T (pairState K L V P n))
    (l q k : Vec Ideal S64x128 .f32) (v : Vec Ideal S64x256 .bf16) (w : Vec Ideal S1x256 .f32) (g : Vec Ideal S64x256 .f32)
    (hl : ∀ (s : Fin 64) (x : Fin 128), l (ix2 s x) = L (128 * P + x.val) n s) (hq : ∀ (s : Fin 64) (x : Fin 128), q (ix2 s x) = Q (128 * P + x.val) n s)
    (hk : ∀ (s : Fin 64) (x : Fin 128), k (ix2 s x) = K (128 * P + x.val) n s)
    (hv : ∀ (s : Fin 64) (y : Fin 256), v (ix2 s y) = V (256 * P + y.val) n s) (r : Fin 64) (y : Fin 256) (h : ℕ) (e : Fin 128)
    (hy : 128 * h + e.val = 256 * P + y.val) :
    k0_pay8 (F := Ideal) (k0_pay19 k0_pay1 k0_pay2 k0_pay3 T l q k v) w g (ix2 r y) =
      gated (headAt Q K L V h n r) (w (ix2 0 y)) (g (ix2 r y)) e := by
  by_cases hlt : y.val < 128
  · obtain rfl : h = 2 * P := by omega
    have he : e.val < 256 := by omega
    obtain rfl : y = ⟨e.val, he⟩ := Fin.ext (by show y.val = e.val; omega)
    rw [gate0_at]
    refine congrArg (fun o => gated o _ _ e) (funext fun e => ?_)
    rw [out0_at T _ hT]
    simp only [hl, hq, hk, hv, headAt, pairState,
      show ∀ d : Fin 64, 128 * P + d.val = 64 * (2 * P) + d.val from fun d => by omega,
      show ∀ d : Fin 64, 256 * P + (128 * (d.val / 64) + e.val) = 128 * (2 * P) + e.val from fun d => by omega,
      show 256 * P + e.val = 128 * (2 * P) + e.val by omega]
  · obtain rfl : h = 2 * P + 1 := by omega
    have he : 128 + e.val < 256 := by omega
    obtain rfl : y = ⟨128 + e.val, he⟩ := Fin.ext (by show y.val = 128 + e.val; omega)
    rw [gate1_at]
    refine congrArg (fun o => gated o _ _ e) (funext fun e => ?_)
    rw [out1_at T _ hT]
    simp only [hl, hq, hk, hv, headAt, pairState,
      show ∀ d : Fin 64, 128 * P + (64 + d.val) = 64 * (2 * P + 1) + d.val from fun d => by omega,
      show ∀ d : Fin 64, 256 * P + (128 * ((64 + d.val) / 64) + e.val) = 128 * (2 * P + 1) + e.val from fun d => by omega,
      show 256 * P + (128 + e.val) = 128 * (2 * P + 1) + e.val by omega]

/-- The columns of one sequence's block. -/
def blockCols {w : ℕ} [NeZero w] (X : (⟨2, ![2048, w]⟩ : Shape).Idx → EReal) : Cols :=
  fun x n s => X (ix2 ⟨(64 * n + s.val) % 2048, Nat.mod_lt _ (by decide)⟩ ⟨x % w, Nat.mod_lt _ (Nat.pos_of_ne_zero (NeZero.ne w))⟩)

/-- A rectangle read out of a block at a cell. -/
theorem load_at {e : EltTy} {N M n w o p : ℕ} (a : Memref sig .tc .vmem (⟨2, ![N, M]⟩ : Shape) e) (ha : a.IsWhole)
    (X : Vec Ideal (⟨2, ![N, M]⟩ : Shape) e) {off : Fin 2 → ℕ}
    (inb : ∀ k : Fin 2, off k + (![n, w] : Fin 2 → ℕ) k ≤ (![N, M] : Fin 2 → ℕ) k) (ho : off = ![o, p])
    (r : Fin n) (x : Fin w) (R : Fin N) (J : Fin M) (hR : R.val = o + r.val) (hJ : J.val = p + x.val) :
    a.view.readAt (Elt Ideal) (Rect.unit (s := ⟨2, ![N, M]⟩) off ![n, w] inb).toLoadRect (ha.unread X) (ix2 r x) =
      X (ix2 R J) := by
  subst ho
  refine Eq.trans ?_ (congrFun (ha.read_unread X) (ix2 R J))
  show a.view.read (Elt Ideal) (ha.unread X) _ = _
  congr 1
  funext b
  refine Fin.ext ?_
  fin_cases b
  · show o + 1 * r.val = R.val
    omega
  · show p + 1 * x.val = J.val
    omega

/-- The loop makes 32 trips. -/
theorem trips_eq : k0_t1_loop.trips = 32 := by decide

/-- The first row of a trip's chunk, as the kernel computes it. -/
theorem word_eq : ∀ k : Fin 32, (Scalar.indexCast (Scalar.muli (Scf.iv 0#32 1#32 k.val) 64#32) : Index).toNat = 64 * k.val := by decide

variable (k : Fin k0_t1_loop.trips)

/-- A trip's number is below 32. -/
theorem trip_lt : k.val < 32 := lt_of_lt_of_eq k.isLt trips_eq
/-- Where the first pair's key columns of a chunk lie. -/
theorem off1_eq : k0_off1 k = ![64 * k.val, 0] := congrArg (fun n : ℕ => (![n, 0] : Fin 2 → ℕ)) (word_eq ⟨k.val, trip_lt k⟩)
/-- Where the first pair's value columns of a chunk lie. -/
theorem off2_eq : k0_off2 k = ![64 * k.val, 0] := congrArg (fun n : ℕ => (![n, 0] : Fin 2 → ℕ)) (word_eq ⟨k.val, trip_lt k⟩)
/-- Where the second pair's key columns of a chunk lie. -/
theorem off3_eq : k0_off3 k = ![64 * k.val, 128] := congrArg (fun n : ℕ => (![n, 128] : Fin 2 → ℕ)) (word_eq ⟨k.val, trip_lt k⟩)
/-- Where the second pair's value columns of a chunk lie. -/
theorem off4_eq : k0_off4 k = ![64 * k.val, 256] := congrArg (fun n : ℕ => (![n, 256] : Fin 2 → ℕ)) (word_eq ⟨k.val, trip_lt k⟩)

section
variable (a : Memref sig .tc .vmem S2048x256 .f32) (ha : a.IsWhole) (X : Vec Ideal S2048x256 .f32)
  (b : Memref sig .tc .vmem S2048x512 .bf16) (hb : b.IsWhole) (Y : Vec Ideal S2048x512 .bf16)
  (d : Memref sig .tc .vmem S2048x512 .f32) (hd : d.IsWhole) (Z : Vec Ideal S2048x512 .f32)
  (f : Memref sig .tc .vmem S1x512 .f32) (hf : f.IsWhole) (W : Vec Ideal S1x512 .f32)

/-- The first pair's key columns of a chunk. -/
def key0 : Vec Ideal S64x128 .f32 := View.readAt (Elt Ideal) a.view (Rect.unit (s := S2048x256) (k0_off1 k) S64x128.size (k0_off1_inb k)).toLoadRect (ha.unread X)
/-- The second pair's key columns of a chunk. -/
def key1 : Vec Ideal S64x128 .f32 := View.readAt (Elt Ideal) a.view (Rect.unit (s := S2048x256) (k0_off3 k) S64x128.size (k0_off3_inb k)).toLoadRect (ha.unread X)
/-- The first pair's value columns of a chunk. -/
def val0 : Vec Ideal S64x256 .bf16 := View.readAt (Elt Ideal) b.view (Rect.unit (s := S2048x512) (k0_off2 k) S64x256.size (k0_off2_inb k)).toLoadRect (hb.unread Y)
/-- The second pair's value columns of a chunk. -/
def val1 : Vec Ideal S64x256 .bf16 := View.readAt (Elt Ideal) b.view (Rect.unit (s := S2048x512) (k0_off4 k) S64x256.size (k0_off4_inb k)).toLoadRect (hb.unread Y)
/-- The first pair's gate columns of a chunk. -/
def gat0 : Vec Ideal S64x256 .f32 := View.readAt (Elt Ideal) d.view (Rect.unit (s := S2048x512) (k0_off2 k) S64x256.size (k0_off2_inb k)).toLoadRect (hd.unread Z)
/-- The second pair's gate columns of a chunk. -/
def gat1 : Vec Ideal S64x256 .f32 := View.readAt (Elt Ideal) d.view (Rect.unit (s := S2048x512) (k0_off4 k) S64x256.size (k0_off4_inb k)).toLoadRect (hd.unread Z)
/-- The first pair's gains. -/
def gain0 : Vec Ideal S1x256 .f32 := View.readAt (Elt Ideal) f.view (Rect.unit (s := S1x512) ![0, 0] S1x256.size inb_S1x512_S1x256_0_0).toLoadRect (hf.unread W)
/-- The second pair's gains. -/
def gain1 : Vec Ideal S1x256 .f32 := View.readAt (Elt Ideal) f.view (Rect.unit (s := S1x512) ![0, 256] S1x256.size inb_S1x512_S1x256_0_256).toLoadRect (hf.unread W)

/-- The first pair's key columns at a cell. -/
theorem key0_at (s : Fin 64) (x : Fin 128) : key0 k a ha X (ix2 s x) = blockCols X (128 * 0 + x.val) k.val s :=
  load_at a ha X _ (off1_eq k) s x _ _ (by have := trip_lt k; simp only; omega) (by simp only; omega)
/-- The second pair's key columns at a cell. -/
theorem key1_at (s : Fin 64) (x : Fin 128) : key1 k a ha X (ix2 s x) = blockCols X (128 * 1 + x.val) k.val s :=
  load_at a ha X _ (off3_eq k) s x _ _ (by have := trip_lt k; simp only; omega) (by simp only; omega)
/-- The first pair's value columns at a cell. -/
theorem val0_at (s : Fin 64) (y : Fin 256) : val0 k b hb Y (ix2 s y) = blockCols Y (256 * 0 + y.val) k.val s :=
  load_at b hb Y _ (off2_eq k) s y _ _ (by have := trip_lt k; simp only; omega) (by simp only; omega)
/-- The second pair's value columns at a cell. -/
theorem val1_at (s : Fin 64) (y : Fin 256) : val1 k b hb Y (ix2 s y) = blockCols Y (256 * 1 + y.val) k.val s :=
  load_at b hb Y _ (off4_eq k) s y _ _ (by have := trip_lt k; simp only; omega) (by simp only; omega)
/-- The first pair's gate columns at a cell. -/
theorem gat0_at (s : Fin 64) (y : Fin 256) (R : Fin 2048) (J : Fin 512) (hR : R.val = 64 * k.val + s.val) (hJ : J.val = y.val) :
    gat0 k d hd Z (ix2 s y) = Z (ix2 R J) :=
  load_at d hd Z _ (off2_eq k) s y R J hR (by omega)
/-- The second pair's gate columns at a cell. -/
theorem gat1_at (s : Fin 64) (y : Fin 256) (R : Fin 2048) (J : Fin 512) (hR : R.val = 64 * k.val + s.val) (hJ : J.val = 256 + y.val) :
    gat1 k d hd Z (ix2 s y) = Z (ix2 R J) :=
  load_at d hd Z _ (off4_eq k) s y R J hR (by omega)
/-- The first pair's gains at a column. -/
theorem gain0_at (y : Fin 256) (J : Fin 512) (hJ : J.val = y.val) : gain0 f hf W (ix2 0 y) = W (ix2 0 J) :=
  load_at f hf W _ rfl 0 y 0 J rfl (by omega)
/-- The second pair's gains at a column. -/
theorem gain1_at (y : Fin 256) (J : Fin 512) (hJ : J.val = 256 + y.val) : gain1 f hf W (ix2 0 y) = W (ix2 0 J) :=
  load_at f hf W _ rfl 0 y 0 J rfl (by omega)
end

variable (𝒱 : Variants) (c : Dev nD) (bd : Option 𝒱.V) (i : grid0.Coords)
  (arg1 : Memref sig .tc .vmem S2048x256 .f32) (harg1 : arg1.IsWhole) (arg2 : Memref sig .tc .vmem S2048x256 .f32) (harg2 : arg2.IsWhole)
  (arg3 : Memref sig .tc .vmem S2048x256 .f32) (harg3 : arg3.IsWhole) (arg4 : Memref sig .tc .vmem S2048x512 .bf16) (harg4 : arg4.IsWhole)
  (arg5 : Memref sig .tc .vmem S2048x512 .f32) (harg5 : arg5.IsWhole) (arg6 : Memref sig .tc .vmem S1x512 .f32) (harg6 : arg6.IsWhole)
  (arg7 : Memref sig .tc .vmem S2048x512 .bf16) (harg7 : arg7.IsWhole)
  (x0 : Vec Ideal S2048x256 .f32) (x1 : Vec Ideal S2048x256 .f32) (x2 : Vec Ideal S2048x256 .f32)
  (x3 : Vec Ideal S2048x512 .bf16) (x4 : Vec Ideal S2048x512 .f32) (x5 : Vec Ideal S1x512 .f32)

/-- What a trip hands on: the two pairs' next states. -/
theorem tripR_eq (acc : FVec Ideal S256x128 .f32 × FVec Ideal S256x128 .f32) :
    tripR_k0_t1 𝒱 c bd i arg1 harg1 arg2 harg2 arg3 harg3 arg4 harg4 arg5 harg5 arg6 harg6 arg7 harg7 (harg1.unread x0) (harg2.unread x1) (harg3.unread x2) (harg4.unread x3) (harg5.unread x4) (harg6.unread x5) k acc =
      (k0_pay15 (F := Ideal) k0_pay4 acc.1 (k0_pay10 k0_pay2 (key0 k arg3 harg3 x2)) (k0_pay11 k0_pay2 (key0 k arg3 harg3 x2) (key0 k arg2 harg2 x1)) (val0 k arg4 harg4 x3),
        k0_pay15 (F := Ideal) k0_pay4 acc.2 (k0_pay10 k0_pay2 (key1 k arg3 harg3 x2)) (k0_pay11 k0_pay2 (key1 k arg3 harg3 x2) (key1 k arg2 harg2 x1)) (val1 k arg4 harg4 x3)) := by
  unfold tripR_k0_t1 trip_k0_t1
  rfl

/-- What a trip stores: the two pairs' gated outputs. -/
theorem tripL_eq (acc : FVec Ideal S256x128 .f32 × FVec Ideal S256x128 .f32) :
    tripL_k0_t1 𝒱 c bd i arg1 harg1 arg2 harg2 arg3 harg3 arg4 harg4 arg5 harg5 arg6 harg6 arg7 harg7 (harg1.unread x0) (harg2.unread x1) (harg3.unread x2) (harg4.unread x3) (harg5.unread x4) (harg6.unread x5) k acc =
      [⟨Rect.unit (s := S2048x512) (k0_off4 k) S64x256.size (k0_off4_inb k), k0_pay8 (F := Ideal) (k0_pay19 k0_pay1 k0_pay2 k0_pay3 acc.2
          (key1 k arg3 harg3 x2) (key1 k arg1 harg1 x0) (key1 k arg2 harg2 x1) (val1 k arg4 harg4 x3)) (gain1 arg6 harg6 x5) (gat1 k arg5 harg5 x4)⟩,
        ⟨Rect.unit (s := S2048x512) (k0_off2 k) S64x256.size (k0_off2_inb k), k0_pay8 (F := Ideal) (k0_pay19 k0_pay1 k0_pay2 k0_pay3 acc.1
          (key0 k arg3 harg3 x2) (key0 k arg1 harg1 x0) (key0 k arg2 harg2 x1) (val0 k arg4 harg4 x3)) (gain0 arg6 harg6 x5) (gat0 k arg5 harg5 x4)⟩] := by
  unfold tripL_k0_t1 trip_k0_t1
  rfl

/-- The output block's cell at row `R` and column `J`, from the input blocks. -/
def blockOut (R : Fin 2048) (J : Fin 512) : EReal :=
  gated (headAt (blockCols x0) (blockCols x1) (blockCols x2) (blockCols x3) (J.val / 128) (R.val / 64) ⟨R.val % 64, Nat.mod_lt _ (by decide)⟩)
    (x5 (ix2 0 J)) (x4 (ix2 R J)) ⟨J.val % 128, Nat.mod_lt _ (by decide)⟩

/-- The pieces that the trips before trip `n` have stored. -/
abbrev stored (n : ℕ) := (st_k0_t1 𝒱 c bd i arg1 harg1 arg2 harg2 arg3 harg3 arg4 harg4 arg5 harg5 arg6 harg6 arg7 harg7 (harg1.unread x0) (harg2.unread x1) (harg3.unread x2) (harg4.unread x3) (harg5.unread x4) (harg6.unread x5) (k0_pay5 (F := Ideal), k0_pay6 (F := Ideal)) n)

/-- Before trip `n` the two carried matrices hold the states, and the rows of the chunks before are stored. -/
theorem loop_at (W : View sig .tc .vmem S2048x512 .bf16) (f : W.ty.Contents (Elt Ideal)) : ∀ n : ℕ, n ≤ 32 →
    Holds (stored 𝒱 c bd i arg1 harg1 arg2 harg2 arg3 harg3 arg4 harg4 arg5 harg5 arg6 harg6 arg7 harg7 x0 x1 x2 x3 x4 x5 n).1.1
      (pairState (blockCols x1) (blockCols x2) (blockCols x3) 0 n) ∧
    Holds (stored 𝒱 c bd i arg1 harg1 arg2 harg2 arg3 harg3 arg4 harg4 arg5 harg5 arg6 harg6 arg7 harg7 x0 x1 x2 x3 x4 x5 n).1.2
      (pairState (blockCols x1) (blockCols x2) (blockCols x3) 1 n) ∧
    ∀ (R : Fin 2048) (J : Fin 512), R.val < 64 * n →
      W.read (Elt Ideal) (W.writes (Elt Ideal) f (stored 𝒱 c bd i arg1 harg1 arg2 harg2 arg3 harg3 arg4 harg4 arg5 harg5 arg6 harg6 arg7 harg7 x0 x1 x2 x3 x4 x5 n).2) (ix2 R J)
        = blockOut x0 x1 x2 x3 x4 x5 R J := by
  intro n
  induction n with
  | zero => exact fun _ => ⟨holds_zero, holds_zero, fun R J h => absurd h (Nat.not_lt_zero _)⟩
  | succ n ih =>
    intro hn
    obtain ⟨h0, h1, h2⟩ := ih (by omega)
    have hlt : n < k0_t1_loop.trips := by rw [trips_eq]; omega
    have e := st_k0_t1_succ 𝒱 c bd i arg1 harg1 arg2 harg2 arg3 harg3 arg4 harg4 arg5 harg5 arg6 harg6 arg7 harg7 (harg1.unread x0) (harg2.unread x1) (harg3.unread x2) (harg4.unread x3) (harg5.unread x4) (harg6.unread x5) (k0_pay5 (F := Ideal), k0_pay6 (F := Ideal)) ⟨n, hlt⟩
    rw [tripR_eq, tripL_eq] at e
    unfold stored
    rw [show n + 1 = (⟨n, hlt⟩ : Fin k0_t1_loop.trips).val + 1 from rfl, e]
    refine ⟨holds_step _ _ _ 0 n _ h0 _ _ _ (key0_at _ _ _ _) (key0_at _ _ _ _) (val0_at _ _ _ _),
      holds_step _ _ _ 1 n _ h1 _ _ _ (key1_at _ _ _ _) (key1_at _ _ _ _) (val1_at _ _ _ _), fun R J hR => ?_⟩
    have hR' : R.val < 64 * (n + 1) := hR
    by_cases hold : R.val < 64 * n
    · refine (View.read_writes_cons_unit_of_not_mem W f _ _ _ (ix2 R J) (off4_eq ⟨n, hlt⟩) 0 (Or.inl hold)).trans ?_
      refine (View.read_writes_cons_unit_of_not_mem W f _ _ _ (ix2 R J) (off2_eq ⟨n, hlt⟩) 0 (Or.inl hold)).trans ?_
      exact h2 R J hold
    · have eR : R.val / 64 = n := by omega
      by_cases hJ : J.val < 256
      · refine (View.read_writes_cons_unit_of_not_mem W f _ _ _ (ix2 R J) (off4_eq ⟨n, hlt⟩) 1 (Or.inl hJ)).trans ?_
        refine (View.read_writes_cons_unit_of_mem W f _ _ _ (ix2 R J) (ix2 ⟨R.val % 64, Nat.mod_lt _ (by decide)⟩ ⟨J.val, hJ⟩) (off2_eq ⟨n, hlt⟩)
          (Fin.forall_fin_two.mpr ⟨show R.val = 64 * n + R.val % 64 by omega, show J.val = 0 + J.val by omega⟩)).trans ?_
        refine (store_at (blockCols x0) _ _ _ 0 n _ h0 _ _ _ _ _ _ (key0_at _ _ _ _) (key0_at _ _ _ _) (key0_at _ _ _ _) (val0_at _ _ _ _) _ _ (J.val / 128)
          ⟨J.val % 128, Nat.mod_lt _ (by decide)⟩ (show 128 * (J.val / 128) + J.val % 128 = 256 * 0 + J.val by omega)).trans ?_
        rw [gain0_at _ _ _ _ J rfl, gat0_at _ _ _ _ _ _ R J (show R.val = 64 * n + R.val % 64 by omega) rfl, blockOut, eR]
      · refine (View.read_writes_cons_unit_of_mem W f _ _ _ (ix2 R J) (ix2 ⟨R.val % 64, Nat.mod_lt _ (by decide)⟩ ⟨J.val - 256, by omega⟩) (off4_eq ⟨n, hlt⟩)
          (Fin.forall_fin_two.mpr ⟨show R.val = 64 * n + R.val % 64 by omega, show J.val = 256 + (J.val - 256) by omega⟩)).trans ?_
        refine (store_at (blockCols x0) _ _ _ 1 n _ h1 _ _ _ _ _ _ (key1_at _ _ _ _) (key1_at _ _ _ _) (key1_at _ _ _ _) (val1_at _ _ _ _) _ _ (J.val / 128)
          ⟨J.val % 128, Nat.mod_lt _ (by decide)⟩ (show 128 * (J.val / 128) + J.val % 128 = 256 * 1 + (J.val - 256) by omega)).trans ?_
        rw [gain1_at _ _ _ _ J (show J.val = 256 + (J.val - 256) by omega),
          gat1_at _ _ _ _ _ _ R J (show R.val = 64 * n + R.val % 64 by omega) (show J.val = 256 + (J.val - 256) by omega), blockOut, eR]

/-- The output block of one sequence at a cell. -/
theorem block_at (W : View sig .tc .vmem S2048x512 .bf16) (R : Fin 2048) (J : Fin 512) :
    W.read (Elt Ideal) (W.writes (Elt Ideal) W.junk (kernelRun0_A (F := Ideal) c i arg1 harg1 arg2 harg2 arg3 harg3 arg4 harg4 arg5 harg5 arg6 harg6 arg7 harg7
      x0 x1 x2 x3 x4 x5).1) (ix2 R J) = blockOut x0 x1 x2 x3 x4 x5 R J := by
  unfold kernelRun0_A
  dsimp only
  have h : Scf.trips (0#32) (Scalar.addi 0#32 32#32) 1#32 = 32 := trips_eq
  rw [h]
  exact (loop_at Variants.none c none i arg1 harg1 arg2 harg2 arg3 harg3 arg4 harg4 arg5 harg5 arg6 harg6 arg7 harg7 x0 x1 x2 x3 x4 x5 W W.junk 32 le_rfl).2.2
    R J (by omega)

/-- The columns of sequence `b` of an array. -/
def arrCols {w : ℕ} [NeZero w] (A : (⟨2, ![32768, w]⟩ : Shape).Idx → EReal) (b : ℕ) : Cols :=
  fun x n s => A (ix2 ⟨(2048 * b + (64 * n + s.val) % 2048) % 32768, Nat.mod_lt _ (by decide)⟩ ⟨x % w, Nat.mod_lt _ (Nat.pos_of_ne_zero (NeZero.ne w))⟩)

/-- The result's entry at row `R` and column `J`, over the arguments. -/
def arrOut (A0 A1 A2 : FVec Ideal S32768x256 .f32) (A3 : FVec Ideal S32768x512 .bf16) (A4 : FVec Ideal S32768x512 .f32) (A5 : FVec Ideal S512 .f32)
    (R : Fin 32768) (J : Fin 512) : EReal :=
  gated (headAt (arrCols A0 (R.val / 2048)) (arrCols A1 (R.val / 2048)) (arrCols A2 (R.val / 2048)) (arrCols A3 (R.val / 2048)) (J.val / 128)
    (R.val % 2048 / 64) ⟨R.val % 64, Nat.mod_lt _ (by decide)⟩) (A5 (ix1 J)) (A4 (ix2 R J)) ⟨J.val % 128, Nat.mod_lt _ (by decide)⟩

end Cert.Decay
end
-- ==== Proof.GlaKernel.lean ====
/-
  The array that the gated attention's kernel leaves, over its arguments.

  A grid point is one sequence of 2048 rows, so its blocks are the sequence's rows of the arguments.
-/
module

public import proofs.«01_k».proof.Proof.Gen.GlaIdeal.Value
public import proofs.«01_k».proof.Proof.GlaLoop
public import Idealize.ShloMosaic.Lib.Pipeline.ValueKit
public import Idealize.ShloMosaic.Lib.Claim

@[expose] public section

set_option maxRecDepth 16384

noncomputable section

namespace Cert.Decay
open Cert.GlaIdeal Cert.GlaIdeal.Gen
open Idealize.ShloMosaic Idealize.ShloMosaic.TcCoe Idealize.SL.Sem
open Idealize.ShloMosaic.Pipeline (Dat)

variable (m : (ℓ : Loc nD τ sig) → Buf (Elt Ideal) ℓ)

/-- The block indices of the windows at each point: all windows move with the point, the gains stay. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] ∧ win0_6.index t = ![t.val, 0] ∧ t.val < 16 :=
  (by decide +kernel : ∀ t : Fin grid0.N, _)

/-- The queries' block at a point is the sequence's rows. -/
theorem b0 (c : Dev nD) (t : Fin cfg0.N) (r : Fin 2048) (k : Fin 256) (R : Fin 32768) (hR : R.val = 2048 * t.val + r.val) :
    iblk m c 0 t (ix2 r k) = (m ((c : Thread nD τ).loc main_arg0) : FVec Ideal S32768x256 .f32) (ix2 R k) := by
  blk_ext [iblk, V, idx t, hR]

/-- The keys' block at a point is the sequence's rows. -/
theorem b1 (c : Dev nD) (t : Fin cfg0.N) (r : Fin 2048) (k : Fin 256) (R : Fin 32768) (hR : R.val = 2048 * t.val + r.val) :
    iblk m c 1 t (ix2 r k) = (m ((c : Thread nD τ).loc main_arg1) : FVec Ideal S32768x256 .f32) (ix2 R k) := by
  blk_ext [iblk, V, idx t, hR]

/-- The log decays' block at a point is the sequence's rows. -/
theorem b2 (c : Dev nD) (t : Fin cfg0.N) (r : Fin 2048) (k : Fin 256) (R : Fin 32768) (hR : R.val = 2048 * t.val + r.val) :
    iblk m c 2 t (ix2 r k) = (m ((c : Thread nD τ).loc main_arg2) : FVec Ideal S32768x256 .f32) (ix2 R k) := by
  blk_ext [iblk, V, idx t, hR]

/-- The values' block at a point is the sequence's rows. -/
theorem b3 (c : Dev nD) (t : Fin cfg0.N) (r : Fin 2048) (k : Fin 512) (R : Fin 32768) (hR : R.val = 2048 * t.val + r.val) :
    iblk m c 3 t (ix2 r k) = (m ((c : Thread nD τ).loc main_arg3) : FVec Ideal S32768x512 .bf16) (ix2 R k) := by
  blk_ext [iblk, V, idx t, hR]

/-- The gates' block at a point is the sequence's rows. -/
theorem b4 (c : Dev nD) (t : Fin cfg0.N) (r : Fin 2048) (k : Fin 512) (R : Fin 32768) (hR : R.val = 2048 * t.val + r.val) :
    iblk m c 4 t (ix2 r k) = (m ((c : Thread nD τ).loc main_arg4) : FVec Ideal S32768x512 .f32) (ix2 R k) := by
  blk_ext [iblk, V, idx t, hR]

/-- The gains' block at a point is all gains. -/
theorem b5 (c : Dev nD) (t : Fin cfg0.N) (k : Fin 512) :
    iblk m c 5 t (ix2 0 k) = (m ((c : Thread nD τ).loc main_arg5) : FVec Ideal S512 .f32) (ix1 k) := by
  blk_simp [iblk]
  entry_read
  pointwise
  blk_ext [idx t]

/-- The columns of a block that holds a sequence's rows are the sequence's columns. -/
theorem cols_eq {w : ℕ} [NeZero w] (X : (⟨2, ![2048, w]⟩ : Shape).Idx → EReal) (A : (⟨2, ![32768, w]⟩ : Shape).Idx → EReal) (b : ℕ) (hb : b < 16)
    (h : ∀ (r : Fin 2048) (k : Fin w) (R : Fin 32768), R.val = 2048 * b + r.val → X (ix2 r k) = A (ix2 R k)) : blockCols X = arrCols A b := by
  funext x n s
  exact h _ _ _ (by simp only; omega)

/-- A point's output block against the arguments. -/
theorem point (c : Dev nD) (t : Fin cfg0.N) (r : Fin 2048) (J : Fin 512) (R : Fin 32768) (hR : R.val = 2048 * t.val + r.val) :
    (dats m 0 c).after 6 t (ix2 r J) = arrOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) R J := by
  have ht : t.val < 16 := (idx t).2.2.2.2.2.2.2
  rw [after0_6]
  unfold outsAt0 out0_A_6
  refine (block_at c (grid0.coords t) _ _ _ _ _ _ _ _ _ _ _ _ _ _ (iblk m c 0 t) (iblk m c 1 t) (iblk m c 2 t) (iblk m c 3 t) (iblk m c 4 t) (iblk m c 5 t)
    VO0_6 r J).trans ?_
  unfold blockOut arrOut
  rw [cols_eq (iblk m c 0 t) (m ((c : Thread nD τ).loc main_arg0)) t.val ht (b0 m c t), cols_eq (iblk m c 1 t) (m ((c : Thread nD τ).loc main_arg1)) t.val ht (b1 m c t),
    cols_eq (iblk m c 2 t) (m ((c : Thread nD τ).loc main_arg2)) t.val ht (b2 m c t), cols_eq (iblk m c 3 t) (m ((c : Thread nD τ).loc main_arg3)) t.val ht (b3 m c t),
    b4 m c t r J R hR, b5 m c t J]
  have e1 : R.val / 2048 = t.val := by omega
  have e2 : R.val % 2048 / 64 = r.val / 64 := by omega
  have e3 : (⟨R.val % 64, Nat.mod_lt _ (by decide)⟩ : Fin 64) = ⟨r.val % 64, Nat.mod_lt _ (by decide)⟩ := Fin.ext (by simp only; omega)
  rw [e1, e2, e3]

/-- The result array after the run, over the arguments. -/
theorem final (c : Dev nD) : (dats m 0 c).arrAt 6 cfg0.N
    = fun i : S32768x512.Idx => arrOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (i 0) (i 1) := by
  refine (dats m 0 c).arrAt_eq_of_covers 6 _ (by decide +kernel) fun t _ y => ?_
  blk_simp
  idx_vars y
  refine (point m c t y0 y1 ((((cfg0.win 6).blk t).view.emb (ix2 y0 y1)) 0) ?_).trans ?_
  · blk_simp [idx t]
    omega
  · have e : y1 = ((((cfg0.win 6).blk t).view.emb (ix2 y0 y1)) 1 : Fin 512) := Fin.ext (by blk_simp [idx t])
    exact congrArg _ e

end Cert.Decay
end
-- ==== Proof.GlaReference.lean ====
/-
  The gated attention's reference, read at an index.

  The reference scans over the chunks with all sequences and heads side by side. A trip slices the
  chunk out of the four stacked arrays, adds up its log decays, puts the chunk's output at its place
  and hands on the next state.
-/
module

public import proofs.«01_k».proof.Proof.Gen.GlaRefIdeal.Run
public import proofs.«01_k».proof.Proof.GlaLoop
public import Idealize.ShloMosaic.Lib.WordCmp
public import Idealize.ShloMosaic.Lib.Pipeline.Value

@[expose] public section

set_option maxRecDepth 16384

noncomputable section

namespace Cert.Decay.Ref
open Cert.GlaRefIdeal Cert.GlaRefIdeal.Gen Cert.GlaRefIdeal.Value Idealize.ShloMosaic Idealize.ShloMosaic.TcCoe Idealize.SL.Sem

/-- The contents of all buffers. -/
abbrev Contents := Valuation τ sig (Elt Ideal)

/-- Where a trip's chunk starts in a stacked array. -/
def starts (n : IVec S_ 32) : Fin 5 → ℤ :=
  fun k => (((![n, constantI S_ 32 0#32, constantI S_ 32 0#32, constantI S_ 32 0#32, constantI S_ 32 0#32] : Fin 5 → (⟨S_, .i32⟩ : BufTy).Contents (Elt Ideal))) k (Shape.Idx.first h_S_)).toInt

/-- A chunk of the queries, the keys or the log decays. -/
def keyChunk (X : FVec Ideal S32x16x4x64x64 .f32) (n : IVec S_ 32) : FVec Ideal S16x4x64x64 .f32 :=
  shapeCast S16x4x64x64 (Host.dynamicSlice S1x16x4x64x64 X (starts n) sliceFits_S32x16x4x64x64_S1x16x4x64x64) shapeCasts_S1x16x4x64x64_S16x4x64x64

/-- A chunk of the values. -/
def valChunk (X : FVec Ideal S32x16x4x64x128 .f32) (n : IVec S_ 32) : FVec Ideal S16x4x64x128 .f32 :=
  shapeCast S16x4x64x128 (Host.dynamicSlice S1x16x4x64x128 X (starts n) sliceFits_S32x16x4x64x128_S1x16x4x64x128) shapeCasts_S1x16x4x64x128_S16x4x64x128

/-- The log decays added up along a chunk. -/
def sums (l : FVec Ideal S16x4x64x64 .f32) : FVec Ideal S16x4x64x64 .f32 :=
  Host.reduceWindowAdd ![1, 1, 64, 1] ![1, 1, 1, 1] ![0, 0, 63, 0] ![0, 0, 0, 0] l (broadcastInDim S_ ![] bcast_S_S_ (constant S_ .f32 0x00000000#32)) reduceWindows_S16x4x64x64_S16x4x64x64_w1s1p0_0_w1s1p0_0_w64s1p63_0_w1s1p0_0 h_S_

/-- The scaled queries with their decays, the sums `C` given. -/
def queries (q C : FVec Ideal S16x4x64x64 .f32) : FVec Ideal S16x4x64x64 .f32 :=
  mulf (mulf q (broadcastInDim S16x4x64x64 ![] bcast_S_S16x4x64x64 (constant S_ .f32 0x3E000000#32))) (Host.exp C)

/-- The sums at the chunk's last row. -/
def lastSum (C : FVec Ideal S16x4x64x64 .f32) : FVec Ideal S16x4x1x64 .f32 :=
  extractStridedSlice S16x4x1x64 ![0, 0, 63, 0] C slices_S16x4x64x64_S16x4x1x64_0_0_63_0

/-- The next state. -/
def nextState (C k : FVec Ideal S16x4x64x64 .f32) (v S : FVec Ideal S16x4x64x128 .f32) : FVec Ideal S16x4x64x128 .f32 :=
  addf (mulf (broadcastInDim S16x4x64x128 ![0, 1, 2, 3] bcast_S16x4x64x1_S16x4x64x128_0_1_2_3 (broadcastInDim S16x4x64x1 ![0, 1, 2] bcast_S16x4x64_S16x4x64x1_0_1_2 (Host.exp (shapeCast S16x4x64 (lastSum C) shapeCasts_S16x4x1x64_S16x4x64)))) S) (Host.dotGeneral dot_S16x4x64x64_S16x4x64x128_S16x4x64x128_2_2_3_3_01_01 none (mulf k (Host.exp (subf (broadcastInDim S16x4x64x64 ![0, 1, 2, 3] bcast_S16x4x1x64_S16x4x64x64_0_1_2_3 (lastSum C)) C))) v)

/-- The causal scores of a chunk. -/
def scores (C q k : FVec Ideal S16x4x64x64 .f32) : FVec Ideal S16x4x64x64 .f32 :=
  select (broadcastInDim S16x4x64x64 ![2, 3] bcast_S64x64_S16x4x64x64_2_3 (select (cmpi .sge (addi (iotaInDim S64x64 32 0) (broadcastInDim S64x64 ![] bcast_S_S64x64 (constantI S_ 32 0#32))) (iotaInDim S64x64 32 1)) (broadcastInDim S64x64 ![] bcast_S_S64x64 (constantI S_ 1 1#1)) (broadcastInDim S64x64 ![] bcast_S_S64x64 (constantI S_ 1 0#1)))) (Host.dotGeneral dot_S16x4x64x64_S16x4x64x64_S16x4x64x64_3_3_2_2_01_01 none (queries q C) (mulf k (Host.exp (Host.negf C)))) (broadcastInDim S16x4x64x64 ![] bcast_S_S16x4x64x64 (id (constant S_ .f32 0x00000000#32)))

/-- The chunk's output. -/
def chunkOut (C q k : FVec Ideal S16x4x64x64 .f32) (v S : FVec Ideal S16x4x64x128 .f32) : FVec Ideal S16x4x64x128 .f32 :=
  addf (Host.dotGeneral dot_S16x4x64x64_S16x4x64x128_S16x4x64x128_3_2_2_3_01_01 none (scores C q k) v) (Host.dotGeneral dot_S16x4x64x64_S16x4x64x128_S16x4x64x128_3_2_2_3_01_01 none (queries q C) S)

/-- The stacked outputs with a chunk's put at its place. -/
def put (O : FVec Ideal S32x16x4x64x128 .f32) (o : FVec Ideal S16x4x64x128 .f32) (n : IVec S_ 32) : FVec Ideal S32x16x4x64x128 .f32 :=
  Host.dynamicUpdateSlice O (broadcastInDim S1x16x4x64x128 ![1, 2, 3, 4] bcast_S16x4x64x128_S1x16x4x64x128_1_2_3_4 o) (starts n) updateFits_S32x16x4x64x128_S1x16x4x64x128

/-- What the scan carries, as arrays. -/
theorem state_eq (V0 : Contents) : step_main_v11_5 V0 = nextState (sums (keyChunk (V0 (Proc.devRef .tc main_v11_2)) (V0 (Proc.devRef .tc main_v11_4))))
    (keyChunk (V0 (Proc.devRef .tc main_v11_1)) (V0 (Proc.devRef .tc main_v11_4))) (valChunk (V0 (Proc.devRef .tc main_v11_3)) (V0 (Proc.devRef .tc main_v11_4)))
    (V0 (Proc.devRef .tc main_v11_5)) := rfl

/-- What the scan stacks, as arrays. -/
theorem outs_eq (V0 : Contents) : step_main_v11_6 V0 = put (V0 (Proc.devRef .tc main_v11_6)) (chunkOut
    (sums (keyChunk (V0 (Proc.devRef .tc main_v11_2)) (V0 (Proc.devRef .tc main_v11_4)))) (keyChunk (V0 (Proc.devRef .tc main_v11_0)) (V0 (Proc.devRef .tc main_v11_4)))
    (keyChunk (V0 (Proc.devRef .tc main_v11_1)) (V0 (Proc.devRef .tc main_v11_4))) (valChunk (V0 (Proc.devRef .tc main_v11_3)) (V0 (Proc.devRef .tc main_v11_4)))
    (V0 (Proc.devRef .tc main_v11_5))) (V0 (Proc.devRef .tc main_v11_4)) := by
  unfold step_main_v11_6 res_main_while0b_v38 res_main_while0b_v31 res_main_while0b_v33 res_main_while0b_v34 put chunkOut scores queries keyChunk valChunk sums starts
  rfl

/-- A chunk starts at its number. -/
theorem starts_eq (n : ℕ) (hn : n < 32) (w : IVec S_ 32) (hw : w = fun _ => BitVec.ofNat 32 n) (a : Fin 5) :
    starts w a = ((![n, 0, 0, 0, 0] : Fin 5 → ℕ) a : ℤ) := by
  subst hw
  fin_cases a
  · exact WordCmp.toInt_ofNat_of_lt (show n < 2 ^ 31 by omega)
  all_goals rfl

/-- A chunk of a stacked array at an index. -/
theorem keyChunk_at (X : FVec Ideal S32x16x4x64x64 .f32) (n : Fin 32) (w : IVec S_ 32) (hw : w = fun _ => BitVec.ofNat 32 n.val)
    (b : Fin 16) (h : Fin 4) (s d : Fin 64) : keyChunk X w (ix4 b h s d) = X (ix5 n b h s d) := by
  unfold keyChunk
  refine (shapeCast_apply _ _ _ (ix5 0 b h s d) ?_).trans ?_
  · rw [Shape.rowMajor_val_five, Shape.rowMajor_val_four]
    show (((0 * 16 + b.val) * 4 + h.val) * 64 + s.val) * 64 + d.val = ((b.val * 4 + h.val) * 64 + s.val) * 64 + d.val
    omega
  · have hs : S32x16x4x64x64.Slices (![n.val, 0, 0, 0, 0] : Fin 5 → ℕ) S1x16x4x64x64 := ⟨rfl, fun a => by
      fin_cases a
      exacts [n.isLt, (by decide : 0 + 16 ≤ 16), (by decide : 0 + 4 ≤ 4), (by decide : 0 + 64 ≤ 64), (by decide : 0 + 64 ≤ 64)]⟩
    rw [WordCmp.dynamicSlice_eq_extract _ _ _ _ (![n.val, 0, 0, 0, 0] : Fin 5 → ℕ) hs (starts_eq n.val n.isLt w hw)]
    refine extractStridedSlice_apply _ _ _ _ (ix5 n b h s d) fun a => ?_
    fin_cases a
    · rfl
    · show b.val = 0 + b.val
      omega
    · show h.val = 0 + h.val
      omega
    · show s.val = 0 + s.val
      omega
    · show d.val = 0 + d.val
      omega

/-- A chunk of the stacked values at an index. -/
theorem valChunk_at (X : FVec Ideal S32x16x4x64x128 .f32) (n : Fin 32) (w : IVec S_ 32) (hw : w = fun _ => BitVec.ofNat 32 n.val)
    (b : Fin 16) (h : Fin 4) (s : Fin 64) (e : Fin 128) : valChunk X w (ix4 b h s e) = X (ix5 n b h s e) := by
  unfold valChunk
  refine (shapeCast_apply _ _ _ (ix5 0 b h s e) ?_).trans ?_
  · rw [Shape.rowMajor_val_five, Shape.rowMajor_val_four]
    show (((0 * 16 + b.val) * 4 + h.val) * 64 + s.val) * 128 + e.val = ((b.val * 4 + h.val) * 64 + s.val) * 128 + e.val
    omega
  · have hs : S32x16x4x64x128.Slices (![n.val, 0, 0, 0, 0] : Fin 5 → ℕ) S1x16x4x64x128 := ⟨rfl, fun a => by
      fin_cases a
      exacts [n.isLt, (by decide : 0 + 16 ≤ 16), (by decide : 0 + 4 ≤ 4), (by decide : 0 + 64 ≤ 64), (by decide : 0 + 128 ≤ 128)]⟩
    rw [WordCmp.dynamicSlice_eq_extract _ _ _ _ (![n.val, 0, 0, 0, 0] : Fin 5 → ℕ) hs (starts_eq n.val n.isLt w hw)]
    refine extractStridedSlice_apply _ _ _ _ (ix5 n b h s e) fun a => ?_
    fin_cases a
    · rfl
    · show b.val = 0 + b.val
      omega
    · show h.val = 0 + h.val
      omega
    · show s.val = 0 + s.val
      omega
    · show e.val = 0 + e.val
      omega

/-- The stacked outputs at an index, after a chunk's were put at its place. -/
theorem put_at (O : FVec Ideal S32x16x4x64x128 .f32) (o : FVec Ideal S16x4x64x128 .f32) (n : Fin 32) (w : IVec S_ 32) (hw : w = fun _ => BitVec.ofNat 32 n.val)
    (i : Fin 32) (b : Fin 16) (h : Fin 4) (s : Fin 64) (e : Fin 128) :
    put O o w (ix5 i b h s e) = if i = n then o (ix4 b h s e) else O (ix5 i b h s e) := by
  have hs : S32x16x4x64x128.Slices (![n.val, 0, 0, 0, 0] : Fin 5 → ℕ) S1x16x4x64x128 := ⟨rfl, fun a => by
    fin_cases a
    exacts [n.isLt, (by decide : 0 + 16 ≤ 16), (by decide : 0 + 4 ≤ 4), (by decide : 0 + 64 ≤ 64), (by decide : 0 + 128 ≤ 128)]⟩
  unfold put
  rw [WordCmp.dynamicUpdateSlice_eq_update _ _ _ _ (![n.val, 0, 0, 0, 0] : Fin 5 → ℕ) hs (starts_eq n.val n.isLt w hw)]
  unfold updateSlice
  by_cases hi : i = n
  · subst hi
    rw [if_pos rfl]
    refine (dif_pos fun a => ?_).trans ?_
    · fin_cases a
      · exact ⟨le_rfl, Nat.lt_succ_self _⟩
      · exact ⟨Nat.zero_le _, by show b.val < 0 + 16; omega⟩
      · exact ⟨Nat.zero_le _, by show h.val < 0 + 4; omega⟩
      · exact ⟨Nat.zero_le _, by show s.val < 0 + 64; omega⟩
      · exact ⟨Nat.zero_le _, by show e.val < 0 + 128; omega⟩
    · refine broadcastInDim_apply _ _ _ _ (ix4 b h s e) fun a => ?_
      fin_cases a <;> rfl
  · rw [if_neg hi]
    refine dif_neg fun hin => hi (Fin.ext ?_)
    have h0 : n.val ≤ i.val ∧ i.val < n.val + 1 := hin 0
    omega

/-- The window's positions are the numbers below 64. -/
def positions : Fin 64 ≃ (⟨4, ![1, 1, 64, 1]⟩ : Shape).Idx where
  toFun w := ix4 0 0 w 0
  invFun i := i 2
  left_inv _ := rfl
  right_inv i := by
    funext a
    fin_cases a
    · exact Subsingleton.elim (α := Fin 1) _ _
    · exact Subsingleton.elim (α := Fin 1) _ _
    · rfl
    · exact Subsingleton.elim (α := Fin 1) _ _

/-- Adding up a list from the left. -/
theorem fold_sum {n : ℕ} (g : Fin n → EReal) (v : EReal) :
    (List.finRange n).foldl (fun r m => r + g m) v = v + ∑ m, g m := by
  rw [Fin.sum_univ_def]
  generalize List.finRange n = l
  induction l generalizing v with
  | nil => simp
  | cons a l ih => rw [List.foldl_cons, ih, List.map_cons, List.sum_cons, add_assoc]

/-- A window that ends at row `r` runs over the rows up to `r`. -/
theorem window_sum (g : Fin 64 → EReal) (r : Fin 64) :
    (∑ w : Fin 64, if 63 ≤ r.val + w.val then g ⟨(r.val + w.val - 63) % 64, Nat.mod_lt _ (by decide)⟩ else 0) = cum g r := by
  unfold cum
  rw [← Finset.sum_filter, ← Finset.sum_filter]
  refine Finset.sum_bij' (fun w _ => ⟨(r.val + w.val - 63) % 64, Nat.mod_lt _ (by decide)⟩) (fun s _ => ⟨(s.val + 63 - r.val) % 64, Nat.mod_lt _ (by decide)⟩)
    (fun w hw => ?_) (fun s hs => ?_) (fun w hw => Fin.ext ?_) (fun s hs => Fin.ext ?_) (fun w hw => rfl)
  · rw [Finset.mem_filter] at hw ⊢
    refine ⟨Finset.mem_univ _, ?_⟩
    show (r.val + w.val - 63) % 64 ≤ r.val
    omega
  · rw [Finset.mem_filter] at hs ⊢
    have h1 : s.val ≤ r.val := hs.2
    refine ⟨Finset.mem_univ _, ?_⟩
    show 63 ≤ r.val + (s.val + 63 - r.val) % 64
    omega
  · rw [Finset.mem_filter] at hw
    show ((r.val + w.val - 63) % 64 + 63 - r.val) % 64 = w.val
    omega
  · rw [Finset.mem_filter] at hs
    have h1 : s.val ≤ r.val := hs.2
    show (r.val + (s.val + 63 - r.val) % 64 - 63) % 64 = s.val
    omega

/-- The log decays added up, at an index. -/
theorem sums_at (l : FVec Ideal S16x4x64x64 .f32) (b : Fin 16) (h : Fin 4) (r d : Fin 64) :
    sums l (ix4 b h r d) = cum (fun s => l (ix4 b h s d)) r := by
  have e0 : (broadcastInDim S_ ![] bcast_S_S_ (constant (F := Ideal) S_ .f32 0x00000000#32)) (Shape.Idx.first h_S_) = (0 : EReal) := by
    pointwise
  unfold sums Host.reduceWindowAdd
  rw [e0, Ideal.hostReduceWindowAdd_def]
  unfold Ideal.hostReduceWindowAdd Host.reduceWindow
  dsimp only
  rw [fold_sum, zero_add]
  refine (Finset.sum_congr rfl fun m _ => (?_ : _ = (fun i : (⟨4, ![1, 1, 64, 1]⟩ : Shape).Idx =>
    if 63 ≤ r.val + (i 2).val then l (ix4 b h ⟨(r.val + (i 2).val - 63) % 64, Nat.mod_lt _ (by decide)⟩ d) else 0)
      ((Shape.rowMajor (⟨4, ![1, 1, 64, 1]⟩ : Shape)).symm m))).trans ?_
  · let i := (Shape.rowMajor (⟨4, ![1, 1, 64, 1]⟩ : Shape)).symm m
    have i0 : (i 0).val = 0 := Nat.lt_one_iff.mp (i 0).isLt
    have i1 : (i 1).val = 0 := Nat.lt_one_iff.mp (i 1).isLt
    have i2 : (i 2).val < 64 := (i 2).isLt
    have i3 : (i 3).val = 0 := Nat.lt_one_iff.mp (i 3).isLt
    by_cases hw : 63 ≤ r.val + (i 2).val
    · refine (dif_pos fun a => ?_).trans ((congrArg l (funext fun a => Fin.ext ?_)).trans (if_pos hw).symm)
      · fin_cases a
        · show 0 ≤ b.val * 1 + (i 0).val ∧ b.val * 1 + (i 0).val - 0 < 16
          omega
        · show 0 ≤ h.val * 1 + (i 1).val ∧ h.val * 1 + (i 1).val - 0 < 4
          omega
        · show 63 ≤ r.val * 1 + (i 2).val ∧ r.val * 1 + (i 2).val - 63 < 64
          omega
        · show 0 ≤ d.val * 1 + (i 3).val ∧ d.val * 1 + (i 3).val - 0 < 64
          omega
      · fin_cases a
        · show b.val * 1 + (i 0).val - 0 = b.val
          omega
        · show h.val * 1 + (i 1).val - 0 = h.val
          omega
        · show r.val * 1 + (i 2).val - 63 = (r.val + (i 2).val - 63) % 64
          omega
        · show d.val * 1 + (i 3).val - 0 = d.val
          omega
    · refine (dif_neg fun hin => ?_).trans (if_neg hw).symm
      have h3 : 63 ≤ r.val * 1 + (i 2).val := (hin 2).1
      omega
  refine (Equiv.sum_comp (Shape.rowMajor (⟨4, ![1, 1, 64, 1]⟩ : Shape)).symm (fun i : (⟨4, ![1, 1, 64, 1]⟩ : Shape).Idx =>
    if 63 ≤ r.val + (i 2).val then l (ix4 b h ⟨(r.val + (i 2).val - 63) % 64, Nat.mod_lt _ (by decide)⟩ d) else 0)).trans ?_
  rw [← Equiv.sum_comp positions]
  exact window_sum (fun s => l (ix4 b h s d)) r

/-- The sums at the chunk's last row, at an index. -/
theorem lastSum_at (C : FVec Ideal S16x4x64x64 .f32) (b : Fin 16) (h : Fin 4) (d : Fin 64) :
    shapeCast S16x4x64 (lastSum C) shapeCasts_S16x4x1x64_S16x4x64 (ix3 b h d) = C (ix4 b h 63 d) := by
  refine (shapeCast_apply _ _ _ (ix4 b h 0 d) ?_).trans ?_
  · rw [Shape.rowMajor_val_three, Shape.rowMajor_val_four]
    show ((b.val * 4 + h.val) * 1 + 0) * 64 + d.val = (b.val * 4 + h.val) * 64 + d.val
    omega
  · pointwise [lastSum]

/-- The next state at an index, over the sums. -/
theorem nextState_at (C k : FVec Ideal S16x4x64x64 .f32) (v S : FVec Ideal S16x4x64x128 .f32) (b : Fin 16) (h : Fin 4) (d : Fin 64) (e : Fin 128) :
    nextState C k v S (ix4 b h d e) = (Ideal.exp (C (ix4 b h 63 d)) * S (ix4 b h d e)
      + ∑ s : Fin 64, k (ix4 b h s d) * Ideal.exp (C (ix4 b h 63 d) - C (ix4 b h s d)) * v (ix4 b h s e) : EReal) := by
  rw [← lastSum_at C b h d]
  pointwise [nextState, lastSum]

/-- The causal mask at a cell. -/
theorem mask_at (r x : Fin 64) (a b : EReal) :
    Scalar.select (Scalar.select (IntOp.cmpi CmpIPredicate.sge (IntOp.addi (BitVec.ofNat 32 ↑r) 0#32) (BitVec.ofNat 32 ↑x)) 1#1 0#1) a b = if x ≤ r then a else b := by
  have h : Scalar.select (IntOp.cmpi CmpIPredicate.sge (IntOp.addi (BitVec.ofNat 32 ↑r) 0#32) (BitVec.ofNat 32 ↑x)) 1#1 0#1 = if x ≤ r then 1#1 else 0#1 := by
    revert r x; decide +kernel
  rw [h]; by_cases hx : x ≤ r <;> simp [hx, Scalar.select]

/-- The scaled queries at an index. -/
theorem queries_at (q C : FVec Ideal S16x4x64x64 .f32) (b : Fin 16) (h : Fin 4) (r d : Fin 64) :
    queries q C (ix4 b h r d) = (q (ix4 b h r d) * Ideal.ofBits .f32 0x3E000000#32 * Ideal.exp (C (ix4 b h r d)) : EReal) := by
  pointwise [queries]

/-- The scores at an index. -/
theorem scores_at (C q k : FVec Ideal S16x4x64x64 .f32) (b : Fin 16) (h : Fin 4) (r s : Fin 64) :
    scores C q k (ix4 b h r s) = (if s ≤ r then ∑ d : Fin 64, queries q C (ix4 b h r d) * (k (ix4 b h s d) * Ideal.exp (0 - C (ix4 b h s d))) else 0 : EReal) := by
  pointwise [scores]
  rw [mask_at]
  simp only [zero_sub]
  congr 1
  exact Ideal.ofBits_zero_f32

/-- The chunk's output at an index, over the scores. -/
theorem chunkOut_at (C q k : FVec Ideal S16x4x64x64 .f32) (v S : FVec Ideal S16x4x64x128 .f32) (b : Fin 16) (h : Fin 4) (r : Fin 64) (e : Fin 128) :
    chunkOut C q k v S (ix4 b h r e) = ((∑ s : Fin 64, scores C q k (ix4 b h r s) * v (ix4 b h s e)) + ∑ d : Fin 64, queries q C (ix4 b h r d) * S (ix4 b h d e) : EReal) := by
  pointwise [chunkOut]

end Cert.Decay.Ref
end
-- ==== Proof.GlaScan.lean ====
/-
  The gated attention's reference after its scan, and its result.

  Before trip `n` the carried state is the one after the first `n` chunks, and the stacked outputs
  of these chunks are in place. The rest of the reference divides each row of a head by its root
  mean square, and applies the gains and the gate.
-/
module

public import proofs.«01_k».proof.Proof.GlaReference

@[expose] public section

set_option maxRecDepth 16384

noncomputable section

namespace Cert.Decay.Ref
open Cert.GlaRefIdeal Cert.GlaRefIdeal.Gen Cert.GlaRefIdeal.Value Idealize.ShloMosaic Idealize.ShloMosaic.TcCoe Idealize.SL.Sem
open Idealize.ShloMosaic.StableHlo Idealize.ShloMosaic.Tactic

/-- The stacked queries. -/
def qs (X : Contents) : FVec Ideal S32x16x4x64x64 .f32 := X (Proc.devRef .tc main_v11_0)
/-- The stacked keys. -/
def ks (X : Contents) : FVec Ideal S32x16x4x64x64 .f32 := X (Proc.devRef .tc main_v11_1)
/-- The stacked log decays. -/
def ls (X : Contents) : FVec Ideal S32x16x4x64x64 .f32 := X (Proc.devRef .tc main_v11_2)
/-- The stacked values. -/
def vs (X : Contents) : FVec Ideal S32x16x4x64x128 .f32 := X (Proc.devRef .tc main_v11_3)
/-- The trip's number. -/
def num (X : Contents) : IVec S_ 32 := X (Proc.devRef .tc main_v11_4)
/-- The carried state. -/
def state (X : Contents) : FVec Ideal S16x4x64x128 .f32 := X (Proc.devRef .tc main_v11_5)
/-- The stacked outputs. -/
def outs (X : Contents) : FVec Ideal S32x16x4x64x128 .f32 := X (Proc.devRef .tc main_v11_6)

/-- What holds before trip `n`, of sequence `b`, whose columns are `Q`, `K`, `L` and `V`. -/
structure Before (X : Contents) (b : Fin 16) (Q K L V : Cols) (n : ℕ) : Prop where
  q : ∀ (i : Fin 32) (h : Fin 4) (s d : Fin 64), qs X (ix5 i b h s d) = Q (64 * h.val + d.val) i.val s
  k : ∀ (i : Fin 32) (h : Fin 4) (s d : Fin 64), ks X (ix5 i b h s d) = K (64 * h.val + d.val) i.val s
  l : ∀ (i : Fin 32) (h : Fin 4) (s d : Fin 64), ls X (ix5 i b h s d) = L (64 * h.val + d.val) i.val s
  v : ∀ (i : Fin 32) (h : Fin 4) (s : Fin 64) (e : Fin 128), vs X (ix5 i b h s e) = V (128 * h.val + e.val) i.val s
  num : num X = fun _ => BitVec.ofNat 32 n
  state : ∀ (h : Fin 4) (d : Fin 64) (e : Fin 128), state X (ix4 b h d e) =
    stateAt (L (64 * h.val + d.val)) (K (64 * h.val + d.val)) (V (128 * h.val + e.val)) n
  outs : ∀ (i : Fin 32) (h : Fin 4) (s : Fin 64) (e : Fin 128), i.val < n → outs X (ix5 i b h s e) = headAt Q K L V h.val i.val s e

/-- A trip keeps it. -/
theorem Before.trip {X : Contents} {b : Fin 16} {Q K L V : Cols} {n : ℕ} (hX : Before X b Q K L V n) (hn : n < 32) :
    Before (STEP X) b Q K L V (n + 1) where
  q i h s d := (congrFun (STEP_main_v11_0 X) _).trans (hX.q i h s d)
  k i h s d := (congrFun (STEP_main_v11_1 X) _).trans (hX.k i h s d)
  l i h s d := (congrFun (STEP_main_v11_2 X) _).trans (hX.l i h s d)
  v i h s e := (congrFun (STEP_main_v11_3 X) _).trans (hX.v i h s e)
  num := by
    refine (STEP_main_v11_4 X).trans (funext fun i => ?_)
    show Ref.num X i + 1#32 = BitVec.ofNat 32 (n + 1)
    rw [hX.num]
    exact (BitVec.ofNat_add n 1).symm
  state h d e := by
    refine (congrFun ((STEP_main_v11_5 X).trans (state_eq X)) _).trans ?_
    show nextState (sums (keyChunk (ls X) (Ref.num X))) (keyChunk (ks X) (Ref.num X)) (valChunk (vs X) (Ref.num X)) (Ref.state X) (ix4 b h d e) = _
    rw [nextState_at]
    simp only [sums_at, keyChunk_at _ ⟨n, hn⟩ _ hX.num, valChunk_at _ ⟨n, hn⟩ _ hX.num, hX.l, hX.k, hX.v, hX.state]
    rfl
  outs i h s e hi := by
    refine (congrFun ((STEP_main_v11_6 X).trans (outs_eq X)) _).trans ?_
    show put (Ref.outs X) (chunkOut (sums (keyChunk (ls X) (Ref.num X))) (keyChunk (qs X) (Ref.num X)) (keyChunk (ks X) (Ref.num X)) (valChunk (vs X) (Ref.num X))
      (Ref.state X)) (Ref.num X) (ix5 i b h s e) = _
    rw [put_at _ _ ⟨n, hn⟩ _ hX.num]
    by_cases hin : i = ⟨n, hn⟩
    · rw [if_pos hin, hin, chunkOut_at]
      simp only [scores_at, queries_at, sums_at, keyChunk_at _ ⟨n, hn⟩ _ hX.num, valChunk_at _ ⟨n, hn⟩ _ hX.num, hX.q, hX.l, hX.k, hX.v, hX.state]
      rfl
    · rw [if_neg hin]
      exact hX.outs i h s e (by have : i.val ≠ n := fun e => hin (Fin.ext e); omega)

/-- It holds before every trip and after the last, if it holds before the first. -/
theorem Before.iterate {X : Contents} {b : Fin 16} {Q K L V : Cols} (hX : Before X b Q K L V 0) : ∀ n : ℕ, n ≤ 32 → Before (STEP^[n] X) b Q K L V n
  | 0, _ => hX
  | n + 1, hn => by
    rw [Function.iterate_succ_apply']
    exact (hX.iterate n (by omega)).trip (by omega)

variable (m : (ℓ : Loc nD τ sig) → Buf (Elt Ideal) ℓ)

/-- An argument of 256 columns, its chunks stacked. -/
def stackKey (A : FVec Ideal S32768x256 .f32) : FVec Ideal S32x16x4x64x64 .f32 :=
  transpose S32x16x4x64x64 [1, 0, 3, 2, 4] (shapeCast S16x32x64x4x64 A shapeCasts_S32768x256_S16x32x64x4x64) transposes_S16x32x64x4x64_S32x16x4x64x64_1_0_3_2_4

/-- The values, their chunks stacked. -/
def stackVal (A : FVec Ideal S32768x512 .bf16) : FVec Ideal S32x16x4x64x128 .f32 :=
  transpose S32x16x4x64x128 [1, 0, 3, 2, 4] (shapeCast S16x32x64x4x128 (extf .f32 A bitsLt_bf16_f32) shapeCasts_S32768x512_S16x32x64x4x128) transposes_S16x32x64x4x128_S32x16x4x64x128_1_0_3_2_4

/-- A stacked argument at an index. -/
theorem stackKey_at (A : FVec Ideal S32768x256 .f32) (i : Fin 32) (b : Fin 16) (h : Fin 4) (s d : Fin 64) (R : Fin 32768) (j : Fin 256)
    (hR : R.val = 2048 * b.val + 64 * i.val + s.val) (hj : j.val = 64 * h.val + d.val) : stackKey A (ix5 i b h s d) = A (ix2 R j) := by
  unfold stackKey
  refine (transpose_apply _ _ _ _ (ix5 b i s h d) fun a => ?_).trans (shapeCast_apply _ _ _ _ ?_)
  · fin_cases a <;> rfl
  · rw [Shape.rowMajor_val_five, Shape.rowMajor_val_two]
    show R.val * 256 + j.val = (((b.val * 32 + i.val) * 64 + s.val) * 4 + h.val) * 64 + d.val
    omega

/-- The stacked values at an index. -/
theorem stackVal_at (A : FVec Ideal S32768x512 .bf16) (i : Fin 32) (b : Fin 16) (h : Fin 4) (s : Fin 64) (e : Fin 128) (R : Fin 32768) (j : Fin 512)
    (hR : R.val = 2048 * b.val + 64 * i.val + s.val) (hj : j.val = 128 * h.val + e.val) : stackVal A (ix5 i b h s e) = A (ix2 R j) := by
  unfold stackVal
  refine (transpose_apply _ _ _ _ (ix5 b i s h e) fun a => ?_).trans ((shapeCast_apply _ _ _ (ix2 R j) ?_).trans rfl)
  · fin_cases a <;> rfl
  · rw [Shape.rowMajor_val_five, Shape.rowMajor_val_two]
    show R.val * 512 + j.val = (((b.val * 32 + i.val) * 64 + s.val) * 4 + h.val) * 128 + e.val
    omega

/-- The stacked queries before the first trip. -/
theorem entry_q (c : Dev nD) : qs (entryContents preI m c) = stackKey (m ((c.tc : Thread nD τ).loc main_arg0)) := by
  unfold qs
  simp only [entryContents, afterL_cons, afterL_nil]
  after_reads_simp
  rfl
/-- The stacked keys before the first trip. -/
theorem entry_k (c : Dev nD) : ks (entryContents preI m c) = stackKey (m ((c.tc : Thread nD τ).loc main_arg1)) := by
  unfold ks
  simp only [entryContents, afterL_cons, afterL_nil]
  after_reads_simp
  rfl
/-- The stacked log decays before the first trip. -/
theorem entry_l (c : Dev nD) : ls (entryContents preI m c) = stackKey (m ((c.tc : Thread nD τ).loc main_arg2)) := by
  unfold ls
  simp only [entryContents, afterL_cons, afterL_nil]
  after_reads_simp
  rfl
/-- The stacked values before the first trip. -/
theorem entry_v (c : Dev nD) : vs (entryContents preI m c) = stackVal (m ((c.tc : Thread nD τ).loc main_arg3)) := by
  unfold vs
  simp only [entryContents, afterL_cons, afterL_nil]
  after_reads_simp
  rfl
/-- The state before the first trip is zero. -/
theorem entry_state (c : Dev nD) : state (entryContents preI m c) = broadcastInDim S16x4x64x128 ![] bcast_S_S16x4x64x128 (constant (F := Ideal) S_ .f32 0x00000000#32) := by
  unfold state
  simp only [entryContents, afterL_cons, afterL_nil]
  after_reads_simp
  rfl

/-- Before the first trip it holds with the arguments' columns. -/
theorem before_first (c : Dev nD) (b : Fin 16) : Before (entryContents preI m c) b
    (arrCols (m ((c.tc : Thread nD τ).loc main_arg0) : FVec Ideal S32768x256 .f32) b.val) (arrCols (m ((c.tc : Thread nD τ).loc main_arg1) : FVec Ideal S32768x256 .f32) b.val)
    (arrCols (m ((c.tc : Thread nD τ).loc main_arg2) : FVec Ideal S32768x256 .f32) b.val) (arrCols (m ((c.tc : Thread nD τ).loc main_arg3) : FVec Ideal S32768x512 .bf16) b.val) 0 where
  q i h s d := (congrFun (entry_q m c) _).trans (stackKey_at _ i b h s d _ _ (by simp only; omega) (by simp only; omega))
  k i h s d := (congrFun (entry_k m c) _).trans (stackKey_at _ i b h s d _ _ (by simp only; omega) (by simp only; omega))
  l i h s d := (congrFun (entry_l m c) _).trans (stackKey_at _ i b h s d _ _ (by simp only; omega) (by simp only; omega))
  v i h s e := (congrFun (entry_v m c) _).trans (stackVal_at _ i b h s e _ _ (by simp only; omega) (by simp only; omega))
  num := ctr_entry m c
  state h d e := (congrFun (entry_state m c) _).trans (by pointwise [stateAt])
  outs i h s e hi := absurd hi (Nat.not_lt_zero _)

/-- The outputs' rows divided by their root mean squares. -/
def normed (O : FVec Ideal S32x16x4x64x128 .f32) : FVec Ideal S32x16x4x64x128 .f32 :=
  mulf O (broadcastInDim S32x16x4x64x128 ![0, 1, 2, 3, 4] bcast_S32x16x4x64x1_S32x16x4x64x128_0_1_2_3_4 (Host.rsqrt (addf (Host.divf (broadcastInDim S32x16x4x64x1 ![0, 1, 2, 3] bcast_S32x16x4x64_S32x16x4x64x1_0_1_2_3 (Host.reduceAdd (mulf O O) (constant S_ .f32 0x00000000#32) reducesTo_S32x16x4x64x128_S32x16x4x64_d4 h_S_)) (broadcastInDim S32x16x4x64x1 ![] bcast_S_S32x16x4x64x1 (constant S_ .f32 0x43000000#32))) (broadcastInDim S32x16x4x64x1 ![] bcast_S_S32x16x4x64x1 (constant S_ .f32 0x358637BD#32)))))

/-- The heads' outputs side by side again. -/
def rows (N : FVec Ideal S32x16x4x64x128 .f32) : FVec Ideal S32768x512 .f32 :=
  shapeCast _ (transpose S16x32x64x4x128 [1, 0, 3, 2, 4] N transposes_S32x16x4x64x128_S16x32x64x4x128_1_0_3_2_4) shapeCasts_S16x32x64x4x128_S32768x512

/-- The gains and the gate. -/
def gate (N : FVec Ideal S32768x512 .f32) (W : FVec Ideal S512 .f32) (G : FVec Ideal S32768x512 .f32) : FVec Ideal S32768x512 .bf16 :=
  truncf .bf16 (mulf (mulf N (broadcastInDim S32768x512 ![0, 1] bcast_S1x512_S32768x512_0_1 (broadcastInDim S1x512 ![1] bcast_S512_S1x512_1 W))) (mulf G (Host.divf (broadcastInDim S32768x512 ![] bcast_S_S32768x512 (constant S_ .f32 0x3F800000#32)) (addf (broadcastInDim S32768x512 ![] bcast_S_S32768x512 (constant S_ .f32 0x3F800000#32)) (Host.exp (Host.negf G)))))) bitsLt_bf16_f32

/-- The result over the scan's outputs. -/
theorem result_eq (X : Contents) : out_main_v29 X = gate (rows (normed (outs X))) (X (Proc.devRef .tc main_arg5)) (X (Proc.devRef .tc main_arg4)) := by
  unfold out_main_v29 gate rows normed outs
  rfl

/-- A normed row at an index. -/
theorem normed_at (O : FVec Ideal S32x16x4x64x128 .f32) (i : Fin 32) (b : Fin 16) (h : Fin 4) (s : Fin 64) (e : Fin 128) :
    normed O (ix5 i b h s e) = (O (ix5 i b h s e) * Ideal.rsqrt (Ideal.div (∑ x : Fin 128, O (ix5 i b h s x) * O (ix5 i b h s x)) (Ideal.ofBits .f32 0x43000000#32)
      + Ideal.ofBits .f32 0x358637BD#32) : EReal) := by
  pointwise [normed]

/-- A row of the heads side by side at an index. -/
theorem rows_at (N : FVec Ideal S32x16x4x64x128 .f32) (i : Fin 32) (b : Fin 16) (h : Fin 4) (s : Fin 64) (e : Fin 128) (R : Fin 32768) (J : Fin 512)
    (hR : R.val = 2048 * b.val + 64 * i.val + s.val) (hJ : J.val = 128 * h.val + e.val) : rows N (ix2 R J) = N (ix5 i b h s e) := by
  unfold rows
  refine (shapeCast_apply _ _ _ (ix5 b i s h e) ?_).trans (transpose_apply _ _ _ _ _ fun a => ?_)
  · rw [Shape.rowMajor_val_five, Shape.rowMajor_val_two]
    show (((b.val * 32 + i.val) * 64 + s.val) * 4 + h.val) * 128 + e.val = R.val * 512 + J.val
    omega
  · fin_cases a <;> rfl

/-- The gains and the gate at an index. -/
theorem gate_at (N : FVec Ideal S32768x512 .f32) (W : FVec Ideal S512 .f32) (G : FVec Ideal S32768x512 .f32) (R : Fin 32768) (J : Fin 512) :
    gate N W G (ix2 R J) = (N (ix2 R J) * W (ix1 J) * (G (ix2 R J) * Ideal.div 1 (1 + Ideal.exp (-(G (ix2 R J) : EReal)))) : EReal) := by
  pointwise [gate]

/-- The reference's result at row `R` and column `J`, over the arguments. -/
theorem result_at (c : Dev nD) (R : Fin 32768) (J : Fin 512) :
    (out_main_v29 (STEP^[32] (entryContents preI m c)) : FVec Ideal S32768x512 .bf16) (ix2 R J) =
      arrOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) R J := by
  have hB := (before_first m c ⟨R.val / 2048, by omega⟩).iterate 32 le_rfl
  rw [result_eq, iter_main_arg4 m c 32, iter_main_arg5 m c 32]
  refine (gate_at _ _ _ R J).trans ?_
  rw [rows_at _ ⟨R.val % 2048 / 64, by omega⟩ ⟨R.val / 2048, by omega⟩ ⟨J.val / 128, by omega⟩ ⟨R.val % 64, by omega⟩ ⟨J.val % 128, by omega⟩ R J
    (by simp only; omega) (by simp only; omega), normed_at]
  have ho := fun e => hB.outs ⟨R.val % 2048 / 64, by omega⟩ ⟨J.val / 128, by omega⟩ ⟨R.val % 64, by omega⟩ e (show R.val % 2048 / 64 < 32 by omega)
  simp only [ho]
  rfl

end Cert.Decay.Ref
end
-- ==== Proof.GlaClaim.lean ====
module

public import proofs.«01_k».proof.Defs
public import proofs.«01_k».proof.Proof.GlaKernel
public import proofs.«01_k».proof.Proof.GlaScan
public import Idealize.ShloMosaic.Lib.Claim

@[expose] public section

set_option maxRecDepth 16384

noncomputable section

/- The claims about the gated linear attention. -/
namespace Cert.Decay

open Idealize.ShloMosaic Idealize.ShloMosaic.TcCoe Idealize.SL.Sem

/-- The reference runs and leaves its arguments; it has no semaphore. -/
theorem frameRef : Cert.quiescent_GlaRefIdeal (hGlaRefIdeal := Cert.GlaRefIdeal.Gen.facts) := fun m g _ =>
  (θ_run _ _ _).mono (fun r h => ⟨fun c => (h c).2, sem_eq_zero_of_no_sems (by decide) r.2⟩) (Cert.GlaRefIdeal.Value.run m g)

/-- The kernel and the reference end with equal results. -/
theorem algebraic : Cert.algebraic_GlaIdeal_GlaRefIdeal (hGlaIdeal := Cert.GlaIdeal.Gen.facts) (hGlaRefIdeal := Cert.GlaRefIdeal.Gen.facts) := by
  pair_intro
  · run_from Cert.GlaIdeal.Gen.run_main m g
  · refine (θ_run _ _ _).mono (fun r h c => ⟨(h c).1.trans ?_, (h c).2⟩) (Cert.GlaRefIdeal.Value.run m' g')
    refine Eq.trans ?_ (final m c).symm
    funext i
    obtain ⟨R, j, rfl⟩ : ∃ (R : Fin 32768) (j : Fin 512), i = ix2 R j := ⟨i 0, i 1, by funext a; match a with | ⟨0, _⟩ => rfl | ⟨1, _⟩ => rfl⟩
    obtain ⟨h0, h1, h2, h3, h4, h5⟩ := hagree c
    refine (Ref.result_at m' c R j).trans ?_
    rw [h0, h1, h2, h3, h4, h5]
    rfl

end Cert.Decay

end
-- ==== Proof.FinalClaim.lean ====
module

public import proofs.«01_k».proof.Defs
public import proofs.«01_k».proof.Proof.Gen.FinalIdeal.Value
public import proofs.«01_k».proof.Proof.Gen.FinalRefIdeal.Run
public import proofs.«01_k».proof.Proof.SguCell
public import Idealize.ShloMosaic.Lib.Pipeline.ValueKit
public import Idealize.ShloMosaic.Lib.Claim

@[expose] public section

set_option maxRecDepth 16384

noncomputable section

/- The layer's final norm: what the kernel leaves, what the reference computes, and the claims. -/
namespace Cert.LastNorm

open Idealize.ShloMosaic Idealize.ShloMosaic.TcCoe Idealize.SL.Sem
open Cert.Gating (hRow rms)

/-- The reference runs and leaves its arguments; it has no semaphore. -/
theorem frameRef : Cert.quiescent_FinalRefIdeal (hFinalRefIdeal := Cert.FinalRefIdeal.Gen.facts) := fun m g _ =>
  (θ_run _ _ _).mono (fun r h => ⟨fun c => (h c).2, sem_eq_zero_of_no_sems (by decide) r.2⟩) (Cert.FinalRefIdeal.Value.run m g)

section
open Cert.FinalRefIdeal Cert.FinalRefIdeal.Gen

/-- The reference's normalised rows. -/
def refNorm (A0 : FVec Ideal S32768x1024 .f32) (A1 : FVec Ideal S1024 .f32) : FVec Ideal S32768x1024 .f32 :=
  (mulf (mulf A0 (broadcastInDim S32768x1024 ![0, 1] bcast_S32768x1_S32768x1024_0_1 (Host.rsqrt (addf (Host.divf (broadcastInDim S32768x1 ![0] bcast_S32768_S32768x1_0 (Host.reduceAdd (mulf A0 A0) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 A1)))

/-- The reference's normalised rows at an index. -/
theorem refNorm_at (A0 : FVec Ideal S32768x1024 .f32) (A1 : FVec Ideal S1024 .f32) (R : Fin 32768) (k : Fin 1024) :
    refNorm A0 A1 (ix2 R k) = hRow (fun k => A0 (ix2 R k)) (fun k => A1 (ix1 k)) k := by
  pointwise [refNorm, hRow, rms]
end

section
open Cert.FinalIdeal Cert.FinalIdeal.Gen
open Idealize.ShloMosaic.Pipeline (Dat)

/-- What one grid point stores, at an index, over the blocks that it loads. -/
theorem pay_at (x0 : Vec Ideal S1024x1024 .f32) (x1 : Vec Ideal S1x1024 .f32) (r k : Fin 1024) :
    k0_pay1 (F := Ideal) x0 x1 (ix2 r k) = hRow (fun k => x0 (ix2 r k)) (fun k => x1 (ix2 0 k)) k := by
  pointwise [k0_pay1, hRow, rms]

variable (m : (ℓ : Loc nD τ sig) → Buf (Elt Ideal) ℓ)

/-- The block indices of the windows at each point: the rows' windows move with the point, the scale stays. -/
theorem idx : ∀ t : Fin cfg0.N, win0_0.index t = ![t.val, 0] ∧ win0_1.index t = ![0, 0] ∧ win0_2.index t = ![t.val, 0] ∧ t.val < 32 :=
  (by decide +kernel : ∀ t : Fin grid0.N, _)

/-- The stream's block at a point is the stream's rows that the point stands at. -/
theorem b0 (c : Dev nD) (t : Fin cfg0.N) (r k : Fin 1024) (R : Fin 32768) (hR : R.val = 1024 * t.val + r.val) :
    iblk m c 0 t (ix2 r k) = (m ((c : Thread nD τ).loc main_arg0) : FVec Ideal S32768x1024 .f32) (ix2 R k) := by
  blk_ext [iblk, V, idx t, hR]

/-- The scale's block at a point is the whole scale. -/
theorem b1 (c : Dev nD) (t : Fin cfg0.N) (k : Fin 1024) :
    iblk m c 1 t (ix2 0 k) = (m ((c : Thread nD τ).loc main_arg1) : FVec Ideal S1024 .f32) (ix1 k) := by
  blk_simp [iblk]
  entry_read
  pointwise
  blk_ext [idx t]

/-- The result's entry at row `R` and column `k`, over the arguments. -/
def at_ (A0 : FVec Ideal S32768x1024 .f32) (A1 : FVec Ideal S1024 .f32) (R : Fin 32768) (k : Fin 1024) : EReal :=
  hRow (fun k => A0 (ix2 R k)) (fun k => A1 (ix1 k)) k

/-- A point's output block against the arguments. -/
theorem point (c : Dev nD) (t : Fin cfg0.N) (r k : Fin 1024) (R : Fin 32768) (hR : R.val = 1024 * t.val + r.val) :
    (dats m 0 c).after 2 t (ix2 r k)
      = at_ (m ((c : Thread nD τ).loc main_arg0)) (m ((c : Thread nD τ).loc main_arg1)) R k := by
  rw [after0_2]
  frame_out
  rw [pay_at]
  unfold at_
  simp only [b0 m c t r _ R hR, b1 m c t]

/-- The result array after the run is the arguments' norm. -/
theorem final (c : Dev nD) : (dats m 0 c).arrAt 2 cfg0.N
    = fun i : S32768x1024.Idx => at_ (m ((c : Thread nD τ).loc main_arg0)) (m ((c : Thread nD τ).loc main_arg1)) (i 0) (i 1) := by
  refine (dats m 0 c).arrAt_eq_of_covers 2 _ (by decide +kernel) fun t _ y => ?_
  blk_simp
  idx_vars y
  refine (point m c t y0 y1 ((((cfg0.win 2).blk t).view.emb (ix2 y0 y1)) 0) ?_).trans ?_
  · blk_simp [idx t]
    omega
  · have e : y1 = ((((cfg0.win 2).blk t).view.emb (ix2 y0 y1)) 1 : Fin 1024) := Fin.ext (by blk_simp [idx t])
    exact congrArg _ e
end

/-- The kernel and the reference end with equal results. -/
theorem algebraic : Cert.algebraic_FinalIdeal_FinalRefIdeal (hFinalIdeal := Cert.FinalIdeal.Gen.facts) (hFinalRefIdeal := Cert.FinalRefIdeal.Gen.facts) := by
  pair_intro
  · run_from Cert.FinalIdeal.Gen.run_main m g
  · run_from Cert.FinalRefIdeal.Value.run m' g'
    refine Eq.trans ?_ (final m c).symm
    funext i
    obtain ⟨R, j, rfl⟩ : ∃ (R : Fin 32768) (j : Fin 1024), i = ix2 R j := ⟨i 0, i 1, by funext a; match a with | ⟨0, _⟩ => rfl | ⟨1, _⟩ => rfl⟩
    exact (refNorm_at _ _ R j).trans rfl

end Cert.LastNorm

end
-- ==== Proof.lean ====
/- The proof of everything the certificate claims. The frames of the kernels are read off their runs; those of the
   references, and the equalities of results, are proved in the modules imported below. -/
module

public import proofs.«01_k».proof.Defs
public import proofs.«01_k».proof.Proof.Gen.Sgu
public import proofs.«01_k».proof.Proof.Gen.Sgu.Skeleton
public import proofs.«01_k».proof.Proof.Gen.Sgu.Launch
public import proofs.«01_k».proof.Proof.Gen.Sgu.Points
public import proofs.«01_k».proof.Proof.Gen.Sgu.Frame
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.Stick
public import proofs.«01_k».proof.Proof.Gen.Stick.Skeleton
public import proofs.«01_k».proof.Proof.Gen.Stick.Loops
public import proofs.«01_k».proof.Proof.Gen.Stick.Launch
public import proofs.«01_k».proof.Proof.Gen.Stick.Points
public import proofs.«01_k».proof.Proof.Gen.Stick.Frame
public import proofs.«01_k».proof.Proof.Gen.StickIdeal
public import proofs.«01_k».proof.Proof.Gen.StickIdeal.Skeleton
public import proofs.«01_k».proof.Proof.Gen.StickIdeal.Loops
public import proofs.«01_k».proof.Proof.Gen.StickIdeal.Launch
public import proofs.«01_k».proof.Proof.Gen.StickIdeal.Points
public import proofs.«01_k».proof.Proof.Gen.StickIdeal.Frame
public import proofs.«01_k».proof.Proof.Gen.StickRefIdeal
public import proofs.«01_k».proof.Proof.Gen.AbIn
public import proofs.«01_k».proof.Proof.Gen.AbIn.Skeleton
public import proofs.«01_k».proof.Proof.Gen.AbIn.Launch
public import proofs.«01_k».proof.Proof.Gen.AbIn.Points
public import proofs.«01_k».proof.Proof.Gen.AbIn.Frame
public import proofs.«01_k».proof.Proof.Gen.AbInIdeal
public import proofs.«01_k».proof.Proof.Gen.AbInIdeal.Skeleton
public import proofs.«01_k».proof.Proof.Gen.AbInIdeal.Launch
public import proofs.«01_k».proof.Proof.Gen.AbInIdeal.Points
public import proofs.«01_k».proof.Proof.Gen.AbInIdeal.Frame
public import proofs.«01_k».proof.Proof.Gen.AbInIdeal.Value
public import proofs.«01_k».proof.Proof.Gen.AbInRefIdeal
public import proofs.«01_k».proof.Proof.Gen.AbInRefIdeal.Run
public import proofs.«01_k».proof.Proof.Gen.AbOut
public import proofs.«01_k».proof.Proof.Gen.AbOut.Skeleton
public import proofs.«01_k».proof.Proof.Gen.AbOut.Launch
public import proofs.«01_k».proof.Proof.Gen.AbOut.Points
public import proofs.«01_k».proof.Proof.Gen.AbOut.Frame
public import proofs.«01_k».proof.Proof.Gen.AbOutIdeal
public import proofs.«01_k».proof.Proof.Gen.AbOutIdeal.Skeleton
public import proofs.«01_k».proof.Proof.Gen.AbOutIdeal.Launch
public import proofs.«01_k».proof.Proof.Gen.AbOutIdeal.Points
public import proofs.«01_k».proof.Proof.Gen.AbOutIdeal.Frame
public import proofs.«01_k».proof.Proof.Gen.AbOutIdeal.Value
public import proofs.«01_k».proof.Proof.Gen.AbOutRefIdeal
public import proofs.«01_k».proof.Proof.Gen.AbOutRefIdeal.Run
public import proofs.«01_k».proof.Proof.Gen.SguIdeal.Value
public import proofs.«01_k».proof.Proof.Gen.SguRefIdeal.Run
public import proofs.«01_k».proof.Proof.Gen.StickIdeal.Value
public import proofs.«01_k».proof.Proof.Gen.StickRefIdeal.Run
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalRefIdeal
public import proofs.«01_k».proof.Proof.Gen.FinalRefIdeal.Run
public import proofs.«01_k».proof.Proof.Gen.Gla
public import proofs.«01_k».proof.Proof.Gen.Gla.Skeleton
public import proofs.«01_k».proof.Proof.Gen.Gla.Loops
public import proofs.«01_k».proof.Proof.Gen.Gla.Launch
public import proofs.«01_k».proof.Proof.Gen.Gla.Points
public import proofs.«01_k».proof.Proof.Gen.Gla.Frame
public import proofs.«01_k».proof.Proof.Gen.GlaIdeal
public import proofs.«01_k».proof.Proof.Gen.GlaIdeal.Skeleton
public import proofs.«01_k».proof.Proof.Gen.GlaIdeal.Loops
public import proofs.«01_k».proof.Proof.Gen.GlaIdeal.Launch
public import proofs.«01_k».proof.Proof.Gen.GlaIdeal.Points
public import proofs.«01_k».proof.Proof.Gen.GlaIdeal.Frame
public import proofs.«01_k».proof.Proof.Gen.GlaIdeal.Value
public import proofs.«01_k».proof.Proof.Gen.GlaRefIdeal
public import proofs.«01_k».proof.Proof.Gen.GlaRefIdeal.Run
public import proofs.«01_k».proof.Proof.SguClaim
public import proofs.«01_k».proof.Proof.StickClaim
public import proofs.«01_k».proof.Proof.AbInClaim
public import proofs.«01_k».proof.Proof.AbOutClaim
public import proofs.«01_k».proof.Proof.GlaClaim
public import proofs.«01_k».proof.Proof.FinalClaim
public import Idealize.ShloMosaic.Adequacy
public import Idealize.ShloMosaic.Init

@[expose] public section

noncomputable section

namespace Cert.Proof

open Idealize.ShloMosaic Idealize.SL.Sem

/-- Everything that is claimed. -/
theorem claim : Cert.Claim := ⟨Cert.Sgu.Gen.facts, Cert.SguIdeal.Gen.facts, Cert.SguRefIdeal.Gen.facts, Cert.Stick.Gen.facts, Cert.StickIdeal.Gen.facts, Cert.StickRefIdeal.Gen.facts, Cert.AbIn.Gen.facts, Cert.AbInIdeal.Gen.facts, Cert.AbInRefIdeal.Gen.facts, Cert.AbOut.Gen.facts, Cert.AbOutIdeal.Gen.facts, Cert.AbOutRefIdeal.Gen.facts, Cert.Final.Gen.facts, Cert.FinalIdeal.Gen.facts, Cert.FinalRefIdeal.Gen.facts,
  Cert.Gla.Gen.facts, Cert.GlaIdeal.Gen.facts, Cert.GlaRefIdeal.Gen.facts,
  Cert.Breaking.preFacts,
  fun m g _ => Cert.Sgu.Gen.frame m g, fun m g _ => Cert.SguIdeal.Gen.frame m g, Cert.Gating.frameRef,
  fun m g _ => Cert.Stick.Gen.frame m g, fun m g _ => Cert.StickIdeal.Gen.frame m g, fun m g _ => Cert.StickIdeal.Gen.frame m g,
  Cert.Breaking.frameRef, fun m g _ => Cert.Breaking.frameRef m g trivial,
  fun m g _ => Cert.AbIn.Gen.frame m g, fun m g _ => Cert.AbInIdeal.Gen.frame m g, Cert.InProj.frameRef,
  fun m g _ => Cert.AbOut.Gen.frame m g, fun m g _ => Cert.AbOutIdeal.Gen.frame m g, Cert.OutProj.frameRef,
  fun m g _ => Cert.Final.Gen.frame m g, fun m g _ => Cert.FinalIdeal.Gen.frame m g, Cert.LastNorm.frameRef,
  fun m g _ => Cert.Gla.Gen.frame m g, fun m g _ => Cert.GlaIdeal.Gen.frame m g, Cert.Decay.frameRef,
  trivial, Cert.Gating.algebraic, trivial, Cert.Breaking.algebraic, trivial, Cert.InProj.algebraic, trivial, Cert.OutProj.algebraic, trivial, Cert.LastNorm.algebraic,
  trivial, Cert.Decay.algebraic⟩

end Cert.Proof

end
